-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ReferenceResidualIdeal (m : (ℓ : Loc Cert.ReferenceResidualIdeal.nD Cert.ReferenceResidualIdeal.τ Cert.ReferenceResidualIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ReferenceResidualIdeal [hReferenceResidualIdeal : Cert.ReferenceResidualIdeal.Facts] : Prop :=
  ∀ (m : (ℓ : Loc Cert.ReferenceResidualIdeal.nD Cert.ReferenceResidualIdeal.τ Cert.ReferenceResidualIdeal.sig) → Buf (Elt Ideal) ℓ) (g : Dev Cert.ReferenceResidualIdeal.nD → PrngReg), Pre_ReferenceResidualIdeal m →
    θ_run (Cert.ReferenceResidualIdeal.defs (F := Ideal)) (onTc (τ := Cert.ReferenceResidualIdeal.τ) (Cert.ReferenceResidualIdeal.main (F := Ideal))) ⟨m, fun _ => 0, g⟩ (fun r => (∀ c : Dev Cert.ReferenceResidualIdeal.nD,
      r.2.mem ((c.tc : Thread Cert.ReferenceResidualIdeal.nD Cert.ReferenceResidualIdeal.τ).loc Cert.ReferenceResidualIdeal.main_arg0) = m ((c.tc : Thread Cert.ReferenceResidualIdeal.nD Cert.ReferenceResidualIdeal.τ).loc Cert.ReferenceResidualIdeal.main_arg0)
      ∧ r.2.mem ((c.tc : Thread Cert.ReferenceResidualIdeal.nD Cert.ReferenceResidualIdeal.τ).loc Cert.ReferenceResidualIdeal.main_arg1) = m ((c.tc : Thread Cert.ReferenceResidualIdeal.nD Cert.ReferenceResidualIdeal.τ).loc Cert.ReferenceResidualIdeal.main_arg1)
      ∧ r.2.mem ((c.tc : Thread Cert.ReferenceResidualIdeal.nD Cert.ReferenceResidualIdeal.τ).loc Cert.ReferenceResidualIdeal.main_arg2) = m ((c.tc : Thread Cert.ReferenceResidualIdeal.nD Cert.ReferenceResidualIdeal.τ).loc Cert.ReferenceResidualIdeal.main_arg2)
      ∧ r.2.mem ((c.tc : Thread Cert.ReferenceResidualIdeal.nD Cert.ReferenceResidualIdeal.τ).loc Cert.ReferenceResidualIdeal.main_arg3) = m ((c.tc : Thread Cert.ReferenceResidualIdeal.nD Cert.ReferenceResidualIdeal.τ).loc Cert.ReferenceResidualIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Residual_ResidualIdeal : Prop :=
  True

def algebraic_ResidualIdeal_ReferenceResidualIdeal [hResidualIdeal : Cert.ResidualIdeal.Facts] [hReferenceResidualIdeal : Cert.ReferenceResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ReferenceResidualIdeal.nD Cert.ReferenceResidualIdeal.τ Cert.ReferenceResidualIdeal.sig) → Buf (Elt Ideal) ℓ) (g' : Dev Cert.ReferenceResidualIdeal.nD → PrngReg), Pre_ResidualIdeal m →
    (∀ c : Dev Cert.ResidualIdeal.nD,
      m' ((c.tc : Thread Cert.ReferenceResidualIdeal.nD Cert.ReferenceResidualIdeal.τ).loc Cert.ReferenceResidualIdeal.main_arg0) = m ((c.tc : Thread Cert.ResidualIdeal.nD Cert.ResidualIdeal.τ).loc Cert.ResidualIdeal.main_arg0)
      ∧ m' ((c.tc : Thread Cert.ReferenceResidualIdeal.nD Cert.ReferenceResidualIdeal.τ).loc Cert.ReferenceResidualIdeal.main_arg1) = m ((c.tc : Thread Cert.ResidualIdeal.nD Cert.ResidualIdeal.τ).loc Cert.ResidualIdeal.main_arg1)
      ∧ m' ((c.tc : Thread Cert.ReferenceResidualIdeal.nD Cert.ReferenceResidualIdeal.τ).loc Cert.ReferenceResidualIdeal.main_arg2) = m ((c.tc : Thread Cert.ResidualIdeal.nD Cert.ResidualIdeal.τ).loc Cert.ResidualIdeal.main_arg2)
      ∧ m' ((c.tc : Thread Cert.ReferenceResidualIdeal.nD Cert.ReferenceResidualIdeal.τ).loc Cert.ReferenceResidualIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v2_0)) (v1 : (c : Dev Cert.ResidualIdeal.nD) → Buf (Elt Ideal) ((c.tc : Thread Cert.ResidualIdeal.nD Cert.ResidualIdeal.τ).loc Cert.ResidualIdeal.main_v2_1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v2_0) = v0 c
          ∧ r.2.mem ((c.tc : Thread Cert.ResidualIdeal.nD Cert.ResidualIdeal.τ).loc Cert.ResidualIdeal.main_v2_1) = v1 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ReferenceResidualIdeal.defs (F := Ideal)) (onTc (τ := Cert.ReferenceResidualIdeal.τ) (Cert.ReferenceResidualIdeal.main (F := Ideal))) ⟨m', fun _ => 0, g'⟩ (fun r => ∀ c : Dev Cert.ReferenceResidualIdeal.nD,
          r.2.mem ((c.tc : Thread Cert.ReferenceResidualIdeal.nD Cert.ReferenceResidualIdeal.τ).loc Cert.ReferenceResidualIdeal.main_v26) = v0 c
          ∧ r.2.mem ((c.tc : Thread Cert.ReferenceResidualIdeal.nD Cert.ReferenceResidualIdeal.τ).loc Cert.ReferenceResidualIdeal.main_v27) = v1 c
          ∧ r.2.mem ((c.tc : Thread Cert.ReferenceResidualIdeal.nD Cert.ReferenceResidualIdeal.τ).loc Cert.ReferenceResidualIdeal.main_arg0) = m' ((c.tc : Thread Cert.ReferenceResidualIdeal.nD Cert.ReferenceResidualIdeal.τ).loc Cert.ReferenceResidualIdeal.main_arg0)
          ∧ r.2.mem ((c.tc : Thread Cert.ReferenceResidualIdeal.nD Cert.ReferenceResidualIdeal.τ).loc Cert.ReferenceResidualIdeal.main_arg1) = m' ((c.tc : Thread Cert.ReferenceResidualIdeal.nD Cert.ReferenceResidualIdeal.τ).loc Cert.ReferenceResidualIdeal.main_arg1)
          ∧ r.2.mem ((c.tc : Thread Cert.ReferenceResidualIdeal.nD Cert.ReferenceResidualIdeal.τ).loc Cert.ReferenceResidualIdeal.main_arg2) = m' ((c.tc : Thread Cert.ReferenceResidualIdeal.nD Cert.ReferenceResidualIdeal.τ).loc Cert.ReferenceResidualIdeal.main_arg2)
          ∧ r.2.mem ((c.tc : Thread Cert.ReferenceResidualIdeal.nD Cert.ReferenceResidualIdeal.τ).loc Cert.ReferenceResidualIdeal.main_arg3) = m' ((c.tc : Thread Cert.ReferenceResidualIdeal.nD Cert.ReferenceResidualIdeal.τ).loc Cert.ReferenceResidualIdeal.main_arg3))

def preserves_Ffn_FfnIdeal : Prop :=
  True

def algebraic_FfnIdeal_ReferenceFfnIdeal [hFfnIdeal : Cert.FfnIdeal.Facts] [hReferenceFfnIdeal : Cert.ReferenceFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_FfnIdeal m →
    (∀ c : Dev Cert.FfnIdeal.nD,
      m' ((c.tc : Thread Cert.ReferenceFfnIdeal.nD Cert.ReferenceFfnIdeal.τ).loc Cert.ReferenceFfnIdeal.main_arg0) = m ((c.tc : Thread Cert.FfnIdeal.nD Cert.FfnIdeal.τ).loc Cert.FfnIdeal.main_arg0)
      ∧ m' ((c.tc : Thread Cert.ReferenceFfnIdeal.nD Cert.ReferenceFfnIdeal.τ).loc Cert.ReferenceFfnIdeal.main_arg1) = m ((c.tc : Thread Cert.FfnIdeal.nD Cert.FfnIdeal.τ).loc Cert.FfnIdeal.main_arg1)
      ∧ m' ((c.tc : Thread Cert.ReferenceFfnIdeal.nD Cert.ReferenceFfnIdeal.τ).loc Cert.ReferenceFfnIdeal.main_arg2) = m ((c.tc : Thread Cert.FfnIdeal.nD Cert.FfnIdeal.τ).loc Cert.FfnIdeal.main_arg2)
      ∧ m' ((c.tc : Thread Cert.ReferenceFfnIdeal.nD Cert.ReferenceFfnIdeal.τ).loc Cert.ReferenceFfnIdeal.main_arg3) = m ((c.tc : Thread Cert.FfnIdeal.nD Cert.FfnIdeal.τ).loc Cert.FfnIdeal.main_arg3)
      ∧ m' ((c.tc : Thread Cert.ReferenceFfnIdeal.nD Cert.ReferenceFfnIdeal.τ).loc Cert.ReferenceFfnIdeal.main_arg4) = m ((c.tc : Thread Cert.FfnIdeal.nD Cert.FfnIdeal.τ).loc Cert.FfnIdeal.main_arg4)
      ∧ m' ((c.tc : Thread Cert.ReferenceFfnIdeal.nD Cert.ReferenceFfnIdeal.τ).loc Cert.ReferenceFfnIdeal.main_arg5) = m ((c.tc : Thread Cert.FfnIdeal.nD Cert.FfnIdeal.τ).loc Cert.FfnIdeal.main_arg5)
      ∧ m' ((c.tc : Thread Cert.ReferenceFfnIdeal.nD Cert.ReferenceFfnIdeal.τ).loc Cert.ReferenceFfnIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v35) = v0 c
          ∧ r.2.mem ((c.tc : Thread Cert.ReferenceFfnIdeal.nD Cert.ReferenceFfnIdeal.τ).loc Cert.ReferenceFfnIdeal.main_v36) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def Claim : Prop :=
  ∃ (hKernel : Cert.Kernel.Facts) (hKernelIdeal : Cert.KernelIdeal.Facts) (hReferenceIdeal : Cert.ReferenceIdeal.Facts) (hResidual : Cert.Residual.Facts) (hResidualIdeal : Cert.ResidualIdeal.Facts) (hReferenceResidualIdeal : Cert.ReferenceResidualIdeal.Facts) (hFfn : Cert.Ffn.Facts) (hFfnIdeal : Cert.FfnIdeal.Facts) (hReferenceFfnIdeal : Cert.ReferenceFfnIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Residual (hResidual := hResidual)
    ∧ quiescent_ResidualIdeal (hResidualIdeal := hResidualIdeal)
    ∧ quiescent_ReferenceResidualIdeal (hReferenceResidualIdeal := hReferenceResidualIdeal)
    ∧ quiescent_Ffn (hFfn := hFfn)
    ∧ quiescent_FfnIdeal (hFfnIdeal := hFfnIdeal)
    ∧ quiescent_ReferenceFfnIdeal (hReferenceFfnIdeal := hReferenceFfnIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_Residual_ResidualIdeal
    ∧ algebraic_ResidualIdeal_ReferenceResidualIdeal (hResidualIdeal := hResidualIdeal) (hReferenceResidualIdeal := hReferenceResidualIdeal)
    ∧ preserves_Ffn_FfnIdeal
    ∧ algebraic_FfnIdeal_ReferenceFfnIdeal (hFfnIdeal := hFfnIdeal) (hReferenceFfnIdeal := hReferenceFfnIdeal)
-- ==== Pre_tame.lean ====
abbrev S32768x1024 : Shape := ⟨2, ![32768, 1024]⟩
abbrev S32768x128 : Shape := ⟨2, ![32768, 128]⟩
abbrev S8x1024x3584 : Shape := ⟨3, ![8, 1024, 3584]⟩
abbrev S8x3584x1024 : Shape := ⟨3, ![8, 3584, 1024]⟩
abbrev S_ : Shape := ⟨0, ![]⟩
abbrev S32768x8 : Shape := ⟨2, ![32768, 8]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S32768x128_S32768x8_0_0 : S32768x128.Slices ![0, 0] S32768x8
  bcast_S_S32768x8 : S_.BroadcastsInDim S32768x8 (![] : Fin 0 → Fin S32768x8.rank)
  reducesTo_S32768x8_S_d0_1 : S32768x8.ReducesTo [0, 1] S_
  bcast_S_S8x1024x3584 : S_.BroadcastsInDim S8x1024x3584 (![] : Fin 0 → Fin S8x1024x3584.rank)
  reducesTo_S8x1024x3584_S_d0_1_2 : S8x1024x3584.ReducesTo [0, 1, 2] S_
  bcast_S_S8x3584x1024 : S_.BroadcastsInDim S8x3584x1024 (![] : Fin 0 → Fin S8x3584x1024.rank)
  reducesTo_S8x3584x1024_S_d0_1_2 : S8x3584x1024.ReducesTo [0, 1, 2] S_

variable [Facts]

def fn_part1 {F : FTy → Type} [FloatOps F] (main_arg4 : FVec F S8x3584x1024 .bf16) (main_v15 : IVec S_ 1) (main_v17 : FVec F S8x1024x3584 .f32) : IVec S_ 1 :=
  let main_cst_4 : FVec F S_ .f32 := constant S_ .f32 0x7F800000#32
  let main_v18 : FVec F S8x1024x3584 .f32 := broadcastInDim S8x1024x3584 ![] bcast_S_S8x1024x3584 main_cst_4
  let main_v19 : IVec S8x1024x3584 1 := cmpf .olt main_v17 main_v18
  let main_c_5 : IVec S_ 1 := constantI S_ 1 1#1
  let main_v20 : IVec S_ 1 := (fun x v => Host.reduce IntOp.andi x v reducesTo_S8x1024x3584_S_d0_1_2 h_S_) main_v19 main_c_5
  let main_v21 : IVec S_ 1 := andi main_v15 main_v20
  let main_v22 : FVec F S8x3584x1024 .f32 := (extf .f32 · bitsLt_bf16_f32) main_arg4
  let main_v23 : FVec F S8x3584x1024 .f32 := Host.absf main_v22
  let main_cst_6 : FVec F S_ .f32 := constant S_ .f32 0x7F800000#32
  let main_v24 : FVec F S8x3584x1024 .f32 := broadcastInDim S8x3584x1024 ![] bcast_S_S8x3584x1024 main_cst_6
  let main_v25 : IVec S8x3584x1024 1 := cmpf .olt main_v23 main_v24
  let main_c_7 : IVec S_ 1 := constantI S_ 1 1#1
  let main_v26 : IVec S_ 1 := (fun x v => Host.reduce IntOp.andi x v reducesTo_S8x3584x1024_S_d0_1_2 h_S_) main_v25 main_c_7
  let main_v27 : IVec S_ 1 := andi main_v21 main_v26
  main_v27

def fn {F : FTy → Type} [FloatOps F] (main_arg0 : FVec F S32768x1024 .bf16) (main_arg1 : FVec F S32768x128 .f32) (main_arg2 : FVec F S8x1024x3584 .bf16) (main_arg3 : FVec F S8x1024x3584 .bf16) (main_arg4 : FVec F S8x3584x1024 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x8 .f32 := (extractStridedSlice S32768x8 ![0, 0] · slices_S32768x128_S32768x8_0_0) main_arg1
  let main_cst_0 : FVec F S_ .f32 := constant S_ .f32 0x00000000#32
  let main_v6 : FVec F S32768x8 .f32 := broadcastInDim S32768x8 ![] bcast_S_S32768x8 main_cst_0
  let main_v7 : IVec S32768x8 1 := cmpf .oge main_v5 main_v6
  let main_c_1 : IVec S_ 1 := constantI S_ 1 1#1
  let main_v8 : IVec S_ 1 := (fun x v => Host.reduce IntOp.andi x v reducesTo_S32768x8_S_d0_1 h_S_) main_v7 main_c_1
  let main_v9 : IVec S_ 1 := andi main_v4 main_v8
  let main_v10 : FVec F S8x1024x3584 .f32 := (extf .f32 · bitsLt_bf16_f32) main_arg2
  let main_v11 : FVec F S8x1024x3584 .f32 := Host.absf main_v10
  let main_cst_2 : FVec F S_ .f32 := constant S_ .f32 0x7F800000#32
  let main_v12 : FVec F S8x1024x3584 .f32 := broadcastInDim S8x1024x3584 ![] bcast_S_S8x1024x3584 main_cst_2
  let main_v13 : IVec S8x1024x3584 1 := cmpf .olt main_v11 main_v12
  let main_c_3 : IVec S_ 1 := constantI S_ 1 1#1
  let main_v14 : IVec S_ 1 := (fun x v => Host.reduce IntOp.andi x v reducesTo_S8x1024x3584_S_d0_1_2 h_S_) main_v13 main_c_3
  let main_v15 : IVec S_ 1 := andi main_v9 main_v14
  let main_v16 : FVec F S8x1024x3584 .f32 := (extf .f32 · bitsLt_bf16_f32) main_arg3
  let main_v17 : FVec F S8x1024x3584 .f32 := Host.absf main_v16
  fn_part1 (F := F) main_arg4 main_v15 main_v17
-- ==== Kernel.lean ====
abbrev S32768x1024 : Shape := ⟨2, ![32768, 1024]⟩
abbrev S32768x128 : Shape := ⟨2, ![32768, 128]⟩
abbrev S8x1024x3584 : Shape := ⟨3, ![8, 1024, 3584]⟩
abbrev S8x3584x1024 : Shape := ⟨3, ![8, 3584, 1024]⟩
abbrev S896x896 : Shape := ⟨2, ![896, 896]⟩
abbrev S_ : Shape := ⟨0, ![]⟩
abbrev S896x1024 : Shape := ⟨2, ![896, 1024]⟩
abbrev S896x128 : Shape := ⟨2, ![896, 128]⟩
abbrev S1x1024x1792 : Shape := ⟨3, ![1, 1024, 1792]⟩
abbrev S1x1792x1024 : Shape := ⟨3, ![1, 1792, 1024]⟩
abbrev S1024x1024 : Shape := ⟨2, ![1024, 1024]⟩
abbrev S128x896 : Shape := ⟨2, ![128, 896]⟩
abbrev S8 : Shape := ⟨1, ![8]⟩
abbrev S896x1 : Shape := ⟨2, ![896, 1]⟩
abbrev S128 : Shape := ⟨1, ![128]⟩
abbrev S1x128 : Shape := ⟨2, ![1, 128]⟩
abbrev S1x1 : Shape := ⟨2, ![1, 1]⟩
abbrev S1 : Shape := ⟨1, ![1]⟩
abbrev S8x896 : Shape := ⟨2, ![8, 896]⟩
abbrev S896 : Shape := ⟨1, ![896]⟩
abbrev S1x896 : Shape := ⟨2, ![1, 896]⟩
abbrev S256x1024 : Shape := ⟨2, ![256, 1024]⟩
abbrev S256x896 : Shape := ⟨2, ![256, 896]⟩
abbrev S128x1024 : Shape := ⟨2, ![128, 1024]⟩
abbrev S1024x1792 : Shape := ⟨2, ![1024, 1792]⟩
abbrev S256x1792 : Shape := ⟨2, ![256, 1792]⟩
abbrev S1792x1024 : Shape := ⟨2, ![1792, 1024]⟩
abbrev S128x1792 : Shape := ⟨2, ![128, 1792]⟩
abbrev S896x256 : Shape := ⟨2, ![896, 256]⟩

abbrev nBuf : Space → Nat
  | .hbm => 15
  | .vmem => 17
  | .smem => 1
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S8x1024x3584, .bf16⟩
  | .hbm, ⟨3, _⟩ => ⟨S8x1024x3584, .bf16⟩
  | .hbm, ⟨4, _⟩ => ⟨S8x3584x1024, .bf16⟩
  | .hbm, ⟨5, _⟩ => ⟨S896x896, .i32⟩
  | .hbm, ⟨6, _⟩ => ⟨S896x896, .i32⟩
  | .hbm, ⟨7, _⟩ => ⟨S896x896, .i1⟩
  | .hbm, ⟨8, _⟩ => ⟨S_, .f32⟩
  | .hbm, ⟨9, _⟩ => ⟨S_, .f32⟩
  | .hbm, ⟨10, _⟩ => ⟨S896x896, .f32⟩
  | .hbm, ⟨11, _⟩ => ⟨S896x896, .f32⟩
  | .hbm, ⟨12, _⟩ => ⟨S896x896, .f32⟩
  | .hbm, ⟨13, _⟩ => ⟨S896x896, .bf16⟩
  | .hbm, ⟨14, _⟩ => ⟨S32768x1024, .f32⟩
  | .local _ .vmem, ⟨0, _⟩ => ⟨S896x1024, .bf16⟩
  | .local _ .vmem, ⟨1, _⟩ => ⟨S896x1024, .bf16⟩
  | .local _ .vmem, ⟨2, _⟩ => ⟨S896x128, .f32⟩
  | .local _ .vmem, ⟨3, _⟩ => ⟨S896x128, .f32⟩
  | .local _ .vmem, ⟨4, _⟩ => ⟨S896x896, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1024x1792, .bf16⟩
  | .local _ .vmem, ⟨8, _⟩ => ⟨S1x1024x1792, .bf16⟩
  | .local _ .vmem, ⟨9, _⟩ => ⟨S1x1792x1024, .bf16⟩
  | .local _ .vmem, ⟨10, _⟩ => ⟨S1x1792x1024, .bf16⟩
  | .local _ .vmem, ⟨11, _⟩ => ⟨S896x1024, .f32⟩
  | .local _ .vmem, ⟨12, _⟩ => ⟨S896x1024, .f32⟩
  | .local _ .vmem, ⟨13, _⟩ => ⟨S1024x1024, .bf16⟩
  | .local _ .vmem, ⟨14, _⟩ => ⟨S1024x1024, .f32⟩
  | .local _ .vmem, ⟨15, _⟩ => ⟨S896x128, .f32⟩
  | .local _ .vmem, ⟨16, _⟩ => ⟨S128x896, .f32⟩
  | .local _ .smem, ⟨0, _⟩ => ⟨S8, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![37, 8, 2], ![false, false, false]⟩

def k0_off1 (i : grid0.Coords) : Fin 1 → Nat :=
  let arg1 : BitVec 32 := BitVec.ofNat 32 (i 1).val
  let v11 : Index := Scalar.indexCast arg1
  ![v11.toNat]
def k0_cond2 (i : grid0.Coords) : BitVec 1 :=
  let arg2 : BitVec 32 := BitVec.ofNat 32 (i 2).val
  let c0_i32_7 : BitVec 32 := 0#32
  let v33 : BitVec 1 := Scalar.cmpi .eq arg2 c0_i32_7
  let v34 : BitVec 32 := Scalar.extui v33
  let c0_i32_8 : BitVec 32 := 0#32
  let v35 : BitVec 1 := Scalar.cmpi .ne v34 c0_i32_8
  v35

@[reducible] def k0_t1_loop (v12 : BitVec 32) : Scf.Loop 32 :=
  let c0_i32_25 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let v66 : BitVec 32 := Scalar.subi v32 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_27 : BitVec 32 := 1#32
  ⟨c0_i32_25, v70, c1_i32_27⟩
def k0_cond4 (v12 : BitVec 32) : BitVec 1 :=
  let c256_i32 : BitVec 32 := 256#32
  let v13 : BitVec 1 := Scalar.cmpi .sle v12 c256_i32
  let true_19 : BitVec 1 := 1#1
  let v59 : BitVec 1 := Scalar.xori v13 true_19
  let v60 : BitVec 32 := Scalar.extui v59
  let c0_i32_20 : BitVec 32 := 0#32
  let v61 : BitVec 1 := Scalar.cmpi .ne v60 c0_i32_20
  v61

def k0_mult1 (v12 : BitVec 32) (k0_t1 : Fin (k0_t1_loop v12).trips) : BitVec 32 :=
  let c0_i32_25 : BitVec 32 := 0#32
  let c1_i32_27 : BitVec 32 := 1#32
  let arg15 : BitVec 32 := Scf.iv c0_i32_25 c1_i32_27 k0_t1
  let c128_i32_29 : BitVec 32 := 128#32
  let v71 : BitVec 32 := Scalar.muli arg15 c128_i32_29
  v71
def k0_off2 (v12 : BitVec 32) (k0_t1 : Fin (k0_t1_loop v12).trips) : Fin 2 → Nat :=
  let c0_i32_25 : BitVec 32 := 0#32
  let c1_i32_27 : BitVec 32 := 1#32
  let arg15 : BitVec 32 := Scf.iv c0_i32_25 c1_i32_27 k0_t1
  let c128_i32_29 : BitVec 32 := 128#32
  let v71 : BitVec 32 := Scalar.muli arg15 c128_i32_29
  let v72 : BitVec 32 := v71
  let v86 : Index := Scalar.indexCast v72
  let c0_33 : Index := 0#32
  ![v86.toNat, 0]
@[reducible] def k0_t2_loop (v12 : BitVec 32) : Scf.Loop 32 :=
  let c0_i32_25 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let v66 : BitVec 32 := Scalar.subi v32 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let v67 : BitVec 32 := Scalar.addi c0_i32_25 v66
  let c1_i32_28 : BitVec 32 := 1#32
  ⟨v70, v67, c1_i32_28⟩
def k0_mult2 (v12 : BitVec 32) (k0_t2 : Fin (k0_t2_loop v12).trips) : BitVec 32 :=
  let c0_i32_25 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let v66 : BitVec 32 := Scalar.subi v32 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_28 : BitVec 32 := 1#32
  let arg15 : BitVec 32 := Scf.iv v70 c1_i32_28 k0_t2
  let c128_i32_29 : BitVec 32 := 128#32
  let v71 : BitVec 32 := Scalar.muli arg15 c128_i32_29
  v71
def k0_off3 (v12 : BitVec 32) (k0_t2 : Fin (k0_t2_loop v12).trips) : Fin 2 → Nat :=
  let c0_i32_25 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let v66 : BitVec 32 := Scalar.subi v32 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_28 : BitVec 32 := 1#32
  let arg15 : BitVec 32 := Scf.iv v70 c1_i32_28 k0_t2
  let c128_i32_29 : BitVec 32 := 128#32
  let v71 : BitVec 32 := Scalar.muli arg15 c128_i32_29
  let v72 : BitVec 32 := v71
  let v86 : Index := Scalar.indexCast v72
  let c0_33 : Index := 0#32
  ![v86.toNat, 0]
@[reducible] def k0_t3_loop (v12 : BitVec 32) : Scf.Loop 32 :=
  let c0_i32_14 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let v44 : BitVec 32 := Scalar.subi v32 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_16 : BitVec 32 := 1#32
  ⟨c0_i32_14, v48, c1_i32_16⟩
def k0_cond6 (v12 : BitVec 32) : BitVec 1 :=
  let c256_i32 : BitVec 32 := 256#32
  let v13 : BitVec 1 := Scalar.cmpi .sle v12 c256_i32
  let v_true : BitVec 1 := 1#1
  let v38 : BitVec 1 := Scalar.xori v13 v_true
  let v39 : BitVec 32 := Scalar.extui v38
  let c0_i32_10 : BitVec 32 := 0#32
  let v40 : BitVec 1 := Scalar.cmpi .ne v39 c0_i32_10
  v40

def k0_mult3 (v12 : BitVec 32) (k0_t3 : Fin (k0_t3_loop v12).trips) : BitVec 32 :=
  let c0_i32_14 : BitVec 32 := 0#32
  let c1_i32_16 : BitVec 32 := 1#32
  let arg15 : BitVec 32 := Scf.iv c0_i32_14 c1_i32_16 k0_t3
  let c128_i32_18 : BitVec 32 := 128#32
  let v49 : BitVec 32 := Scalar.muli arg15 c128_i32_18
  v49
def k0_off4 (v12 : BitVec 32) (k0_t3 : Fin (k0_t3_loop v12).trips) : Fin 2 → Nat :=
  let c0_i32_14 : BitVec 32 := 0#32
  let c1_i32_16 : BitVec 32 := 1#32
  let arg15 : BitVec 32 := Scf.iv c0_i32_14 c1_i32_16 k0_t3
  let c128_i32_18 : BitVec 32 := 128#32
  let v49 : BitVec 32 := Scalar.muli arg15 c128_i32_18
  let v50 : BitVec 32 := v49
  let v51 : Index := Scalar.indexCast v50
  let c0 : Index := 0#32
  ![v51.toNat, 0]
@[reducible] def k0_t4_loop (v12 : BitVec 32) : Scf.Loop 32 :=
  let c0_i32_14 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let v44 : BitVec 32 := Scalar.subi v32 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let v45 : BitVec 32 := Scalar.addi c0_i32_14 v44
  let c1_i32_17 : BitVec 32 := 1#32
  ⟨v48, v45, c1_i32_17⟩
def k0_mult4 (v12 : BitVec 32) (k0_t4 : Fin (k0_t4_loop v12).trips) : BitVec 32 :=
  let c0_i32_14 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let v44 : BitVec 32 := Scalar.subi v32 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_17 : BitVec 32 := 1#32
  let arg15 : BitVec 32 := Scf.iv v48 c1_i32_17 k0_t4
  let c128_i32_18 : BitVec 32 := 128#32
  let v49 : BitVec 32 := Scalar.muli arg15 c128_i32_18
  v49
def k0_off5 (v12 : BitVec 32) (k0_t4 : Fin (k0_t4_loop v12).trips) : Fin 2 → Nat :=
  let c0_i32_14 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let v44 : BitVec 32 := Scalar.subi v32 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_17 : BitVec 32 := 1#32
  let arg15 : BitVec 32 := Scf.iv v48 c1_i32_17 k0_t4
  let c128_i32_18 : BitVec 32 := 128#32
  let v49 : BitVec 32 := Scalar.muli arg15 c128_i32_18
  let v50 : BitVec 32 := v49
  let v51 : Index := Scalar.indexCast v50
  let c0 : Index := 0#32
  ![v51.toNat, 0]
def k0_cond7 (i : grid0.Coords) : BitVec 1 :=
  let arg2 : BitVec 32 := BitVec.ofNat 32 (i 2).val
  let c1_i32_11 : BitVec 32 := 1#32
  let v41 : BitVec 1 := Scalar.cmpi .eq arg2 c1_i32_11
  let v42 : BitVec 32 := Scalar.extui v41
  let c0_i32_12 : BitVec 32 := 0#32
  let v43 : BitVec 1 := Scalar.cmpi .ne v42 c0_i32_12
  v43

@[reducible] def k0_t5_loop (v12 : BitVec 32) : Scf.Loop 32 :=
  let c0_i32_28 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let c1_i32_19 : BitVec 32 := 1#32
  let v61 : BitVec 32 := Scalar.addi v32 c1_i32_19
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32_20 : BitVec 32 := 2#32
  let c0_i32_23 : BitVec 32 := 0#32
  let v68 : BitVec 1 := Scalar.cmpi .sgt c2_i32_20 c0_i32_23
  let v69 : BitVec 32 := Scalar.extui v68
  let c0_i32_24 : BitVec 32 := 0#32
  let v70 : BitVec 1 := Scalar.cmpi .slt c2_i32_20 c0_i32_24
  let v71 : BitVec 32 := Scalar.extui v70
  let v72 : BitVec 32 := Scalar.subi v69 v71
  let v73 : BitVec 1 := Scalar.cmpi .ne v67 v72
  let v74 : BitVec 32 := Scalar.remsi v61 c2_i32_20
  let c0_i32_25 : BitVec 32 := 0#32
  let v75 : BitVec 1 := Scalar.cmpi .ne v74 c0_i32_25
  let v76 : BitVec 1 := Scalar.andi v73 v75
  let v62 : BitVec 32 := Scalar.divsi v61 c2_i32_20
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_30 : BitVec 32 := 1#32
  ⟨c0_i32_28, v83, c1_i32_30⟩
def k0_mult5 (v12 : BitVec 32) (k0_t5 : Fin (k0_t5_loop v12).trips) : BitVec 32 :=
  let c0_i32_28 : BitVec 32 := 0#32
  let c1_i32_30 : BitVec 32 := 1#32
  let arg15 : BitVec 32 := Scf.iv c0_i32_28 c1_i32_30 k0_t5
  let c256_i32_32 : BitVec 32 := 256#32
  let v84 : BitVec 32 := Scalar.muli arg15 c256_i32_32
  v84
def k0_off6 (v12 : BitVec 32) (k0_t5 : Fin (k0_t5_loop v12).trips) : Fin 2 → Nat :=
  let c0_i32_28 : BitVec 32 := 0#32
  let c1_i32_30 : BitVec 32 := 1#32
  let arg15 : BitVec 32 := Scf.iv c0_i32_28 c1_i32_30 k0_t5
  let c256_i32_32 : BitVec 32 := 256#32
  let v84 : BitVec 32 := Scalar.muli arg15 c256_i32_32
  let v85 : BitVec 32 := v84
  let v95 : Index := Scalar.indexCast v85
  let c0_35 : Index := 0#32
  ![v95.toNat, 0]
@[reducible] def k0_t6_loop (v12 : BitVec 32) : Scf.Loop 32 :=
  let c0_i32_28 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let c1_i32_19 : BitVec 32 := 1#32
  let v61 : BitVec 32 := Scalar.addi v32 c1_i32_19
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32_20 : BitVec 32 := 2#32
  let c0_i32_23 : BitVec 32 := 0#32
  let v68 : BitVec 1 := Scalar.cmpi .sgt c2_i32_20 c0_i32_23
  let v69 : BitVec 32 := Scalar.extui v68
  let c0_i32_24 : BitVec 32 := 0#32
  let v70 : BitVec 1 := Scalar.cmpi .slt c2_i32_20 c0_i32_24
  let v71 : BitVec 32 := Scalar.extui v70
  let v72 : BitVec 32 := Scalar.subi v69 v71
  let v73 : BitVec 1 := Scalar.cmpi .ne v67 v72
  let v74 : BitVec 32 := Scalar.remsi v61 c2_i32_20
  let c0_i32_25 : BitVec 32 := 0#32
  let v75 : BitVec 1 := Scalar.cmpi .ne v74 c0_i32_25
  let v76 : BitVec 1 := Scalar.andi v73 v75
  let v62 : BitVec 32 := Scalar.divsi v61 c2_i32_20
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let v80 : BitVec 32 := Scalar.addi c0_i32_28 v79
  let c1_i32_31 : BitVec 32 := 1#32
  ⟨v83, v80, c1_i32_31⟩
def k0_mult6 (v12 : BitVec 32) (k0_t6 : Fin (k0_t6_loop v12).trips) : BitVec 32 :=
  let c0_i32_28 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let c1_i32_19 : BitVec 32 := 1#32
  let v61 : BitVec 32 := Scalar.addi v32 c1_i32_19
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32_20 : BitVec 32 := 2#32
  let c0_i32_23 : BitVec 32 := 0#32
  let v68 : BitVec 1 := Scalar.cmpi .sgt c2_i32_20 c0_i32_23
  let v69 : BitVec 32 := Scalar.extui v68
  let c0_i32_24 : BitVec 32 := 0#32
  let v70 : BitVec 1 := Scalar.cmpi .slt c2_i32_20 c0_i32_24
  let v71 : BitVec 32 := Scalar.extui v70
  let v72 : BitVec 32 := Scalar.subi v69 v71
  let v73 : BitVec 1 := Scalar.cmpi .ne v67 v72
  let v74 : BitVec 32 := Scalar.remsi v61 c2_i32_20
  let c0_i32_25 : BitVec 32 := 0#32
  let v75 : BitVec 1 := Scalar.cmpi .ne v74 c0_i32_25
  let v76 : BitVec 1 := Scalar.andi v73 v75
  let v62 : BitVec 32 := Scalar.divsi v61 c2_i32_20
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg15 : BitVec 32 := Scf.iv v83 c1_i32_31 k0_t6
  let c256_i32_32 : BitVec 32 := 256#32
  let v84 : BitVec 32 := Scalar.muli arg15 c256_i32_32
  v84
def k0_off7 (v12 : BitVec 32) (k0_t6 : Fin (k0_t6_loop v12).trips) : Fin 2 → Nat :=
  let c0_i32_28 : BitVec 32 := 0#32
  let c256_i32 : BitVec 32 := 256#32
  let v13 : BitVec 1 := Scalar.cmpi .sle v12 c256_i32
  let c2_i32 : BitVec 32 := 2#32
  let c127_i32 : BitVec 32 := 127#32
  let v14 : BitVec 32 := Scalar.addi v12 c127_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c128_i32 : BitVec 32 := 128#32
  let c0_i32_4 : BitVec 32 := 0#32
  let v21 : BitVec 1 := Scalar.cmpi .sgt c128_i32 c0_i32_4
  let v22 : BitVec 32 := Scalar.extui v21
  let c0_i32_5 : BitVec 32 := 0#32
  let v23 : BitVec 1 := Scalar.cmpi .slt c128_i32 c0_i32_5
  let v24 : BitVec 32 := Scalar.extui v23
  let v25 : BitVec 32 := Scalar.subi v22 v24
  let v26 : BitVec 1 := Scalar.cmpi .ne v20 v25
  let v27 : BitVec 32 := Scalar.remsi v14 c128_i32
  let c0_i32_6 : BitVec 32 := 0#32
  let v28 : BitVec 1 := Scalar.cmpi .ne v27 c0_i32_6
  let v29 : BitVec 1 := Scalar.andi v26 v28
  let v15 : BitVec 32 := Scalar.divsi v14 c128_i32
  let c1_i32 : BitVec 32 := 1#32
  let v30 : BitVec 32 := Scalar.subi v15 c1_i32
  let v31 : BitVec 32 := Scalar.select v29 v30 v15
  let v32 : BitVec 32 := Scalar.select v13 c2_i32 v31
  let c1_i32_19 : BitVec 32 := 1#32
  let v61 : BitVec 32 := Scalar.addi v32 c1_i32_19
  let c0_i32_21 : BitVec 32 := 0#32
  let v63 : BitVec 1 := Scalar.cmpi .sgt v61 c0_i32_21
  let v64 : BitVec 32 := Scalar.extui v63
  let c0_i32_22 : BitVec 32 := 0#32
  let v65 : BitVec 1 := Scalar.cmpi .slt v61 c0_i32_22
  let v66 : BitVec 32 := Scalar.extui v65
  let v67 : BitVec 32 := Scalar.subi v64 v66
  let c2_i32_20 : BitVec 32 := 2#32
  let c0_i32_23 : BitVec 32 := 0#32
  let v68 : BitVec 1 := Scalar.cmpi .sgt c2_i32_20 c0_i32_23
  let v69 : BitVec 32 := Scalar.extui v68
  let c0_i32_24 : BitVec 32 := 0#32
  let v70 : BitVec 1 := Scalar.cmpi .slt c2_i32_20 c0_i32_24
  let v71 : BitVec 32 := Scalar.extui v70
  let v72 : BitVec 32 := Scalar.subi v69 v71
  let v73 : BitVec 1 := Scalar.cmpi .ne v67 v72
  let v74 : BitVec 32 := Scalar.remsi v61 c2_i32_20
  let c0_i32_25 : BitVec 32 := 0#32
  let v75 : BitVec 1 := Scalar.cmpi .ne v74 c0_i32_25
  let v76 : BitVec 1 := Scalar.andi v73 v75
  let v62 : BitVec 32 := Scalar.divsi v61 c2_i32_20
  let c1_i32_26 : BitVec 32 := 1#32
  let v77 : BitVec 32 := Scalar.subi v62 c1_i32_26
  let v78 : BitVec 32 := Scalar.select v76 v77 v62
  let v79 : BitVec 32 := Scalar.subi v78 c0_i32_28
  let c1_i32_29 : BitVec 32 := 1#32
  let v81 : BitVec 32 := Scalar.divsi v79 c1_i32_29
  let v82 : BitVec 32 := Scalar.muli v81 c1_i32_29
  let v83 : BitVec 32 := Scalar.addi c0_i32_28 v82
  let c1_i32_31 : BitVec 32 := 1#32
  let arg15 : BitVec 32 := Scf.iv v83 c1_i32_31 k0_t6
  let c256_i32_32 : BitVec 32 := 256#32
  let v84 : BitVec 32 := Scalar.muli arg15 c256_i32_32
  let v85 : BitVec 32 := v84
  let v95 : Index := Scalar.indexCast v85
  let c0_35 : Index := 0#32
  ![v95.toNat, 0]

def k0_chk1 (i : grid0.Coords) (v12 : BitVec 32) : Prop :=
  (∀ (k0_h2 : k0_cond2 i = 1#1), ∀ (k0_h4 : k0_cond4 v12 = 1#1), (k0_t1_loop v12).OK) ∧
  (∀ k0_t1 : Fin (k0_t1_loop v12).trips, ∀ (k0_h2 : k0_cond2 i = 1#1), ∀ (k0_h4 : k0_cond4 v12 = 1#1), 128 ∣ (k0_mult1 v12 k0_t1).toNat) ∧
  (∀ k0_t1 : Fin (k0_t1_loop v12).trips, ∀ (k0_h2 : k0_cond2 i = 1#1), ∀ (k0_h4 : k0_cond4 v12 = 1#1), ∀ a, (k0_off2 v12 k0_t1) a + S128x1024.size a ≤ S1024x1024.size a) ∧
  (∀ k0_t1 : Fin (k0_t1_loop v12).trips, ∀ (k0_h2 : k0_cond2 i = 1#1), ∀ (k0_h4 : k0_cond4 v12 = 1#1), ∀ (hinb : ∀ a, (k0_off2 v12 k0_t1) a + S128x1024.size a ≤ S1024x1024.size a), (Rect.unit (s := S1024x1024) (k0_off2 v12 k0_t1) S128x1024.size hinb).PackedRows (EltTy.packing .bf16)) ∧
  (∀ (k0_h2 : k0_cond2 i = 1#1), ∀ (k0_h4 : k0_cond4 v12 = 1#1), (k0_t2_loop v12).OK) ∧
  (∀ k0_t2 : Fin (k0_t2_loop v12).trips, ∀ (k0_h2 : k0_cond2 i = 1#1), ∀ (k0_h4 : k0_cond4 v12 = 1#1), 128 ∣ (k0_mult2 v12 k0_t2).toNat) ∧
  (∀ k0_t2 : Fin (k0_t2_loop v12).trips, ∀ (k0_h2 : k0_cond2 i = 1#1), ∀ (k0_h4 : k0_cond4 v12 = 1#1), ∀ a, (k0_off3 v12 k0_t2) a + S128x1024.size a ≤ S1024x1024.size a) ∧
  (∀ k0_t2 : Fin (k0_t2_loop v12).trips, ∀ (k0_h2 : k0_cond2 i = 1#1), ∀ (k0_h4 : k0_cond4 v12 = 1#1), ∀ (hinb : ∀ a, (k0_off3 v12 k0_t2) a + S128x1024.size a ≤ S1024x1024.size a), (Rect.unit (s := S1024x1024) (k0_off3 v12 k0_t2) S128x1024.size hinb).PackedRows (EltTy.packing .bf16)) ∧
  (∀ (k0_h6 : k0_cond6 v12 = 1#1), (k0_t3_loop v12).OK) ∧
  (∀ k0_t3 : Fin (k0_t3_loop v12).trips, ∀ (k0_h6 : k0_cond6 v12 = 1#1), 128 ∣ (k0_mult3 v12 k0_t3).toNat) ∧
  (∀ k0_t3 : Fin (k0_t3_loop v12).trips, ∀ (k0_h6 : k0_cond6 v12 = 1#1), ∀ a, (k0_off4 v12 k0_t3) a + S128x1024.size a ≤ S1024x1024.size a) ∧
  (∀ (k0_h6 : k0_cond6 v12 = 1#1), (k0_t4_loop v12).OK) ∧
  (∀ k0_t4 : Fin (k0_t4_loop v12).trips, ∀ (k0_h6 : k0_cond6 v12 = 1#1), 128 ∣ (k0_mult4 v12 k0_t4).toNat) ∧
  (∀ k0_t4 : Fin (k0_t4_loop v12).trips, ∀ (k0_h6 : k0_cond6 v12 = 1#1), ∀ a, (k0_off5 v12 k0_t4) a + S128x1024.size a ≤ S1024x1024.size a) ∧
  (∀ (k0_h7 : k0_cond7 i = 1#1), (k0_t5_loop v12).OK) ∧
  (∀ k0_t5 : Fin (k0_t5_loop v12).trips, ∀ (k0_h7 : k0_cond7 i = 1#1), 256 ∣ (k0_mult5 v12 k0_t5).toNat) ∧
  (∀ k0_t5 : Fin (k0_t5_loop v12).trips, ∀ (k0_h7 : k0_cond7 i = 1#1), ∀ a, (k0_off6 v12 k0_t5) a + S256x1024.size a ≤ S1024x1024.size a) ∧
  (∀ (k0_h7 : k0_cond7 i = 1#1), (k0_t6_loop v12).OK) ∧
  (∀ k0_t6 : Fin (k0_t6_loop v12).trips, ∀ (k0_h7 : k0_cond7 i = 1#1), 256 ∣ (k0_mult6 v12 k0_t6).toNat) ∧
  (∀ k0_t6 : Fin (k0_t6_loop v12).trips, ∀ (k0_h7 : k0_cond7 i = 1#1), ∀ a, (k0_off7 v12 k0_t6) a + S256x1024.size a ≤ S1024x1024.size a)
theorem k0_t1_ok : ∀ (i : grid0.Coords) (v12 : BitVec 32) (k0_hw1 : k0_chk1 i v12), ∀ (k0_h2 : k0_cond2 i = 1#1), ∀ (k0_h4 : k0_cond4 v12 = 1#1), (k0_t1_loop v12).OK := fun i v12 k0_hw1 k0_h2 k0_h4 => k0_hw1.1 k0_h2 k0_h4
theorem k0_mult1_dvd : ∀ (i : grid0.Coords) (v12 : BitVec 32) (k0_hw1 : k0_chk1 i v12) (k0_t1 : Fin (k0_t1_loop v12).trips), ∀ (k0_h2 : k0_cond2 i = 1#1), ∀ (k0_h4 : k0_cond4 v12 = 1#1), 128 ∣ (k0_mult1 v12 k0_t1).toNat := fun i v12 k0_hw1 k0_t1 k0_h2 k0_h4 => k0_hw1.2.1 k0_t1 k0_h2 k0_h4
theorem k0_off2_inb : ∀ (i : grid0.Coords) (v12 : BitVec 32) (k0_hw1 : k0_chk1 i v12) (k0_t1 : Fin (k0_t1_loop v12).trips), ∀ (k0_h2 : k0_cond2 i = 1#1), ∀ (k0_h4 : k0_cond4 v12 = 1#1), ∀ a, (k0_off2 v12 k0_t1) a + S128x1024.size a ≤ S1024x1024.size a := fun i v12 k0_hw1 k0_t1 k0_h2 k0_h4 => k0_hw1.2.2.1 k0_t1 k0_h2 k0_h4
theorem k0_off2_packedbf16 : ∀ (i : grid0.Coords) (v12 : BitVec 32) (k0_hw1 : k0_chk1 i v12) (k0_t1 : Fin (k0_t1_loop v12).trips), ∀ (k0_h2 : k0_cond2 i = 1#1), ∀ (k0_h4 : k0_cond4 v12 = 1#1), (Rect.unit (s := S1024x1024) (k0_off2 v12 k0_t1) S128x1024.size (k0_off2_inb i v12 k0_hw1 k0_t1 k0_h2 k0_h4)).PackedRows (EltTy.packing .bf16) := fun i v12 k0_hw1 k0_t1 k0_h2 k0_h4 => k0_hw1.2.2.2.1 k0_t1 k0_h2 k0_h4 (k0_off2_inb i v12 k0_hw1 k0_t1 k0_h2 k0_h4)
theorem k0_t2_ok : ∀ (i : grid0.Coords) (v12 : BitVec 32) (k0_hw1 : k0_chk1 i v12), ∀ (k0_h2 : k0_cond2 i = 1#1), ∀ (k0_h4 : k0_cond4 v12 = 1#1), (k0_t2_loop v12).OK := fun i v12 k0_hw1 k0_h2 k0_h4 => k0_hw1.2.2.2.2.1 k0_h2 k0_h4
theorem k0_mult2_dvd : ∀ (i : grid0.Coords) (v12 : BitVec 32) (k0_hw1 : k0_chk1 i v12) (k0_t2 : Fin (k0_t2_loop v12).trips), ∀ (k0_h2 : k0_cond2 i = 1#1), ∀ (k0_h4 : k0_cond4 v12 = 1#1), 128 ∣ (k0_mult2 v12 k0_t2).toNat := fun i v12 k0_hw1 k0_t2 k0_h2 k0_h4 => k0_hw1.2.2.2.2.2.1 k0_t2 k0_h2 k0_h4
theorem k0_off3_inb : ∀ (i : grid0.Coords) (v12 : BitVec 32) (k0_hw1 : k0_chk1 i v12) (k0_t2 : Fin (k0_t2_loop v12).trips), ∀ (k0_h2 : k0_cond2 i = 1#1), ∀ (k0_h4 : k0_cond4 v12 = 1#1), ∀ a, (k0_off3 v12 k0_t2) a + S128x1024.size a ≤ S1024x1024.size a := fun i v12 k0_hw1 k0_t2 k0_h2 k0_h4 => k0_hw1.2.2.2.2.2.2.1 k0_t2 k0_h2 k0_h4
theorem k0_off3_packedbf16 : ∀ (i : grid0.Coords) (v12 : BitVec 32) (k0_hw1 : k0_chk1 i v12) (k0_t2 : Fin (k0_t2_loop v12).trips), ∀ (k0_h2 : k0_cond2 i = 1#1), ∀ (k0_h4 : k0_cond4 v12 = 1#1), (Rect.unit (s := S1024x1024) (k0_off3 v12 k0_t2) S128x1024.size (k0_off3_inb i v12 k0_hw1 k0_t2 k0_h2 k0_h4)).PackedRows (EltTy.packing .bf16) := fun i v12 k0_hw1 k0_t2 k0_h2 k0_h4 => k0_hw1.2.2.2.2.2.2.2.1 k0_t2 k0_h2 k0_h4 (k0_off3_inb i v12 k0_hw1 k0_t2 k0_h2 k0_h4)
theorem k0_t3_ok : ∀ (i : grid0.Coords) (v12 : BitVec 32) (k0_hw1 : k0_chk1 i v12), ∀ (k0_h6 : k0_cond6 v12 = 1#1), (k0_t3_loop v12).OK := fun i v12 k0_hw1 k0_h6 => k0_hw1.2.2.2.2.2.2.2.2.1 k0_h6
theorem k0_mult3_dvd : ∀ (i : grid0.Coords) (v12 : BitVec 32) (k0_hw1 : k0_chk1 i v12) (k0_t3 : Fin (k0_t3_loop v12).trips), ∀ (k0_h6 : k0_cond6 v12 = 1#1), 128 ∣ (k0_mult3 v12 k0_t3).toNat := fun i v12 k0_hw1 k0_t3 k0_h6 => k0_hw1.2.2.2.2.2.2.2.2.2.1 k0_t3 k0_h6
theorem k0_off4_inb : ∀ (i : grid0.Coords) (v12 : BitVec 32) (k0_hw1 : k0_chk1 i v12) (k0_t3 : Fin (k0_t3_loop v12).trips), ∀ (k0_h6 : k0_cond6 v12 = 1#1), ∀ a, (k0_off4 v12 k0_t3) a + S128x1024.size a ≤ S1024x1024.size a := fun i v12 k0_hw1 k0_t3 k0_h6 => k0_hw1.2.2.2.2.2.2.2.2.2.2.1 k0_t3 k0_h6
theorem k0_t4_ok : ∀ (i : grid0.Coords) (v12 : BitVec 32) (k0_hw1 : k0_chk1 i v12), ∀ (k0_h6 : k0_cond6 v12 = 1#1), (k0_t4_loop v12).OK := fun i v12 k0_hw1 k0_h6 => k0_hw1.2.2.2.2.2.2.2.2.2.2.2.1 k0_h6
theorem k0_mult4_dvd : ∀ (i : grid0.Coords) (v12 : BitVec 32) (k0_hw1 : k0_chk1 i v12) (k0_t4 : Fin (k0_t4_loop v12).trips), ∀ (k0_h6 : k0_cond6 v12 = 1#1), 128 ∣ (k0_mult4 v12 k0_t4).toNat := fun i v12 k0_hw1 k0_t4 k0_h6 => k0_hw1.2.2.2.2.2.2.2.2.2.2.2.2.1 k0_t4 k0_h6
theorem k0_off5_inb : ∀ (i : grid0.Coords) (v12 : BitVec 32) (k0_hw1 : k0_chk1 i v12) (k0_t4 : Fin (k0_t4_loop v12).trips), ∀ (k0_h6 : k0_cond6 v12 = 1#1), ∀ a, (k0_off5 v12 k0_t4) a + S128x1024.size a ≤ S1024x1024.size a := fun i v12 k0_hw1 k0_t4 k0_h6 => k0_hw1.2.2.2.2.2.2.2.2.2.2.2.2.2.1 k0_t4 k0_h6
theorem k0_t5_ok : ∀ (i : grid0.Coords) (v12 : BitVec 32) (k0_hw1 : k0_chk1 i v12), ∀ (k0_h7 : k0_cond7 i = 1#1), (k0_t5_loop v12).OK := fun i v12 k0_hw1 k0_h7 => k0_hw1.2.2.2.2.2.2.2.2.2.2.2.2.2.2.1 k0_h7
theorem k0_mult5_dvd : ∀ (i : grid0.Coords) (v12 : BitVec 32) (k0_hw1 : k0_chk1 i v12) (k0_t5 : Fin (k0_t5_loop v12).trips), ∀ (k0_h7 : k0_cond7 i = 1#1), 256 ∣ (k0_mult5 v12 k0_t5).toNat := fun i v12 k0_hw1 k0_t5 k0_h7 => k0_hw1.2.2.2.2.2.2.2.2.2.2.2.2.2.2.2.1 k0_t5 k0_h7
theorem k0_off6_inb : ∀ (i : grid0.Coords) (v12 : BitVec 32) (k0_hw1 : k0_chk1 i v12) (k0_t5 : Fin (k0_t5_loop v12).trips), ∀ (k0_h7 : k0_cond7 i = 1#1), ∀ a, (k0_off6 v12 k0_t5) a + S256x1024.size a ≤ S1024x1024.size a := fun i v12 k0_hw1 k0_t5 k0_h7 => k0_hw1.2.2.2.2.2.2.2.2.2.2.2.2.2.2.2.2.1 k0_t5 k0_h7
theorem k0_t6_ok : ∀ (i : grid0.Coords) (v12 : BitVec 32) (k0_hw1 : k0_chk1 i v12), ∀ (k0_h7 : k0_cond7 i = 1#1), (k0_t6_loop v12).OK := fun i v12 k0_hw1 k0_h7 => k0_hw1.2.2.2.2.2.2.2.2.2.2.2.2.2.2.2.2.2.1 k0_h7
theorem k0_mult6_dvd : ∀ (i : grid0.Coords) (v12 : BitVec 32) (k0_hw1 : k0_chk1 i v12) (k0_t6 : Fin (k0_t6_loop v12).trips), ∀ (k0_h7 : k0_cond7 i = 1#1), 256 ∣ (k0_mult6 v12 k0_t6).toNat := fun i v12 k0_hw1 k0_t6 k0_h7 => k0_hw1.2.2.2.2.2.2.2.2.2.2.2.2.2.2.2.2.2.2.1 k0_t6 k0_h7
theorem k0_off7_inb : ∀ (i : grid0.Coords) (v12 : BitVec 32) (k0_hw1 : k0_chk1 i v12) (k0_t6 : Fin (k0_t6_loop v12).trips), ∀ (k0_h7 : k0_cond7 i = 1#1), ∀ a, (k0_off7 v12 k0_t6) a + S256x1024.size a ≤ S1024x1024.size a := fun i v12 k0_hw1 k0_t6 k0_h7 => k0_hw1.2.2.2.2.2.2.2.2.2.2.2.2.2.2.2.2.2.2.2 k0_t6 k0_h7

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let arg2 : BitVec 32 := BitVec.ofNat 32 (i 2).val
  let c0_i32_0 : BitVec 32 := 0#32
  let v7 : BitVec 1 := Scalar.cmpi .eq arg2 c0_i32_0
  let v8 : BitVec 1 := Scalar.andi v6 v7
  let v9 : BitVec 32 := Scalar.extui v8
  let c0_i32_1 : BitVec 32 := 0#32
  let v10 : BitVec 1 := Scalar.cmpi .ne v9 c0_i32_1
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S896x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S896x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S896x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1792x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S896x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S32768x1024 : Shape := ⟨2, ![32768, 1024]⟩
abbrev S32768x128 : Shape := ⟨2, ![32768, 128]⟩
abbrev S8x1024x3584 : Shape := ⟨3, ![8, 1024, 3584]⟩
abbrev S8x3584x1024 : Shape := ⟨3, ![8, 3584, 1024]⟩
abbrev S_ : Shape := ⟨0, ![]⟩
abbrev S1x1024x3584 : Shape := ⟨3, ![1, 1024, 3584]⟩
abbrev S1024x3584 : Shape := ⟨2, ![1024, 3584]⟩
abbrev S32768x3584 : Shape := ⟨2, ![32768, 3584]⟩
abbrev S32768x1 : Shape := ⟨2, ![32768, 1]⟩
abbrev S1x3584x1024 : Shape := ⟨3, ![1, 3584, 1024]⟩
abbrev S3584x1024 : Shape := ⟨2, ![3584, 1024]⟩

abbrev nBuf : Space → Nat
  | .hbm => 216
  | .vmem => 0
  | .smem => 0
  | _ => 0

abbrev hbmTy0_0 (i : Nat) : BufTy := match i % 128 with
  | 0 => ⟨S32768x1024, .bf16⟩
  | 1 => ⟨S32768x128, .f32⟩
  | 2 => ⟨S8x1024x3584, .bf16⟩
  | 3 => ⟨S8x1024x3584, .bf16⟩
  | 4 => ⟨S8x3584x1024, .bf16⟩
  | 5 => ⟨S32768x1024, .f32⟩
  | 6 => ⟨S_, .f32⟩
  | 7 => ⟨S32768x1024, .f32⟩
  | 8 => ⟨S1x1024x3584, .bf16⟩
  | 9 => ⟨S1024x3584, .bf16⟩
  | 10 => ⟨S1024x3584, .f32⟩
  | 11 => ⟨S32768x3584, .f32⟩
  | 12 => ⟨S1x1024x3584, .bf16⟩
  | 13 => ⟨S1024x3584, .bf16⟩
  | 14 => ⟨S1024x3584, .f32⟩
  | 15 => ⟨S32768x3584, .f32⟩
  | 16 => ⟨S32768x3584, .f32⟩
  | 17 => ⟨S32768x3584, .f32⟩
  | 18 => ⟨S_, .f32⟩
  | 19 => ⟨S32768x3584, .f32⟩
  | 20 => ⟨S32768x3584, .f32⟩
  | 21 => ⟨S_, .f32⟩
  | 22 => ⟨S32768x3584, .f32⟩
  | 23 => ⟨S32768x3584, .f32⟩
  | 24 => ⟨S32768x3584, .f32⟩
  | 25 => ⟨S32768x3584, .f32⟩
  | 26 => ⟨S32768x1, .f32⟩
  | 27 => ⟨S1x3584x1024, .bf16⟩
  | 28 => ⟨S3584x1024, .bf16⟩
  | 29 => ⟨S3584x1024, .f32⟩
  | 30 => ⟨S32768x1024, .f32⟩
  | 31 => ⟨S32768x1024, .f32⟩
  | 32 => ⟨S32768x1024, .f32⟩
  | 33 => ⟨S32768x1024, .f32⟩
  | 34 => ⟨S1x1024x3584, .bf16⟩
  | 35 => ⟨S1024x3584, .bf16⟩
  | 36 => ⟨S1024x3584, .f32⟩
  | 37 => ⟨S32768x3584, .f32⟩
  | 38 => ⟨S1x1024x3584, .bf16⟩
  | 39 => ⟨S1024x3584, .bf16⟩
  | 40 => ⟨S1024x3584, .f32⟩
  | 41 => ⟨S32768x3584, .f32⟩
  | 42 => ⟨S32768x3584, .f32⟩
  | 43 => ⟨S32768x3584, .f32⟩
  | 44 => ⟨S_, .f32⟩
  | 45 => ⟨S32768x3584, .f32⟩
  | 46 => ⟨S32768x3584, .f32⟩
  | 47 => ⟨S_, .f32⟩
  | 48 => ⟨S32768x3584, .f32⟩
  | 49 => ⟨S32768x3584, .f32⟩
  | 50 => ⟨S32768x3584, .f32⟩
  | 51 => ⟨S32768x3584, .f32⟩
  | 52 => ⟨S32768x1, .f32⟩
  | 53 => ⟨S1x3584x1024, .bf16⟩
  | 54 => ⟨S3584x1024, .bf16⟩
  | 55 => ⟨S3584x1024, .f32⟩
  | 56 => ⟨S32768x1024, .f32⟩
  | 57 => ⟨S32768x1024, .f32⟩
  | 58 => ⟨S32768x1024, .f32⟩
  | 59 => ⟨S32768x1024, .f32⟩
  | 60 => ⟨S1x1024x3584, .bf16⟩
  | 61 => ⟨S1024x3584, .bf16⟩
  | 62 => ⟨S1024x3584, .f32⟩
  | 63 => ⟨S32768x3584, .f32⟩
  | 64 => ⟨S1x1024x3584, .bf16⟩
  | 65 => ⟨S1024x3584, .bf16⟩
  | 66 => ⟨S1024x3584, .f32⟩
  | 67 => ⟨S32768x3584, .f32⟩
  | 68 => ⟨S32768x3584, .f32⟩
  | 69 => ⟨S32768x3584, .f32⟩
  | 70 => ⟨S_, .f32⟩
  | 71 => ⟨S32768x3584, .f32⟩
  | 72 => ⟨S32768x3584, .f32⟩
  | 73 => ⟨S_, .f32⟩
  | 74 => ⟨S32768x3584, .f32⟩
  | 75 => ⟨S32768x3584, .f32⟩
  | 76 => ⟨S32768x3584, .f32⟩
  | 77 => ⟨S32768x3584, .f32⟩
  | 78 => ⟨S32768x1, .f32⟩
  | 79 => ⟨S1x3584x1024, .bf16⟩
  | 80 => ⟨S3584x1024, .bf16⟩
  | 81 => ⟨S3584x1024, .f32⟩
  | 82 => ⟨S32768x1024, .f32⟩
  | 83 => ⟨S32768x1024, .f32⟩
  | 84 => ⟨S32768x1024, .f32⟩
  | 85 => ⟨S32768x1024, .f32⟩
  | 86 => ⟨S1x1024x3584, .bf16⟩
  | 87 => ⟨S1024x3584, .bf16⟩
  | 88 => ⟨S1024x3584, .f32⟩
  | 89 => ⟨S32768x3584, .f32⟩
  | 90 => ⟨S1x1024x3584, .bf16⟩
  | 91 => ⟨S1024x3584, .bf16⟩
  | 92 => ⟨S1024x3584, .f32⟩
  | 93 => ⟨S32768x3584, .f32⟩
  | 94 => ⟨S32768x3584, .f32⟩
  | 95 => ⟨S32768x3584, .f32⟩
  | 96 => ⟨S_, .f32⟩
  | 97 => ⟨S32768x3584, .f32⟩
  | 98 => ⟨S32768x3584, .f32⟩
  | 99 => ⟨S_, .f32⟩
  | 100 => ⟨S32768x3584, .f32⟩
  | 101 => ⟨S32768x3584, .f32⟩
  | 102 => ⟨S32768x3584, .f32⟩
  | 103 => ⟨S32768x3584, .f32⟩
  | 104 => ⟨S32768x1, .f32⟩
  | 105 => ⟨S1x3584x1024, .bf16⟩
  | 106 => ⟨S3584x1024, .bf16⟩
  | 107 => ⟨S3584x1024, .f32⟩
  | 108 => ⟨S32768x1024, .f32⟩
  | 109 => ⟨S32768x1024, .f32⟩
  | 110 => ⟨S32768x1024, .f32⟩
  | 111 => ⟨S32768x1024, .f32⟩
  | 112 => ⟨S1x1024x3584, .bf16⟩
  | 113 => ⟨S1024x3584, .bf16⟩
  | 114 => ⟨S1024x3584, .f32⟩
  | 115 => ⟨S32768x3584, .f32⟩
  | 116 => ⟨S1x1024x3584, .bf16⟩
  | 117 => ⟨S1024x3584, .bf16⟩
  | 118 => ⟨S1024x3584, .f32⟩
  | 119 => ⟨S32768x3584, .f32⟩
  | 120 => ⟨S32768x3584, .f32⟩
  | 121 => ⟨S32768x3584, .f32⟩
  | 122 => ⟨S_, .f32⟩
  | 123 => ⟨S32768x3584, .f32⟩
  | 124 => ⟨S32768x3584, .f32⟩
  | 125 => ⟨S_, .f32⟩
  | 126 => ⟨S32768x3584, .f32⟩
  | 127 => ⟨S32768x3584, .f32⟩
  | _ => ⟨S32768x1024, .bf16⟩

abbrev hbmTy0_1 (i : Nat) : BufTy := match i % 128 with
  | 0 => ⟨S32768x3584, .f32⟩
  | 1 => ⟨S32768x3584, .f32⟩
  | 2 => ⟨S32768x1, .f32⟩
  | 3 => ⟨S1x3584x1024, .bf16⟩
  | 4 => ⟨S3584x1024, .bf16⟩
  | 5 => ⟨S3584x1024, .f32⟩
  | 6 => ⟨S32768x1024, .f32⟩
  | 7 => ⟨S32768x1024, .f32⟩
  | 8 => ⟨S32768x1024, .f32⟩
  | 9 => ⟨S32768x1024, .f32⟩
  | 10 => ⟨S1x1024x3584, .bf16⟩
  | 11 => ⟨S1024x3584, .bf16⟩
  | 12 => ⟨S1024x3584, .f32⟩
  | 13 => ⟨S32768x3584, .f32⟩
  | 14 => ⟨S1x1024x3584, .bf16⟩
  | 15 => ⟨S1024x3584, .bf16⟩
  | 16 => ⟨S1024x3584, .f32⟩
  | 17 => ⟨S32768x3584, .f32⟩
  | 18 => ⟨S32768x3584, .f32⟩
  | 19 => ⟨S32768x3584, .f32⟩
  | 20 => ⟨S_, .f32⟩
  | 21 => ⟨S32768x3584, .f32⟩
  | 22 => ⟨S32768x3584, .f32⟩
  | 23 => ⟨S_, .f32⟩
  | 24 => ⟨S32768x3584, .f32⟩
  | 25 => ⟨S32768x3584, .f32⟩
  | 26 => ⟨S32768x3584, .f32⟩
  | 27 => ⟨S32768x3584, .f32⟩
  | 28 => ⟨S32768x1, .f32⟩
  | 29 => ⟨S1x3584x1024, .bf16⟩
  | 30 => ⟨S3584x1024, .bf16⟩
  | 31 => ⟨S3584x1024, .f32⟩
  | 32 => ⟨S32768x1024, .f32⟩
  | 33 => ⟨S32768x1024, .f32⟩
  | 34 => ⟨S32768x1024, .f32⟩
  | 35 => ⟨S32768x1024, .f32⟩
  | 36 => ⟨S1x1024x3584, .bf16⟩
  | 37 => ⟨S1024x3584, .bf16⟩
  | 38 => ⟨S1024x3584, .f32⟩
  | 39 => ⟨S32768x3584, .f32⟩
  | 40 => ⟨S1x1024x3584, .bf16⟩
  | 41 => ⟨S1024x3584, .bf16⟩
  | 42 => ⟨S1024x3584, .f32⟩
  | 43 => ⟨S32768x3584, .f32⟩
  | 44 => ⟨S32768x3584, .f32⟩
  | 45 => ⟨S32768x3584, .f32⟩
  | 46 => ⟨S_, .f32⟩
  | 47 => ⟨S32768x3584, .f32⟩
  | 48 => ⟨S32768x3584, .f32⟩
  | 49 => ⟨S_, .f32⟩
  | 50 => ⟨S32768x3584, .f32⟩
  | 51 => ⟨S32768x3584, .f32⟩
  | 52 => ⟨S32768x3584, .f32⟩
  | 53 => ⟨S32768x3584, .f32⟩
  | 54 => ⟨S32768x1, .f32⟩
  | 55 => ⟨S1x3584x1024, .bf16⟩
  | 56 => ⟨S3584x1024, .bf16⟩
  | 57 => ⟨S3584x1024, .f32⟩
  | 58 => ⟨S32768x1024, .f32⟩
  | 59 => ⟨S32768x1024, .f32⟩
  | 60 => ⟨S32768x1024, .f32⟩
  | 61 => ⟨S32768x1024, .f32⟩
  | 62 => ⟨S1x1024x3584, .bf16⟩
  | 63 => ⟨S1024x3584, .bf16⟩
  | 64 => ⟨S1024x3584, .f32⟩
  | 65 => ⟨S32768x3584, .f32⟩
  | 66 => ⟨S1x1024x3584, .bf16⟩
  | 67 => ⟨S1024x3584, .bf16⟩
  | 68 => ⟨S1024x3584, .f32⟩
  | 69 => ⟨S32768x3584, .f32⟩
  | 70 => ⟨S32768x3584, .f32⟩
  | 71 => ⟨S32768x3584, .f32⟩
  | 72 => ⟨S_, .f32⟩
  | 73 => ⟨S32768x3584, .f32⟩
  | 74 => ⟨S32768x3584, .f32⟩
  | 75 => ⟨S_, .f32⟩
  | 76 => ⟨S32768x3584, .f32⟩
  | 77 => ⟨S32768x3584, .f32⟩
  | 78 => ⟨S32768x3584, .f32⟩
  | 79 => ⟨S32768x3584, .f32⟩
  | 80 => ⟨S32768x1, .f32⟩
  | 81 => ⟨S1x3584x1024, .bf16⟩
  | 82 => ⟨S3584x1024, .bf16⟩
  | 83 => ⟨S3584x1024, .f32⟩
  | 84 => ⟨S32768x1024, .f32⟩
  | 85 => ⟨S32768x1024, .f32⟩
  | 86 => ⟨S32768x1024, .f32⟩
  | 87 => ⟨S32768x1024, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call3_v0 : Ref sig .tc := ⟨.hbm, 94, rfl⟩
abbrev main_call3_v1 : Ref sig .tc := ⟨.hbm, 95, rfl⟩
abbrev main_call3_cst : Ref sig .tc := ⟨.hbm, 96, rfl⟩
abbrev main_call3_v2 : Ref sig .tc := ⟨.hbm, 97, rfl⟩
abbrev main_call3_v3 : Ref sig .tc := ⟨.hbm, 98, rfl⟩
abbrev main_call3_cst_0 : Ref sig .tc := ⟨.hbm, 99, rfl⟩
abbrev main_call3_v4 : Ref sig .tc := ⟨.hbm, 100, rfl⟩
abbrev main_call3_v5 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call4_v0 : Ref sig .tc := ⟨.hbm, 120, rfl⟩
abbrev main_call4_v1 : Ref sig .tc := ⟨.hbm, 121, rfl⟩
abbrev main_call4_cst : Ref sig .tc := ⟨.hbm, 122, rfl⟩
abbrev main_call4_v2 : Ref sig .tc := ⟨.hbm, 123, rfl⟩
abbrev main_call4_v3 : Ref sig .tc := ⟨.hbm, 124, rfl⟩
abbrev main_call4_cst_0 : Ref sig .tc := ⟨.hbm, 125, rfl⟩
abbrev main_call4_v4 : Ref sig .tc := ⟨.hbm, 126, rfl⟩
abbrev main_call4_v5 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call5_v0 : Ref sig .tc := ⟨.hbm, 146, rfl⟩
abbrev main_call5_v1 : Ref sig .tc := ⟨.hbm, 147, rfl⟩
abbrev main_call5_cst : Ref sig .tc := ⟨.hbm, 148, rfl⟩
abbrev main_call5_v2 : Ref sig .tc := ⟨.hbm, 149, rfl⟩
abbrev main_call5_v3 : Ref sig .tc := ⟨.hbm, 150, rfl⟩
abbrev main_call5_cst_0 : Ref sig .tc := ⟨.hbm, 151, rfl⟩
abbrev main_call5_v4 : Ref sig .tc := ⟨.hbm, 152, rfl⟩
abbrev main_call5_v5 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_call6_v0 : Ref sig .tc := ⟨.hbm, 172, rfl⟩
abbrev main_call6_v1 : Ref sig .tc := ⟨.hbm, 173, rfl⟩
abbrev main_call6_cst : Ref sig .tc := ⟨.hbm, 174, rfl⟩
abbrev main_call6_v2 : Ref sig .tc := ⟨.hbm, 175, rfl⟩
abbrev main_call6_v3 : Ref sig .tc := ⟨.hbm, 176, rfl⟩
abbrev main_call6_cst_0 : Ref sig .tc := ⟨.hbm, 177, rfl⟩
abbrev main_call6_v4 : Ref sig .tc := ⟨.hbm, 178, rfl⟩
abbrev main_call6_v5 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_call7_v0 : Ref sig .tc := ⟨.hbm, 198, rfl⟩
abbrev main_call7_v1 : Ref sig .tc := ⟨.hbm, 199, rfl⟩
abbrev main_call7_cst : Ref sig .tc := ⟨.hbm, 200, rfl⟩
abbrev main_call7_v2 : Ref sig .tc := ⟨.hbm, 201, rfl⟩
abbrev main_call7_v3 : Ref sig .tc := ⟨.hbm, 202, rfl⟩
abbrev main_call7_cst_0 : Ref sig .tc := ⟨.hbm, 203, rfl⟩
abbrev main_call7_v4 : Ref sig .tc := ⟨.hbm, 204, rfl⟩
abbrev main_call7_v5 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩

abbrev nD : Nat := 1
abbrev τ : Topo := Topo.v7x

variable {F : FTy → Type} [FloatOps F]
-- ==== Residual.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceResidualIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Ffn.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S32768x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S32768x1024, .f32⟩
  | .hbm, ⟨10, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceFfnIdeal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S32768x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1024x2816, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S1024x2816, .f32⟩
  | .hbm, ⟨20, _⟩ => ⟨S32768x2816, .f32⟩
  | .hbm, ⟨21, _⟩ => ⟨S32768x2816, .f32⟩
  | .hbm, ⟨22, _⟩ => ⟨S2816x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Proof.Words.lean ====
/- The words the kernel computes from an expert's row count, for a count of at most 896: how many trips its counted
   loops make and where each trip's rows lie, so that the side condition the body assumes of the count holds. -/
module

public import proofs.«01_k».proof.KernelIdeal

@[expose] public section

namespace Cert.Moe

open Cert.KernelIdeal
open Idealize.ShloMosaic Idealize.SL.Sem

/-- The chunks of 128 rows that a count of `n` rows takes: two when the count is at most 256. -/
def chunks (n : Nat) : Nat := if n ≤ 256 then 2 else (n + 127) / 128

/-- The groups of two chunks that a count of `n` rows takes. -/
def groups (n : Nat) : Nat := (chunks n + 1) / 2

/-- The loops' trip counts at a count of `n`. -/
theorem trips_facts : ∀ n : Fin 897, let v := BitVec.ofNat 32 n.val
    (k0_t1_loop v).trips = chunks n ∧ (k0_t2_loop v).trips = 0 ∧ (k0_t3_loop v).trips = chunks n
    ∧ (k0_t4_loop v).trips = 0 ∧ (k0_t5_loop v).trips = groups n ∧ (k0_t6_loop v).trips = 0
    ∧ (k0_t1_loop v).OK ∧ (k0_t2_loop v).OK ∧ (k0_t3_loop v).OK ∧ (k0_t4_loop v).OK ∧ (k0_t5_loop v).OK ∧ (k0_t6_loop v).OK
    ∧ (k0_cond4 v = 1#1 ↔ 256 < n.val) ∧ (k0_cond6 v = 1#1 ↔ 256 < n.val) ∧ (Scalar.cmpi .sle v 256#32 = 1#1 ↔ n.val ≤ 256) := by
  decide +kernel

/-- Where trip `k`'s rows begin at a count of `n`: at row 128·k of the packed rows, or 256·k for a group; and the
    word each trip's offset is computed from. -/
theorem offs_facts : ∀ n : Fin 897, let v := BitVec.ofNat 32 n.val
    (∀ k : Fin (k0_t1_loop v).trips, k0_off2 v k 0 = 128 * k.val ∧ k0_off2 v k 1 = 0 ∧ (k0_mult1 v k).toNat = 128 * k.val)
    ∧ (∀ k : Fin (k0_t3_loop v).trips, k0_off4 v k 0 = 128 * k.val ∧ k0_off4 v k 1 = 0 ∧ (k0_mult3 v k).toNat = 128 * k.val)
    ∧ (∀ k : Fin (k0_t5_loop v).trips, k0_off6 v k 0 = 256 * k.val ∧ k0_off6 v k 1 = 0 ∧ (k0_mult5 v k).toNat = 256 * k.val) := by
  decide +kernel

end Cert.Moe
-- ==== Proof.Counts.lean ====
/- The side condition the body assumes of an expert's row count holds of a count of at most 896. -/
module

public import proofs.«01_k».proof.Proof.Words

@[expose] public section

namespace Cert.Moe

open Cert.KernelIdeal
open Idealize.ShloMosaic Idealize.SL.Sem

theorem chunks_le {n : Nat} (hn : n ≤ 896) : chunks n ≤ 7 := by unfold chunks; split <;> omega
theorem groups_le {n : Nat} (hn : n ≤ 896) : groups n ≤ 4 := by have := chunks_le hn; unfold groups; omega
theorem le_chunks {n : Nat} : n ≤ 128 * chunks n := by unfold chunks; split <;> omega
theorem chunks_le_groups {n : Nat} : chunks n ≤ 2 * groups n := by unfold groups; omega

/-- THE SIDE CONDITION the body assumes of an expert's count holds when the count is at most 896. -/
theorem chk1_of_le (i : grid0.Coords) (v : BitVec 32) (hv : v.toNat ≤ 896) : k0_chk1 i v := by
  obtain ⟨n, hn, rfl⟩ : ∃ n : Fin 897, n.val = v.toNat ∧ BitVec.ofNat 32 n.val = v :=
    ⟨⟨v.toNat, by omega⟩, rfl, by simp⟩
  obtain ⟨h1, h2, h3, h4, h5, h6, o1, o2, o3, o4, o5, o6, -⟩ := trips_facts n
  obtain ⟨f1, f3, f5⟩ := offs_facts n
  have hc := chunks_le (n := n.val) (by omega)
  have hg := groups_le (n := n.val) (by omega)
  have inb128 : ∀ (off : Fin 2 → Nat) (k : Nat), k < chunks n.val → off 0 = 128 * k → off 1 = 0 →
      ∀ a, off a + S128x1024.size a ≤ S1024x1024.size a := by
    intro off k hk h0 h1 a
    match a with
    | 0 => show off 0 + 128 ≤ 1024; omega
    | 1 => show off 1 + 1024 ≤ 1024; omega
  have inb256 : ∀ (off : Fin 2 → Nat) (k : Nat), k < groups n.val → off 0 = 256 * k → off 1 = 0 →
      ∀ a, off a + S256x1024.size a ≤ S1024x1024.size a := by
    intro off k hk h0 h1 a
    match a with
    | 0 => show off 0 + 256 ≤ 1024; omega
    | 1 => show off 1 + 1024 ≤ 1024; omega
  have no2 : ∀ k : Fin (k0_t2_loop (BitVec.ofNat 32 n.val)).trips, False := fun k => by have := k.isLt; omega
  have no4 : ∀ k : Fin (k0_t4_loop (BitVec.ofNat 32 n.val)).trips, False := fun k => by have := k.isLt; omega
  have no6 : ∀ k : Fin (k0_t6_loop (BitVec.ofNat 32 n.val)).trips, False := fun k => by have := k.isLt; omega
  refine ⟨fun _ _ => o1, fun k _ _ => ?_, fun k _ _ => inb128 _ k (h1 ▸ k.isLt) (f1 k).1 (f1 k).2.1, fun k _ _ hinb => ?_,
    fun _ _ => o2, fun k => (no2 k).elim, fun k => (no2 k).elim, fun k => (no2 k).elim,
    fun _ => o3, fun k _ => ?_, fun k _ => inb128 _ k (h3 ▸ k.isLt) (f3 k).1 (f3 k).2.1,
    fun _ => o4, fun k => (no4 k).elim, fun k => (no4 k).elim,
    fun _ => o5, fun k _ => ?_, fun k _ => inb256 _ k (h5 ▸ k.isLt) (f5 k).1 (f5 k).2.1,
    fun _ => o6, fun k => (no6 k).elim, fun k => (no6 k).elim⟩
  · rw [(f1 k).2.2]; exact Nat.dvd_mul_right _ _
  · refine .inr ⟨by decide, rfl, .inl ⟨?_, ?_⟩⟩
    swap
    · show 2 ∣ 128; decide
    show 2 ∣ k0_off2 _ k 0
    rw [(f1 k).1]; omega
  · rw [(f3 k).2.2]; exact Nat.dvd_mul_right _ _
  · rw [(f5 k).2.2]; exact Nat.dvd_mul_right _ _

end Cert.Moe
-- ==== Proof.Step.lean ====
/- What the kernel does at one grid point, as a function of what its windows and its scratch memory hold, over any
   float values. -/
module

public import proofs.«01_k».proof.Proof.Counts
public import proofs.«01_k».proof.Proof.Gen.KernelIdeal.Skeleton
public import Idealize.ShloMosaic.Lib.ValueIdx

@[expose] public section

noncomputable section

namespace Cert.Moe

open Cert.KernelIdeal Cert.KernelIdeal.Gen
open Idealize.ShloMosaic Idealize.ShloMosaic.ValueIdx Idealize.SL.Sem

variable (F : FTy → Type) [FloatOps F]

/-- The blocks a grid point reads: tokens, gates, the triangle of ones, and the expert's three weight tiles. -/
structure Win where
  X : Vec F S896x1024 .bf16
  G : Vec F S896x128 .f32
  T : Vec F S896x896 .bf16
  W1 : Vec F S1x1024x1792 .bf16
  W3 : Vec F S1x1024x1792 .bf16
  W2 : Vec F S1x1792x1024 .bf16

/-- What a grid point updates: the output block, the packed rows, their accumulator, the ranks by row and by
    column, and the experts' counts. -/
structure St where
  O : Vec F S896x1024 .f32
  XS : Vec F S1024x1024 .bf16
  ACC : Vec F S1024x1024 .f32
  RC : Vec F S896x128 .f32
  RR : Vec F S128x896 .f32
  CN : Vec F S8 .i32

variable {F}

/-- `W` rows of an array from row `o` on. -/
def rows {α : Type} {n m : Nat} [NeZero n] (o W : Nat) (A : (⟨2, ![n, m]⟩ : Shape).Idx → α) : (⟨2, ![W, m]⟩ : Shape).Idx → α :=
  fun x => A (ix2 (Fin.ofNat n (o + (x 0).val)) (x 1))

/-- The first `W` rows of an array replaced. -/
def setTop {α : Type} {n m W : Nat} (B : (⟨2, ![W, m]⟩ : Shape).Idx → α) (A : (⟨2, ![n, m]⟩ : Shape).Idx → α) :
    (⟨2, ![n, m]⟩ : Shape).Idx → α :=
  fun y => if h : (y 0).val < W then B (ix2 ⟨(y 0).val, h⟩ (y 1)) else A y

/-- The expert whose turn it is at a grid point. -/
def ex (i : grid0.Coords) : Fin 8 := i 1

/-- That expert as a word. -/
def exW (i : grid0.Coords) : BitVec 32 := BitVec.ofNat 32 (i 1).val

/-- The experts' counts as words. -/
def countWords (i : grid0.Coords) (G : Vec F S896x128 .f32) : Vec F S8 .i32 := fun j =>
  Scalar.fptosi 32 (match (j 0).val with
    | 0 => k0_pay12 (k0_pay18 i) G
    | 1 => k0_pay13 (k0_pay18 i) G
    | 2 => k0_pay19 (k0_pay11 (k0_pay18 i) G)
    | 3 => k0_pay20 (k0_pay11 (k0_pay18 i) G)
    | 4 => k0_pay21 (k0_pay11 (k0_pay18 i) G)
    | 5 => k0_pay22 (k0_pay11 (k0_pay18 i) G)
    | 6 => k0_pay23 (k0_pay11 (k0_pay18 i) G)
    | _ => k0_pay24 (k0_pay11 (k0_pay18 i) G) : F .f32)

/-- At a block's first expert: the output is cleared, the ranks and the counts are computed. -/
def opA (i : grid0.Coords) (w : Win F) (s : St F) : St F :=
  if k0_cond1 i = 1#1 then
    { s with O := k0_pay6, RC := k0_pay9 (k0_pay18 i) w.G w.T, RR := k0_pay10 (k0_pay18 i) w.G w.T, CN := countWords i w.G }
  else s

/-- The expert's count, as the body reads it. -/
def word (i : grid0.Coords) (CN : Vec F S8 .i32) : BitVec 32 := CN (ix1 (ex i))

/-- The rows gathered by the first `k` chunks. -/
def gathered (i : grid0.Coords) (v : BitVec 32) (RR : Vec F S128x896 .f32) (X : Vec F S896x1024 .bf16) (k : Nat)
    (hk : k ≤ (k0_t1_loop v).trips) (XS : Vec F S1024x1024 .bf16) : Vec F S1024x1024 .bf16 := fun y =>
  if h : (y 0).val / 128 < k then
    k0_pay30 i v (rows (m := 896) 0 8 RR) X ⟨(y 0).val / 128, h.trans_le hk⟩
      (ix2 (⟨(y 0).val % 128, Nat.mod_lt _ (by decide)⟩ : Fin 128) (y 1))
  else XS y

/-- The accumulator after the first `k` chunks' products. -/
def accumulated (w : Win F) (XS : Vec F S1024x1024 .bf16) (k : Nat) (ACC : Vec F S1024x1024 .f32) : Vec F S1024x1024 .f32 := fun y =>
  if (y 0).val / 128 < k then
    k0_pay2 (rows (m := 1024) (128 * ((y 0).val / 128)) 128 XS) w.W1 w.W3 (rows (m := 1024) (128 * ((y 0).val / 128)) 128 ACC) w.W2
      (ix2 (⟨(y 0).val % 128, Nat.mod_lt _ (by decide)⟩ : Fin 128) (y 1))
  else ACC y

/-- The output after the first `k` groups are put back in their rows. -/
def combined (i : grid0.Coords) (v : BitVec 32) (G : Vec F S896x128 .f32) (RC : Vec F S896x128 .f32)
    (ACC : Vec F S1024x1024 .f32) (O : Vec F S896x1024 .f32) : (k : Nat) → k ≤ (k0_t5_loop v).trips → Vec F S896x1024 .f32
  | 0, _ => O
  | k + 1, hk => k0_pay4 v (k0_pay15 (exW i) RC) (k0_pay16 (exW i) (k0_pay18 i) G) k0_pay17 0#32 1#32 ⟨k, hk⟩
      (rows (m := 1024) (256 * k) 256 ACC) (combined i v G RC ACC O k (Nat.le_of_succ_le hk))

/-- On the first tile of an expert: its rows are gathered and the accumulator is cleared. -/
def opB (i : grid0.Coords) (w : Win F) (s : St F) : St F :=
  if k0_cond2 i = 1#1 then
    if 256 < (word i s.CN).toNat then
      { s with XS := gathered i (word i s.CN) s.RR w.X (k0_t1_loop (word i s.CN)).trips le_rfl s.XS, ACC := k0_pay29 }
    else
      { s with XS := setTop (k0_pay28 i (rows (m := 896) 0 8 s.RR) w.X) s.XS, ACC := setTop k0_pay27 s.ACC }
  else s

/-- On every tile: the gathered rows' products are added to the accumulator. -/
def opC (i : grid0.Coords) (w : Win F) (s : St F) : St F :=
  if 256 < (word i s.CN).toNat then
    { s with ACC := accumulated w s.XS (k0_t3_loop (word i s.CN)).trips s.ACC }
  else
    { s with ACC := setTop (k0_pay1 (rows (m := 1024) 0 256 s.XS) w.W1 w.W3 (rows (m := 1024) 0 256 s.ACC) w.W2) s.ACC }

/-- On the last tile: the accumulator's rows are put back, times their gates. -/
def opD (i : grid0.Coords) (w : Win F) (s : St F) : St F :=
  if k0_cond7 i = 1#1 then
    { s with O := combined i (word i s.CN) w.G s.RC s.ACC s.O (k0_t5_loop (word i s.CN)).trips le_rfl }
  else s

/-- ONE GRID POINT. -/
def step (i : grid0.Coords) (w : Win F) (s : St F) : St F := opD i w (opC i w (opB i w (opA i w s)))

end Cert.Moe
-- ==== Proof.Trips.lean ====
/- What the counted loops leave in the memory they write, read back. -/
module

public import proofs.«01_k».proof.Proof.Step
public import proofs.«01_k».proof.Proof.Gen.KernelIdeal.Loops
public import proofs.«01_k».proof.Proof.Gen.KernelIdeal.Frame
public import Idealize.ShloMosaic.Lib.WritesUnit

@[expose] public section

set_option maxRecDepth 16384

noncomputable section

namespace Cert.Moe

open Cert.KernelIdeal Cert.KernelIdeal.Gen
open Idealize.ShloMosaic Idealize.ShloMosaic.TcCoe Idealize.ShloMosaic.ValueIdx
open Idealize.SL Idealize.SL.Sem

variable {F : FTy → Type} [FloatOps F]

abbrev 𝒱₀ : Variants := Variants.none

/-! ### Loads of whole buffers and of whole rows -/

section Loads
variable {sg : RefSig} {κ : Kind} {sp : Space} {e : EltTy} {Val : EltTy → Type}

/-- A load of the whole buffer reads it. -/
theorem readAt_full {s : Shape} (v : View sg κ sp s e) (f : v.ty.Contents Val) {off : Fin s.rank → Nat}
    (inb : ∀ a, off a + s.size a ≤ s.size a) :
    v.readAt Val (Rect.unit (s := s) off s.size inb).toLoadRect f = v.read Val f := by
  have h0 : off = fun _ => 0 := by funext a; have := inb a; omega
  subst h0
  funext x
  rw [View.readAt_apply]
  congr 1
  funext a
  apply Fin.ext
  simp [Rect.toLoadRect, Rect.unit]

/-- A load of `W` whole rows reads them. -/
theorem readAt_rows {n m W o : Nat} [NeZero n] (v : View sg κ sp (⟨2, ![n, m]⟩ : Shape) e) (f : v.ty.Contents Val) {off : Fin 2 → Nat}
    (inb : ∀ a : Fin 2, off a + (⟨2, ![W, m]⟩ : Shape).size a ≤ (⟨2, ![n, m]⟩ : Shape).size a) (hoff : off = ![o, 0]) :
    v.readAt Val (Rect.unit (s := ⟨2, ![n, m]⟩) off (⟨2, ![W, m]⟩ : Shape).size inb).toLoadRect f = rows o W (v.read Val f) := by
  subst hoff
  funext x
  rw [View.readAt_apply]
  unfold rows
  congr 1
  have hi : o + W ≤ n := inb 0
  have hx : (x 0).val < W := (x 0).isLt
  funext a
  apply Fin.ext
  match a with
  | 0 =>
    show _ = (Fin.ofNat n (o + (x 0).val)).val
    rw [Fin.val_ofNat, Nat.mod_eq_of_lt (by omega)]
    simp [Rect.toLoadRect, Rect.unit]
  | 1 =>
    show _ = (x 1).val
    simp [Rect.toLoadRect, Rect.unit]

end Loads

/-- The cell of the counts the body reads is its expert's. -/
theorem readAt_word (arg14 : Memref sig .tc .smem S8 .i32) (i : grid0.Coords) (f : arg14.view.ty.Contents (Elt F)) (x) :
    arg14.view.readAt (Elt F) (Rect.unit (s := S8) (k0_off1 i) S1.size (k0_off1_inb i)).toLoadRect f x
      = word (F := F) i (arg14.view.read (Elt F) f) := by
  rw [View.readAt_apply]
  unfold word
  congr 1
  funext a
  apply Fin.ext
  have hx : (x 0).val = 0 := by have : (x 0).val < 1 := (x 0).isLt; omega
  match a with
  | 0 =>
    show k0_off1 i 0 + 1 * (x 0).val = (ex i).val
    rw [hx, k0_off1_eq]; simp [ex]

theorem off_eq {f : Fin 2 → Nat} {a : Nat} (h0 : f 0 = a) (h1 : f 1 = 0) : f = ![a, 0] := by
  funext x; match x with
  | 0 => exact h0
  | 1 => exact h1

/-! ### The facts of a count's loops -/

theorem ofNat_of_le {v : BitVec 32} (hv : v.toNat ≤ 896) : ∃ n : Fin 897, n.val = v.toNat ∧ BitVec.ofNat 32 n.val = v :=
  ⟨⟨v.toNat, by omega⟩, rfl, by simp⟩

section
variable {v : BitVec 32} (hv : v.toNat ≤ 896)
include hv

theorem t1_trips : (k0_t1_loop v).trips = chunks v.toNat := by
  obtain ⟨n, h, rfl⟩ := ofNat_of_le hv; rw [← h]; exact (trips_facts n).1
theorem t2_trips : (k0_t2_loop v).trips = 0 := by
  obtain ⟨n, h, rfl⟩ := ofNat_of_le hv; exact (trips_facts n).2.1
theorem t3_trips : (k0_t3_loop v).trips = chunks v.toNat := by
  obtain ⟨n, h, rfl⟩ := ofNat_of_le hv; rw [← h]; exact (trips_facts n).2.2.1
theorem t4_trips : (k0_t4_loop v).trips = 0 := by
  obtain ⟨n, h, rfl⟩ := ofNat_of_le hv; exact (trips_facts n).2.2.2.1
theorem t5_trips : (k0_t5_loop v).trips = groups v.toNat := by
  obtain ⟨n, h, rfl⟩ := ofNat_of_le hv; rw [← h]; exact (trips_facts n).2.2.2.2.1
theorem t6_trips : (k0_t6_loop v).trips = 0 := by
  obtain ⟨n, h, rfl⟩ := ofNat_of_le hv; exact (trips_facts n).2.2.2.2.2.1
theorem cond4_iff : k0_cond4 v = 1#1 ↔ 256 < v.toNat := by
  obtain ⟨n, h, rfl⟩ := ofNat_of_le hv; rw [← h]; exact (trips_facts n).2.2.2.2.2.2.2.2.2.2.2.2.1
theorem cond6_iff : k0_cond6 v = 1#1 ↔ 256 < v.toNat := by
  obtain ⟨n, h, rfl⟩ := ofNat_of_le hv; rw [← h]; exact (trips_facts n).2.2.2.2.2.2.2.2.2.2.2.2.2.1
theorem sle_iff : Scalar.cmpi .sle v 256#32 = 1#1 ↔ v.toNat ≤ 256 := by
  obtain ⟨n, h, rfl⟩ := ofNat_of_le hv; rw [← h]; exact (trips_facts n).2.2.2.2.2.2.2.2.2.2.2.2.2.2
theorem single_iff : Scalar.cmpi .ne (Scalar.extui (Scalar.cmpi .sle v 256#32) : BitVec 32) 0#32 = 1#1 ↔ v.toNat ≤ 256 := by
  rw [← sle_iff hv]
  have h : ∀ b : BitVec 1, Scalar.cmpi .ne (Scalar.extui b : BitVec 32) 0#32 = 1#1 ↔ b = 1#1 := by decide
  exact h _
theorem off2 (k : Fin (k0_t1_loop v).trips) : k0_off2 v k = ![128 * k.val, 0] := by
  obtain ⟨n, h, rfl⟩ := ofNat_of_le hv; exact off_eq ((offs_facts n).1 k).1 ((offs_facts n).1 k).2.1
theorem off4 (k : Fin (k0_t3_loop v).trips) : k0_off4 v k = ![128 * k.val, 0] := by
  obtain ⟨n, h, rfl⟩ := ofNat_of_le hv; exact off_eq ((offs_facts n).2.1 k).1 ((offs_facts n).2.1 k).2.1
theorem off6 (k : Fin (k0_t5_loop v).trips) : k0_off6 v k = ![256 * k.val, 0] := by
  obtain ⟨n, h, rfl⟩ := ofNat_of_le hv; exact off_eq ((offs_facts n).2.2 k).1 ((offs_facts n).2.2 k).2.1
end

/-! ### The three loops -/

section Loops
variable (c : Dev nD) (i : grid0.Coords)
  (arg3 : Memref sig .tc .vmem S896x1024 .bf16) (harg3 : arg3.IsWhole) (arg4 : Memref sig .tc .vmem S896x128 .f32) (harg4 : arg4.IsWhole) (arg5 : Memref sig .tc .vmem S896x896 .bf16) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S896x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S896x128 .f32) (harg12 : arg12.IsWhole) (arg13 : Memref sig .tc .vmem S128x896 .f32) (harg13 : arg13.IsWhole) (arg14 : Memref sig .tc .smem S8 .i32) (harg14 : arg14.IsWhole)
  {v : BitVec 32} (w : k0_chk1 i v)

theorem tripL1 (h2 : k0_cond2 i = 1#1) (h4 : k0_cond4 v = 1#1) (v47 : Vec F S8x896 .f32) (v52 : Vec F S896x1024 .bf16)
    (k : Fin (k0_t1_loop v).trips) :
    tripL_k0_t1 (F := F) 𝒱₀ c none i arg3 harg3 arg4 harg4 arg5 harg5 arg6 harg6 arg7 harg7 arg8 harg8 arg9 harg9 arg10 harg10 arg11 harg11 arg12 harg12 arg13 harg13 arg14 harg14 v w h2 v47 v52 h4 k
      = [⟨Rect.unit (s := S1024x1024) (k0_off2 v k) S128x1024.size (k0_off2_inb i v w k h2 h4), k0_pay30 i v v47 v52 k⟩] := by
  unfold tripL_k0_t1 trip_k0_t1; rfl

/-- Reading after `k` chunks are gathered. -/
theorem read_t1 (hv : v.toNat ≤ 896) (h2 : k0_cond2 i = 1#1) (h4 : k0_cond4 v = 1#1) (RR : Vec F S128x896 .f32) (X : Vec F S896x1024 .bf16)
    (G : arg10.view.ty.Contents (Elt F)) (k : Nat) (hk : k ≤ (k0_t1_loop v).trips) :
    arg10.view.read (Elt F) (arg10.view.writes (Elt F) G
        (pb_k0_t1 (F := F) 𝒱₀ c none i arg3 harg3 arg4 harg4 arg5 harg5 arg6 harg6 arg7 harg7 arg8 harg8 arg9 harg9 arg10 harg10 arg11 harg11 arg12 harg12 arg13 harg13 arg14 harg14 v w h2 (rows (m := 896) 0 8 RR) X h4 k))
      = gathered i v RR X k hk (arg10.view.read (Elt F) G) := by
  induction k with
  | zero => funext y; unfold gathered; rw [dif_neg (by omega)]; rfl
  | succ k ih =>
    rw [pb_k0_t1_succ (F := F) 𝒱₀ c none i arg3 harg3 arg4 harg4 arg5 harg5 arg6 harg6 arg7 harg7 arg8 harg8 arg9 harg9 arg10 harg10 arg11 harg11 arg12 harg12 arg13 harg13 arg14 harg14 v w h2 _ X h4 ⟨k, hk⟩, tripL1, List.singleton_append]
    funext y
    by_cases hy : (y 0).val / 128 = k
    · have hlt : (y 0).val / 128 < k + 1 := by omega
      unfold gathered; rw [dif_pos hlt]
      subst hy
      exact View.read_writes_cons_rows_of_mem (d := ![1024, 1024]) _ _ _ _ _ y _ (off2 hv _) (by show (y 0).val = 128 * ((y 0).val / 128) + (y 0).val % 128; omega) rfl
    · refine (View.read_writes_cons_rows_of_not_mem (d := ![1024, 1024]) _ _ _ _ _ y (off2 hv _) (W := 128) rfl (by dsimp only; omega)).trans ?_
      rw [ih (Nat.le_of_succ_le hk)]
      unfold gathered
      by_cases hlt : (y 0).val / 128 < k
      · rw [dif_pos hlt, dif_pos (by omega)]
      · rw [dif_neg hlt, dif_neg (by omega)]

theorem tripL3 (h6 : k0_cond6 v = 1#1) (X6 : arg6.view.ty.Contents (Elt F)) (X7 : arg7.view.ty.Contents (Elt F))
    (X8 : arg8.view.ty.Contents (Elt F)) (X10 : arg10.view.ty.Contents (Elt F)) (k : Fin (k0_t3_loop v).trips) (f : arg11.view.ty.Contents (Elt F)) :
    tripL_k0_t3 (F := F) 𝒱₀ c none i arg3 harg3 arg4 harg4 arg5 harg5 arg6 harg6 arg7 harg7 arg8 harg8 arg9 harg9 arg10 harg10 arg11 harg11 arg12 harg12 arg13 harg13 arg14 harg14 v w h6 X6 X7 X8 X10 k f
      = [⟨Rect.unit (s := S1024x1024) (k0_off4 v k) S128x1024.size (k0_off4_inb i v w k h6),
          k0_pay2 (arg10.view.readAt (Elt F) (Rect.unit (s := S1024x1024) (k0_off4 v k) S128x1024.size (k0_off4_inb i v w k h6)).toLoadRect X10)
            (arg6.view.readAt (Elt F) (Rect.unit (s := S1x1024x1792) ![0, 0, 0] S1x1024x1792.size inb_S1x1024x1792_S1x1024x1792_0_0_0).toLoadRect X6)
            (arg7.view.readAt (Elt F) (Rect.unit (s := S1x1024x1792) ![0, 0, 0] S1x1024x1792.size inb_S1x1024x1792_S1x1024x1792_0_0_0).toLoadRect X7)
            (arg11.view.readAt (Elt F) (Rect.unit (s := S1024x1024) (k0_off4 v k) S128x1024.size (k0_off4_inb i v w k h6)).toLoadRect f)
            (arg8.view.readAt (Elt F) (Rect.unit (s := S1x1792x1024) ![0, 0, 0] S1x1792x1024.size inb_S1x1792x1024_S1x1792x1024_0_0_0).toLoadRect X8)⟩] := by
  unfold tripL_k0_t3 trip_k0_t3; rfl

/-- Reading after `k` chunks' products are added. -/
theorem read_t3 (hv : v.toNat ≤ 896) (h6 : k0_cond6 v = 1#1) (b : Win F) (X6 : arg6.view.ty.Contents (Elt F)) (X7 : arg7.view.ty.Contents (Elt F))
    (X8 : arg8.view.ty.Contents (Elt F)) (X10 : arg10.view.ty.Contents (Elt F))
    (e6 : arg6.view.read (Elt F) X6 = b.W1) (e7 : arg7.view.read (Elt F) X7 = b.W3) (e8 : arg8.view.read (Elt F) X8 = b.W2)
    (G : arg11.view.ty.Contents (Elt F)) (k : Nat) (hk : k ≤ (k0_t3_loop v).trips) :
    arg11.view.read (Elt F) (arg11.view.writes (Elt F) G
        (pb_k0_t3 (F := F) 𝒱₀ c none i arg3 harg3 arg4 harg4 arg5 harg5 arg6 harg6 arg7 harg7 arg8 harg8 arg9 harg9 arg10 harg10 arg11 harg11 arg12 harg12 arg13 harg13 arg14 harg14 v w h6 X6 X7 X8 X10 G k))
      = accumulated b (arg10.view.read (Elt F) X10) k (arg11.view.read (Elt F) G) := by
  induction k with
  | zero => funext y; unfold accumulated; rw [if_neg (by omega)]; rfl
  | succ k ih =>
    specialize ih (Nat.le_of_succ_le hk)
    rw [pb_k0_t3_succ (F := F) 𝒱₀ c none i arg3 harg3 arg4 harg4 arg5 harg5 arg6 harg6 arg7 harg7 arg8 harg8 arg9 harg9 arg10 harg10 arg11 harg11 arg12 harg12 arg13 harg13 arg14 harg14 v w h6 X6 X7 X8 X10 G ⟨k, hk⟩, tripL3, List.singleton_append]
    have e4 := off4 hv ⟨k, hk⟩
    funext y
    by_cases hy : (y 0).val / 128 = k
    · have hlt : (y 0).val / 128 < k + 1 := by omega
      unfold accumulated; rw [if_pos hlt]
      subst hy
      refine (View.read_writes_cons_rows_of_mem (d := ![1024, 1024]) _ _ _ _ _ y (ix2 (⟨(y 0).val % 128, Nat.mod_lt _ (by decide)⟩ : Fin 128) (y 1)) e4
        (by show (y 0).val = 128 * ((y 0).val / 128) + (y 0).val % 128; omega) rfl).trans ?_
      rw [readAt_rows (n := 1024) (m := 1024) (W := 128) arg10.view X10 _ e4, readAt_rows (n := 1024) (m := 1024) (W := 128) arg11.view _ _ e4,
        readAt_full, readAt_full, readAt_full, ih, e6, e7, e8]
      have hacc : rows (m := 1024) (128 * ((y 0).val / 128)) 128 (accumulated b (arg10.view.read (Elt F) X10) ((y 0).val / 128) (arg11.view.read (Elt F) G))
          = rows (128 * ((y 0).val / 128)) 128 (arg11.view.read (Elt F) G) := by
        funext x
        unfold rows accumulated
        have hx : (x 0).val < 128 := (x 0).isLt
        have hy2 : (y 0).val < 1024 := (y 0).isLt
        rw [if_neg]
        show ¬ (Fin.ofNat 1024 (128 * ((y 0).val / 128) + (x 0).val)).val / 128 < _
        rw [Fin.val_ofNat]
        omega
      rw [hacc]
      rfl
    · refine (View.read_writes_cons_rows_of_not_mem (d := ![1024, 1024]) _ _ _ _ _ y e4 (W := 128) rfl (by dsimp only; omega)).trans ?_
      rw [ih]
      unfold accumulated
      by_cases hlt : (y 0).val / 128 < k
      · rw [if_pos hlt, if_pos (by omega)]
      · rw [if_neg hlt, if_neg (by omega)]

theorem tripL5 (h7 : k0_cond7 i = 1#1) (v51 v58 : FVec F S896x1 .f32) (v60 : FVec F S896x256 .f32) (a b : BitVec 32)
    (X11 : arg11.view.ty.Contents (Elt F)) (k : Fin (k0_t5_loop v).trips) (f : arg9.view.ty.Contents (Elt F)) :
    tripL_k0_t5 (F := F) 𝒱₀ c none i arg3 harg3 arg4 harg4 arg5 harg5 arg6 harg6 arg7 harg7 arg8 harg8 arg9 harg9 arg10 harg10 arg11 harg11 arg12 harg12 arg13 harg13 arg14 harg14 v w h7 v51 v58 v60 a b X11 k f
      = [⟨Rect.unit (s := S896x1024) ![0, 0] S896x1024.size inb_S896x1024_S896x1024_0_0,
          k0_pay4 v v51 v58 v60 a b k
            (arg11.view.readAt (Elt F) (Rect.unit (s := S1024x1024) (k0_off6 v k) S256x1024.size (k0_off6_inb i v w k h7)).toLoadRect X11)
            (arg9.view.readAt (Elt F) (Rect.unit (s := S896x1024) ![0, 0] S896x1024.size inb_S896x1024_S896x1024_0_0).toLoadRect f)⟩] := by
  unfold tripL_k0_t5 trip_k0_t5; rfl

/-- Reading after `k` groups are put back. -/
theorem read_t5 (hv : v.toNat ≤ 896) (h7 : k0_cond7 i = 1#1) (RC : Vec F S896x128 .f32) (GT : Vec F S896x128 .f32)
    (X11 : arg11.view.ty.Contents (Elt F)) (G : arg9.view.ty.Contents (Elt F)) (k : Nat) (hk : k ≤ (k0_t5_loop v).trips) :
    arg9.view.read (Elt F) (arg9.view.writes (Elt F) G
        (pb_k0_t5 (F := F) 𝒱₀ c none i arg3 harg3 arg4 harg4 arg5 harg5 arg6 harg6 arg7 harg7 arg8 harg8 arg9 harg9 arg10 harg10 arg11 harg11 arg12 harg12 arg13 harg13 arg14 harg14 v w h7
          (k0_pay15 (exW i) RC) (k0_pay16 (exW i) (k0_pay18 i) GT) k0_pay17 0#32 1#32 X11 G k))
      = combined i v GT RC (arg11.view.read (Elt F) X11) (arg9.view.read (Elt F) G) k hk := by
  induction k with
  | zero => rfl
  | succ k ih =>
    specialize ih (Nat.le_of_succ_le hk)
    rw [pb_k0_t5_succ (F := F) 𝒱₀ c none i arg3 harg3 arg4 harg4 arg5 harg5 arg6 harg6 arg7 harg7 arg8 harg8 arg9 harg9 arg10 harg10 arg11 harg11 arg12 harg12 arg13 harg13 arg14 harg14 v w h7 _ _ _ _ _ X11 G ⟨k, hk⟩, tripL5, List.singleton_append]
    funext y
    refine (View.read_writes_cons_rows_of_mem (d := ![896, 1024]) _ _ _ _ _ y y rfl (Nat.zero_add _).symm rfl).trans ?_
    rw [readAt_rows (n := 1024) (m := 1024) (W := 256) arg11.view X11 _ (off6 hv ⟨k, hk⟩), readAt_full, ih]
    rfl
/-- The gather: what the two loops leave, the second making no trip. -/
theorem read_gather {CN : Vec F S8 .i32} (e : v = word (F := F) i CN) (hv : v.toNat ≤ 896) (h2 : k0_cond2 i = 1#1) (h4 : k0_cond4 v = 1#1)
    (RR : Vec F S128x896 .f32) (X : Vec F S896x1024 .bf16) {v47 : Vec F S8x896 .f32} {v52 : Vec F S896x1024 .bf16}
    (e47 : v47 = rows (m := 896) 0 8 RR) (e52 : v52 = X) {G : arg10.view.ty.Contents (Elt F)}
    {XS : Vec F S1024x1024 .bf16} (e10 : arg10.view.read (Elt F) G = XS) :
    arg10.view.read (Elt F) (arg10.view.writes (Elt F) G
        (pb_k0_t2 (F := F) 𝒱₀ c none i arg3 harg3 arg4 harg4 arg5 harg5 arg6 harg6 arg7 harg7 arg8 harg8 arg9 harg9 arg10 harg10 arg11 harg11 arg12 harg12 arg13 harg13 arg14 harg14 v w h2 v47 v52 h4 (Scf.trips (k0_t2_loop v).lb (k0_t2_loop v).ub (k0_t2_loop v).st)
          ++ pb_k0_t1 (F := F) 𝒱₀ c none i arg3 harg3 arg4 harg4 arg5 harg5 arg6 harg6 arg7 harg7 arg8 harg8 arg9 harg9 arg10 harg10 arg11 harg11 arg12 harg12 arg13 harg13 arg14 harg14 v w h2 v47 v52 h4 (Scf.trips (k0_t1_loop v).lb (k0_t1_loop v).ub (k0_t1_loop v).st)))
      = gathered i (word (F := F) i CN) RR X (k0_t1_loop (word (F := F) i CN)).trips le_rfl XS := by
  subst e e47 e52 e10
  have h0 : Scf.trips (k0_t2_loop (word (F := F) i CN)).lb (k0_t2_loop (word (F := F) i CN)).ub (k0_t2_loop (word (F := F) i CN)).st = 0 := t2_trips hv
  rw [h0]
  exact read_t1 c i arg3 harg3 arg4 harg4 arg5 harg5 arg6 harg6 arg7 harg7 arg8 harg8 arg9 harg9 arg10 harg10 arg11 harg11 arg12 harg12 arg13 harg13 arg14 harg14 w hv h2 h4 RR v52 G _ le_rfl

/-- The products: what the two loops leave, the second making no trip. -/
theorem read_add {CN : Vec F S8 .i32} (e : v = word (F := F) i CN) (hv : v.toNat ≤ 896) (h6 : k0_cond6 v = 1#1) (b : Win F)
    {X6 : arg6.view.ty.Contents (Elt F)} {X7 : arg7.view.ty.Contents (Elt F)} {X8 : arg8.view.ty.Contents (Elt F)} {X10 : arg10.view.ty.Contents (Elt F)}
    (e6 : arg6.view.read (Elt F) X6 = b.W1) (e7 : arg7.view.read (Elt F) X7 = b.W3) (e8 : arg8.view.read (Elt F) X8 = b.W2)
    {XS : Vec F S1024x1024 .bf16} (e10 : arg10.view.read (Elt F) X10 = XS)
    {G G' : arg11.view.ty.Contents (Elt F)} {ACC : Vec F S1024x1024 .f32} (e11 : arg11.view.read (Elt F) G = ACC) :
    arg11.view.read (Elt F) (arg11.view.writes (Elt F) G
        (pb_k0_t4 (F := F) 𝒱₀ c none i arg3 harg3 arg4 harg4 arg5 harg5 arg6 harg6 arg7 harg7 arg8 harg8 arg9 harg9 arg10 harg10 arg11 harg11 arg12 harg12 arg13 harg13 arg14 harg14 v w h6 X6 X7 X8 X10 G' (Scf.trips (k0_t4_loop v).lb (k0_t4_loop v).ub (k0_t4_loop v).st)
          ++ pb_k0_t3 (F := F) 𝒱₀ c none i arg3 harg3 arg4 harg4 arg5 harg5 arg6 harg6 arg7 harg7 arg8 harg8 arg9 harg9 arg10 harg10 arg11 harg11 arg12 harg12 arg13 harg13 arg14 harg14 v w h6 X6 X7 X8 X10 G (Scf.trips (k0_t3_loop v).lb (k0_t3_loop v).ub (k0_t3_loop v).st)))
      = accumulated b XS (k0_t3_loop (word (F := F) i CN)).trips ACC := by
  subst e e10 e11
  have h0 : Scf.trips (k0_t4_loop (word (F := F) i CN)).lb (k0_t4_loop (word (F := F) i CN)).ub (k0_t4_loop (word (F := F) i CN)).st = 0 := t4_trips hv
  rw [h0]
  exact read_t3 c i arg3 harg3 arg4 harg4 arg5 harg5 arg6 harg6 arg7 harg7 arg8 harg8 arg9 harg9 arg10 harg10 arg11 harg11 arg12 harg12 arg13 harg13 arg14 harg14 w hv h6 b X6 X7 X8 X10 e6 e7 e8 G _ le_rfl

/-- The return of the rows: what the two loops leave, the second making no trip. -/
theorem read_put {CN : Vec F S8 .i32} (e : v = word (F := F) i CN) (hv : v.toNat ≤ 896) (h7 : k0_cond7 i = 1#1) (RC GT : Vec F S896x128 .f32)
    {v51 v58 : FVec F S896x1 .f32} (e51 : v51 = k0_pay15 (exW i) RC) (e58 : v58 = k0_pay16 (exW i) (k0_pay18 i) GT) {v83 : BitVec 32}
    {X11 : arg11.view.ty.Contents (Elt F)} {ACC : Vec F S1024x1024 .f32} (e11 : arg11.view.read (Elt F) X11 = ACC)
    {G G' : arg9.view.ty.Contents (Elt F)} {O : Vec F S896x1024 .f32} (e9 : arg9.view.read (Elt F) G = O) :
    arg9.view.read (Elt F) (arg9.view.writes (Elt F) G
        (pb_k0_t6 (F := F) 𝒱₀ c none i arg3 harg3 arg4 harg4 arg5 harg5 arg6 harg6 arg7 harg7 arg8 harg8 arg9 harg9 arg10 harg10 arg11 harg11 arg12 harg12 arg13 harg13 arg14 harg14 v w h7 v51 v58 k0_pay17 v83 X11 G' (Scf.trips (k0_t6_loop v).lb (k0_t6_loop v).ub (k0_t6_loop v).st)
          ++ pb_k0_t5 (F := F) 𝒱₀ c none i arg3 harg3 arg4 harg4 arg5 harg5 arg6 harg6 arg7 harg7 arg8 harg8 arg9 harg9 arg10 harg10 arg11 harg11 arg12 harg12 arg13 harg13 arg14 harg14 v w h7 v51 v58 k0_pay17 0#32 1#32 X11 G (Scf.trips (k0_t5_loop v).lb (k0_t5_loop v).ub (k0_t5_loop v).st)))
      = combined i (word (F := F) i CN) GT RC ACC O (k0_t5_loop (word (F := F) i CN)).trips le_rfl := by
  subst e e51 e58 e11 e9
  have h0 : Scf.trips (k0_t6_loop (word (F := F) i CN)).lb (k0_t6_loop (word (F := F) i CN)).ub (k0_t6_loop (word (F := F) i CN)).st = 0 := t6_trips hv
  rw [h0]
  exact read_t5 c i arg3 harg3 arg4 harg4 arg5 harg5 arg6 harg6 arg7 harg7 arg8 harg8 arg9 harg9 arg10 harg10 arg11 harg11 arg12 harg12 arg13 harg13 arg14 harg14 w hv h7 RC GT X11 G _ le_rfl

omit [FloatOps F] in
/-- A write of the first rows, read back. -/
theorem read_top {e : EltTy} {W : Nat} (arg : Memref sig .tc .vmem S1024x1024 e) (f : arg.view.ty.Contents (Elt F)) {A : Vec F S1024x1024 e}
    (eA : arg.view.read (Elt F) f = A) (inb : ∀ a : Fin 2, (![0, 0] : Fin 2 → Nat) a + (⟨2, ![W, 1024]⟩ : Shape).size a ≤ S1024x1024.size a)
    {w B : Vec F ⟨2, ![W, 1024]⟩ e} (ew : w = B) :
    arg.view.read (Elt F) (arg.view.writes (Elt F) f [⟨Rect.unit (s := S1024x1024) ![0, 0] (⟨2, ![W, 1024]⟩ : Shape).size inb, w⟩]) = setTop B A := by
  subst ew eA
  funext y
  unfold setTop
  by_cases h : (y 0).val < W
  · rw [dif_pos h]
    exact View.read_writes_cons_rows_of_mem (d := ![1024, 1024]) _ _ _ _ _ y (ix2 (⟨(y 0).val, h⟩ : Fin W) (y 1)) rfl (Nat.zero_add _).symm rfl
  · rw [dif_neg h]
    exact View.read_writes_cons_rows_of_not_mem (d := ![1024, 1024]) _ _ _ _ _ y rfl (W := W) rfl (by right; omega)

omit [FloatOps F] in
/-- A write of the first rows over earlier writes, read back. -/
theorem read_top_over {e : EltTy} {W : Nat} (arg : Memref sig .tc .vmem S1024x1024 e) (f : arg.view.ty.Contents (Elt F)) (L : List (View.Piece (Elt F) S1024x1024 e)) {A : Vec F S1024x1024 e}
    (eA : arg.view.read (Elt F) (arg.view.writes (Elt F) f L) = A) (inb : ∀ a : Fin 2, (![0, 0] : Fin 2 → Nat) a + (⟨2, ![W, 1024]⟩ : Shape).size a ≤ S1024x1024.size a)
    {w B : Vec F ⟨2, ![W, 1024]⟩ e} (ew : w = B) :
    arg.view.read (Elt F) (arg.view.writes (Elt F) f (⟨Rect.unit (s := S1024x1024) ![0, 0] (⟨2, ![W, 1024]⟩ : Shape).size inb, w⟩ :: L)) = setTop B A := by
  subst ew eA
  funext y
  unfold setTop
  by_cases h : (y 0).val < W
  · rw [dif_pos h]
    exact View.read_writes_cons_rows_of_mem (d := ![1024, 1024]) _ _ _ _ _ y (ix2 (⟨(y 0).val, h⟩ : Fin W) (y 1)) rfl (Nat.zero_add _).symm rfl
  · rw [dif_neg h]
    exact View.read_writes_cons_rows_of_not_mem (d := ![1024, 1024]) _ _ _ _ _ y rfl (W := W) rfl (by right; omega)

omit [FloatOps F] in
/-- A write of the whole buffer, read back. -/
theorem read_whole {sp : Space} {e : EltTy} {s : Shape} (arg : Memref sig .tc sp s e) (f : arg.view.ty.Contents (Elt F)) {off : Fin s.rank → Nat}
    (inb : ∀ a, off a + s.size a ≤ s.size a) {w B : Vec F s e} (ew : w = B) (L) :
    arg.view.read (Elt F) (arg.view.writes (Elt F) f (⟨Rect.unit (s := s) off s.size inb, w⟩ :: L)) = B := by
  subst ew
  funext y
  exact View.read_writes_cons_hit_of_coords arg.view f (Rect.unit (s := s) off s.size inb) w L y y (fun a => by
    have := inb a
    show (y a).val = off a + 1 * (y a).val
    omega)

/-- A choice settled by its condition. -/
theorem read_pos {α β : Type} (f : α → β) {p : Prop} [Decidable p] (hp : p) {a : p → α} {b : ¬ p → α} {x : β} (h : f (a hp) = x) : f (dite p a b) = x := by
  rw [dif_pos hp]; exact h
theorem read_neg {α β : Type} (f : α → β) {p : Prop} [Decidable p] (hp : ¬ p) {a : p → α} {b : ¬ p → α} {x : β} (h : f (b hp) = x) : f (dite p a b) = x := by
  rw [dif_neg hp]; exact h
/-- The products over a list of earlier writes. -/
theorem read_add_over {CN : Vec F S8 .i32} (e : v = word (F := F) i CN) (hv : v.toNat ≤ 896) (h6 : k0_cond6 v = 1#1) (b : Win F)
    {X6 : arg6.view.ty.Contents (Elt F)} {X7 : arg7.view.ty.Contents (Elt F)} {X8 : arg8.view.ty.Contents (Elt F)} {X10 : arg10.view.ty.Contents (Elt F)}
    (e6 : arg6.view.read (Elt F) X6 = b.W1) (e7 : arg7.view.read (Elt F) X7 = b.W3) (e8 : arg8.view.read (Elt F) X8 = b.W2)
    {XS : Vec F S1024x1024 .bf16} (e10 : arg10.view.read (Elt F) X10 = XS)
    {f G' : arg11.view.ty.Contents (Elt F)} {L : List (View.Piece (Elt F) S1024x1024 .f32)} {ACC : Vec F S1024x1024 .f32}
    (e11 : arg11.view.read (Elt F) (arg11.view.writes (Elt F) f L) = ACC) :
    arg11.view.read (Elt F) (arg11.view.writes (Elt F) f
        (pb_k0_t4 (F := F) 𝒱₀ c none i arg3 harg3 arg4 harg4 arg5 harg5 arg6 harg6 arg7 harg7 arg8 harg8 arg9 harg9 arg10 harg10 arg11 harg11 arg12 harg12 arg13 harg13 arg14 harg14 v w h6 X6 X7 X8 X10 G' (Scf.trips (k0_t4_loop v).lb (k0_t4_loop v).ub (k0_t4_loop v).st)
          ++ (pb_k0_t3 (F := F) 𝒱₀ c none i arg3 harg3 arg4 harg4 arg5 harg5 arg6 harg6 arg7 harg7 arg8 harg8 arg9 harg9 arg10 harg10 arg11 harg11 arg12 harg12 arg13 harg13 arg14 harg14 v w h6 X6 X7 X8 X10 (arg11.view.writes (Elt F) f L) (Scf.trips (k0_t3_loop v).lb (k0_t3_loop v).ub (k0_t3_loop v).st) ++ L)))
      = accumulated b XS (k0_t3_loop (word (F := F) i CN)).trips ACC := by
  rw [← List.append_assoc, View.writes_append]
  exact read_add c i arg3 harg3 arg4 harg4 arg5 harg5 arg6 harg6 arg7 harg7 arg8 harg8 arg9 harg9 arg10 harg10 arg11 harg11 arg12 harg12 arg13 harg13 arg14 harg14 w e hv h6 b e6 e7 e8 e10 e11

omit [FloatOps F] in
/-- The first rows, once replaced, are what replaced them. -/
theorem rows_setTop {α : Type} (B : (⟨2, ![256, 1024]⟩ : Shape).Idx → α) (A : S1024x1024.Idx → α) : rows (n := 1024) (m := 1024) 0 256 (setTop B A) = B := by
  funext x
  have hx : (x 0).val < 256 := (x 0).isLt
  have h0 : (Fin.ofNat 1024 (0 + (x 0).val)).val = (x 0).val := by rw [Fin.val_ofNat]; omega
  unfold rows setTop
  rw [dif_pos (show (Fin.ofNat 1024 (0 + (x 0).val)).val < 256 by omega)]
  congr 1
  funext a
  match a with
  | 0 => exact Fin.ext h0
  | 1 => rfl

/-- A load of the first rows, just stored. -/
theorem readCov_top {e : EltTy} (arg : Memref sig .tc .vmem S1024x1024 e) (inb : ∀ a : Fin 2, (![0, 0] : Fin 2 → Nat) a + (⟨2, ![256, 1024]⟩ : Shape).size a ≤ S1024x1024.size a)
    (w : Vec F ⟨2, ![256, 1024]⟩ e) :
    arg.view.readCov [⟨Rect.unit (s := S1024x1024) ![0, 0] (⟨2, ![256, 1024]⟩ : Shape).size inb, w⟩]
      (Rect.unit (s := S1024x1024) ![0, 0] (⟨2, ![256, 1024]⟩ : Shape).size inb).toLoadRect = w := by
  unfold View.readCov
  rw [readAt_rows (n := 1024) (m := 1024) (W := 256) arg.view _ _ rfl, read_top (F := F) arg _ rfl inb rfl, rows_setTop]

omit [FloatOps F] in
/-- Counts written cell after cell, read back. -/
theorem read_cell (arg14 : Memref sig .tc .smem S8 .i32) (f : arg14.view.ty.Contents (Elt F)) (CN : Vec F S8 .i32) (m : Nat) (hm : m < 8)
    (inb : ∀ a : Fin 1, (![m] : Fin 1 → Nat) a + S1.size a ≤ S8.size a) (p) (L : List (View.Piece (Elt F) S8 .i32))
    (hp : ∀ x, p x = CN (ix1 (⟨m, hm⟩ : Fin 8)))
    (h : ∀ j : S8.Idx, (j 0).val < m → arg14.view.read (Elt F) (arg14.view.writes (Elt F) f L) j = CN j) (j : S8.Idx) (hj : (j 0).val < m + 1) :
    arg14.view.read (Elt F) (arg14.view.writes (Elt F) f (⟨Rect.unit (s := S8) ![m] S1.size inb, p⟩ :: L)) j = CN j := by
  by_cases hjm : (j 0).val = m
  · refine (View.read_writes_cons_hit_of_coords _ _ _ p L (fun a => ⟨0, (show 0 < S1.size a from by match a with | 0 => exact Nat.one_pos)⟩) j (fun a => ?_)).trans ((hp _).trans ?_)
    · match a with
      | 0 => show (j 0).val = m + 1 * 0; omega
    · congr 1; funext a; match a with
      | 0 => exact Fin.ext hjm.symm
  · refine (View.read_writes_cons_miss_of_axis _ _ _ _ j 0 m 1 rfl rfl rfl (by omega)).trans (h j (by omega))
end Loops

end Cert.Moe
-- ==== Proof.Body.lean ====
/- The body of the kernel at one grid point, run over any float values: it leaves what `step` says. -/
module

public import proofs.«01_k».proof.Proof.Trips

@[expose] public section

set_option maxRecDepth 16384
set_option maxHeartbeats 400000

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (E : Set ℕ) (i : grid0.Coords)
  (arg3 : Memref sig .tc .vmem S896x1024 .bf16) (harg3 : arg3.IsWhole) (arg4 : Memref sig .tc .vmem S896x128 .f32) (harg4 : arg4.IsWhole)
  (arg5 : Memref sig .tc .vmem S896x896 .bf16) (harg5 : arg5.IsWhole) (arg6 : Memref sig .tc .vmem S1x1024x1792 .bf16) (harg6 : arg6.IsWhole)
  (arg7 : Memref sig .tc .vmem S1x1024x1792 .bf16) (harg7 : arg7.IsWhole) (arg8 : Memref sig .tc .vmem S1x1792x1024 .bf16) (harg8 : arg8.IsWhole)
  (arg9 : Memref sig .tc .vmem S896x1024 .f32) (harg9 : arg9.IsWhole) (arg10 : Memref sig .tc .vmem S1024x1024 .bf16) (harg10 : arg10.IsWhole)
  (arg11 : Memref sig .tc .vmem S1024x1024 .f32) (harg11 : arg11.IsWhole) (arg12 : Memref sig .tc .vmem S896x128 .f32) (harg12 : arg12.IsWhole)
  (arg13 : Memref sig .tc .vmem S128x896 .f32) (harg13 : arg13.IsWhole) (arg14 : Memref sig .tc .smem S8 .i32) (harg14 : arg14.IsWhole)

/-- What the body finds: every window and every scratch buffer at its contents. -/
abbrev Found (f3 : arg3.view.ty.Contents (Elt F)) (f4 : arg4.view.ty.Contents (Elt F)) (f5 : arg5.view.ty.Contents (Elt F))
    (f6 : arg6.view.ty.Contents (Elt F)) (f7 : arg7.view.ty.Contents (Elt F)) (f8 : arg8.view.ty.Contents (Elt F))
    (f9 : arg9.view.ty.Contents (Elt F)) (f10 : arg10.view.ty.Contents (Elt F)) (f11 : arg11.view.ty.Contents (Elt F))
    (f12 : arg12.view.ty.Contents (Elt F)) (f13 : arg13.view.ty.Contents (Elt F)) (f14 : arg14.view.ty.Contents (Elt F)) : sProp 𝕄 :=
  iprop((arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13)
    ∗ (arg14.view.loc (c : Thread nD τ) ↦[arg14.view.set]{fullShare} f14))

/-- What the body leaves: the windows it reads as they were, the rest reading as a state says. -/
abbrev Left (f3 : arg3.view.ty.Contents (Elt F)) (f4 : arg4.view.ty.Contents (Elt F)) (f5 : arg5.view.ty.Contents (Elt F))
    (f6 : arg6.view.ty.Contents (Elt F)) (f7 : arg7.view.ty.Contents (Elt F)) (f8 : arg8.view.ty.Contents (Elt F)) (s : St F) : sProp 𝕄 :=
  iprop((arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ owns (Ix := Unit) (Val := Elt F) (Name := ℕ) (U := UR sig nD τ) (Lvl := ℕ) (c : Thread nD τ) arg9 fullShare s.O
    ∗ owns (Ix := Unit) (Val := Elt F) (Name := ℕ) (U := UR sig nD τ) (Lvl := ℕ) (c : Thread nD τ) arg10 fullShare s.XS
    ∗ owns (Ix := Unit) (Val := Elt F) (Name := ℕ) (U := UR sig nD τ) (Lvl := ℕ) (c : Thread nD τ) arg11 fullShare s.ACC
    ∗ owns (Ix := Unit) (Val := Elt F) (Name := ℕ) (U := UR sig nD τ) (Lvl := ℕ) (c : Thread nD τ) arg12 fullShare s.RC
    ∗ owns (Ix := Unit) (Val := Elt F) (Name := ℕ) (U := UR sig nD τ) (Lvl := ℕ) (c : Thread nD τ) arg13 fullShare s.RR
    ∗ owns (Ix := Unit) (Val := Elt F) (Name := ℕ) (U := UR sig nD τ) (Lvl := ℕ) (c : Thread nD τ) arg14 fullShare s.CN)

/-- The blocks read, out of the windows' contents. -/
abbrev winOf (f3 : arg3.view.ty.Contents (Elt F)) (f4 : arg4.view.ty.Contents (Elt F)) (f5 : arg5.view.ty.Contents (Elt F))
    (f6 : arg6.view.ty.Contents (Elt F)) (f7 : arg7.view.ty.Contents (Elt F)) (f8 : arg8.view.ty.Contents (Elt F)) : Win F :=
  ⟨arg3.view.read (Elt F) f3, arg4.view.read (Elt F) f4, arg5.view.read (Elt F) f5, arg6.view.read (Elt F) f6, arg7.view.read (Elt F) f7, arg8.view.read (Elt F) f8⟩

/-- The state found, out of the contents. -/
abbrev stOf (f9 : arg9.view.ty.Contents (Elt F)) (f10 : arg10.view.ty.Contents (Elt F)) (f11 : arg11.view.ty.Contents (Elt F))
    (f12 : arg12.view.ty.Contents (Elt F)) (f13 : arg13.view.ty.Contents (Elt F)) (f14 : arg14.view.ty.Contents (Elt F)) : St F :=
  ⟨arg9.view.read (Elt F) f9, arg10.view.read (Elt F) f10, arg11.view.read (Elt F) f11, arg12.view.read (Elt F) f12, arg13.view.read (Elt F) f13, arg14.view.read (Elt F) f14⟩

end

end Cert.Moe
-- ==== Proof.BodyE0.lean ====
/- The body of the kernel at the first expert, where the ranks and the counts are made. -/
module

public import proofs.«01_k».proof.Proof.Body

@[expose] public section

set_option maxRecDepth 16384
set_option maxHeartbeats 400000

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (E : Set ℕ) (i : grid0.Coords)
  (arg3 : Memref sig .tc .vmem S896x1024 .bf16) (harg3 : arg3.IsWhole) (arg4 : Memref sig .tc .vmem S896x128 .f32) (harg4 : arg4.IsWhole)
  (arg5 : Memref sig .tc .vmem S896x896 .bf16) (harg5 : arg5.IsWhole) (arg6 : Memref sig .tc .vmem S1x1024x1792 .bf16) (harg6 : arg6.IsWhole)
  (arg7 : Memref sig .tc .vmem S1x1024x1792 .bf16) (harg7 : arg7.IsWhole) (arg8 : Memref sig .tc .vmem S1x1792x1024 .bf16) (harg8 : arg8.IsWhole)
  (arg9 : Memref sig .tc .vmem S896x1024 .f32) (harg9 : arg9.IsWhole) (arg10 : Memref sig .tc .vmem S1024x1024 .bf16) (harg10 : arg10.IsWhole)
  (arg11 : Memref sig .tc .vmem S1024x1024 .f32) (harg11 : arg11.IsWhole) (arg12 : Memref sig .tc .vmem S896x128 .f32) (harg12 : arg12.IsWhole)
  (arg13 : Memref sig .tc .vmem S128x896 .f32) (harg13 : arg13.IsWhole) (arg14 : Memref sig .tc .smem S8 .i32) (harg14 : arg14.IsWhole)

theorem run_e0_multi (f3 f4 f5 f6 f7 f8 f9 f10 f11 f12 f13) (f14 : arg14.view.ty.Contents (Elt F))
    (h1 : k0_cond1 i = 1#1) (h2 : k0_cond2 i = 1#1) (h7 : ¬ k0_cond7 i = 1#1)
    (hv : (word (F := F) i (countWords i (arg4.view.read (Elt F) f4))).toNat ≤ 896) (hs : 256 < (word (F := F) i (countWords i (arg4.view.read (Elt F) f4))).toNat)
    (s' : St F) (hs' : step i (winOf arg3 arg4 arg5 arg6 arg7 arg8 f3 f4 f5 f6 f7 f8) (stOf arg9 arg10 arg11 arg12 arg13 arg14 f9 f10 f11 f12 f13 f14) = s') :
    Found c arg3 arg4 arg5 arg6 arg7 arg8 arg9 arg10 arg11 arg12 arg13 arg14 f3 f4 f5 f6 f7 f8 f9 f10 f11 f12 f13 f14
      ⊢ wp frame (wpE (defs₀ (F := F)) 𝒱₀ c none) E
          (cc0__moe_body i arg3 harg3 arg4 harg4 arg5 harg5 arg6 harg6 arg7 harg7 arg8 harg8 arg9 harg9 arg10 harg10 arg11 harg11 arg12 harg12 arg13 harg13 arg14 harg14)
          (fun _ => Left c arg3 arg4 arg5 arg6 arg7 arg8 arg9 arg10 arg11 arg12 arg13 arg14 f3 f4 f5 f6 f7 f8 s') := by
  rw [cc0__moe_body_eq_skeleton]; unfold cc0__moe_body_skel
  iintro ⟨H3, H4, H5, H6, H7, H8, H9, H10, H11, H12, H13, H14⟩
  sl_exec (disch := first | sl_exact h1 | sl_exact h2 | sl_exact h7)
  have eCN : arg14.view.read (Elt F) (arg14.view.writes (Elt F) arg14.view.junk (run_e0_multi.sl.H14_8 i arg4 f4)) = countWords i (arg4.view.read (Elt F) f4) := by
    unfold run_e0_multi.sl.H14_8
    funext j
    exact read_cell arg14 _ _ 7 (by decide) _ _ _
      (fun _ => congrArg (fun G => Scalar.fptosi (F := F) 32 (k0_pay24 (k0_pay11 (k0_pay18 i) G))) (readAt_full _ _ _)) (read_cell arg14 _ _ 6 (by decide) _ _ _
      (fun _ => congrArg (fun G => Scalar.fptosi (F := F) 32 (k0_pay23 (k0_pay11 (k0_pay18 i) G))) (readAt_full _ _ _)) (read_cell arg14 _ _ 5 (by decide) _ _ _
      (fun _ => congrArg (fun G => Scalar.fptosi (F := F) 32 (k0_pay22 (k0_pay11 (k0_pay18 i) G))) (readAt_full _ _ _)) (read_cell arg14 _ _ 4 (by decide) _ _ _
      (fun _ => congrArg (fun G => Scalar.fptosi (F := F) 32 (k0_pay21 (k0_pay11 (k0_pay18 i) G))) (readAt_full _ _ _)) (read_cell arg14 _ _ 3 (by decide) _ _ _
      (fun _ => congrArg (fun G => Scalar.fptosi (F := F) 32 (k0_pay20 (k0_pay11 (k0_pay18 i) G))) (readAt_full _ _ _)) (read_cell arg14 _ _ 2 (by decide) _ _ _
      (fun _ => congrArg (fun G => Scalar.fptosi (F := F) 32 (k0_pay19 (k0_pay11 (k0_pay18 i) G))) (readAt_full _ _ _)) (read_cell arg14 _ _ 1 (by decide) _ _ _
      (fun _ => congrArg (fun G => Scalar.fptosi (F := F) 32 (k0_pay13 (k0_pay18 i) G)) (readAt_full _ _ _)) (read_cell arg14 _ _ 0 (by decide) _ _ _
      (fun _ => congrArg (fun G => Scalar.fptosi (F := F) 32 (k0_pay12 (k0_pay18 i) G)) (readAt_full _ _ _)) (fun _ h => absurd h (Nat.not_lt_zero _))))))))) j (j 0).isLt
  have ew : (run_e0_multi.sl.r_9 i arg4 arg14 f4) = word i (countWords i (arg4.view.read (Elt F) f4)) := by
    unfold run_e0_multi.sl.r_9
    exact (readAt_word (F := F) arg14 i _ _).trans (congrArg (word i) eCN)
  have hv' : BitVec.toNat (run_e0_multi.sl.r_9 i arg4 arg14 f4) ≤ 896 := by rw [ew]; exact hv
  have w : k0_chk1 i (run_e0_multi.sl.r_9 i arg4 arg14 f4) := chk1_of_le i _ hv'
  have h4 : k0_cond4 (run_e0_multi.sl.r_9 i arg4 arg14 f4) = 1#1 := (cond4_iff hv').2 (by rw [ew]; exact hs)
  have h6 : k0_cond6 (run_e0_multi.sl.r_9 i arg4 arg14 f4) = 1#1 := (cond6_iff hv').2 (by rw [ew]; exact hs)
  have hl : ¬ Scalar.cmpi .ne (Scalar.extui (Scalar.cmpi .sle (run_e0_multi.sl.r_9 i arg4 arg14 f4) 256#32) : BitVec 32) 0#32 = 1#1 := by
    rw [single_iff hv', ew]; omega
  unfold step opA opB opD at hs'
  rw [if_pos h1, if_pos h2, if_neg h7] at hs'
  unfold opC at hs'
  rw [if_pos hs] at hs'
  rw [if_pos hs] at hs'
  subst hs'
  sl_exec (disch := first | sl_exact w | sl_exact h1 | sl_exact h2 | sl_exact h7 | sl_exact h4 | sl_exact h6 | sl_exact hl)
  have e47 : run_e0_multi.sl.v47 i arg4 arg5 arg13 f4 f5 = rows (m := 896) 0 8 (k0_pay10 (k0_pay18 i) (arg4.view.read (Elt F) f4) (arg5.view.read (Elt F) f5)) := by
    unfold run_e0_multi.sl.v47
    exact (readAt_rows (n := 128) (m := 896) (W := 8) arg13.view _ _ rfl).trans (congrArg (rows 0 8)
      (read_whole _ _ _ (congrArg₂ (fun G T => k0_pay10 (k0_pay18 i) G T) (readAt_full _ _ _) (readAt_full _ _ _)) _))
  sl_step
  isplitl [H3]; · iexact H3
  isplitl [H4]; · iexact H4
  isplitl [H5]; · iexact H5
  isplitl [H6]; · iexact H6
  isplitl [H7]; · iexact H7
  isplitl [H8]; · iexact H8
  isplitl [H9]
  · unfold owns
    iexists _; isplitr; rotate_left; · iexact H9
    ipureintro
    dsimp only
    exact read_whole _ _ _ rfl _
  isplitl [H10]
  · unfold owns
    iexists _; isplitr; rotate_left; · iexact H10
    ipureintro
    dsimp only
    refine read_gather c i arg3 harg3 arg4 harg4 arg5 harg5 arg6 harg6 arg7 harg7 arg8 harg8 arg9 harg9 arg10 harg10 arg11 harg11 arg12 harg12 arg13 harg13 arg14 harg14 _ ?_ ?_ h2 h4 _ _ ?_ ?_ ?_
    · exact ew
    · exact hv'
    · exact e47
    · exact readAt_full _ _ _
    · rfl
  isplitl [H11]
  · unfold owns
    iexists _; isplitr; rotate_left; · iexact H11
    ipureintro
    dsimp only
    refine read_add_over c i arg3 harg3 arg4 harg4 arg5 harg5 arg6 harg6 arg7 harg7 arg8 harg8 arg9 harg9 arg10 harg10 arg11 harg11 arg12 harg12 arg13 harg13 arg14 harg14 _ ?_ ?_ h6 (winOf arg3 arg4 arg5 arg6 arg7 arg8 f3 f4 f5 f6 f7 f8) ?_ ?_ ?_ ?_ ?_
    · exact ew
    · exact hv'
    · rfl
    · rfl
    · rfl
    · refine read_gather c i arg3 harg3 arg4 harg4 arg5 harg5 arg6 harg6 arg7 harg7 arg8 harg8 arg9 harg9 arg10 harg10 arg11 harg11 arg12 harg12 arg13 harg13 arg14 harg14 _ ?_ ?_ h2 h4 _ _ ?_ ?_ ?_
      · exact ew
      · exact hv'
      · exact e47
      · exact readAt_full _ _ _
      · rfl
    · unfold run_e0_multi.sl.H11_1
      exact read_whole _ _ _ rfl _
  isplitl [H12]
  · unfold owns
    iexists _; isplitr; rotate_left; · iexact H12
    ipureintro
    dsimp only
    refine read_whole _ _ _ ?_ _
    rw [readAt_full, readAt_full]
  isplitl [H13]
  · unfold owns
    iexists _; isplitr; rotate_left; · iexact H13
    ipureintro
    dsimp only
    refine read_whole _ _ _ ?_ _
    rw [readAt_full, readAt_full]
  · unfold owns
    iexists _; isplitr; rotate_left; · iexact H14
    ipureintro
    dsimp only
    exact eCN

theorem run_e0_single (f3 f4 f5 f6 f7 f8 f9 f10 f11 f12 f13) (f14 : arg14.view.ty.Contents (Elt F))
    (h1 : k0_cond1 i = 1#1) (h2 : k0_cond2 i = 1#1) (h7 : ¬ k0_cond7 i = 1#1)
    (hv : (word (F := F) i (countWords i (arg4.view.read (Elt F) f4))).toNat ≤ 896) (hs : ¬ 256 < (word (F := F) i (countWords i (arg4.view.read (Elt F) f4))).toNat)
    (s' : St F) (hs' : step i (winOf arg3 arg4 arg5 arg6 arg7 arg8 f3 f4 f5 f6 f7 f8) (stOf arg9 arg10 arg11 arg12 arg13 arg14 f9 f10 f11 f12 f13 f14) = s') :
    Found c arg3 arg4 arg5 arg6 arg7 arg8 arg9 arg10 arg11 arg12 arg13 arg14 f3 f4 f5 f6 f7 f8 f9 f10 f11 f12 f13 f14
      ⊢ wp frame (wpE (defs₀ (F := F)) 𝒱₀ c none) E
          (cc0__moe_body i arg3 harg3 arg4 harg4 arg5 harg5 arg6 harg6 arg7 harg7 arg8 harg8 arg9 harg9 arg10 harg10 arg11 harg11 arg12 harg12 arg13 harg13 arg14 harg14)
          (fun _ => Left c arg3 arg4 arg5 arg6 arg7 arg8 arg9 arg10 arg11 arg12 arg13 arg14 f3 f4 f5 f6 f7 f8 s') := by
  rw [cc0__moe_body_eq_skeleton]; unfold cc0__moe_body_skel
  iintro ⟨H3, H4, H5, H6, H7, H8, H9, H10, H11, H12, H13, H14⟩
  sl_exec (disch := first | sl_exact h1 | sl_exact h2 | sl_exact h7)
  have eCN : arg14.view.read (Elt F) (arg14.view.writes (Elt F) arg14.view.junk (run_e0_single.sl.H14_8 i arg4 f4)) = countWords i (arg4.view.read (Elt F) f4) := by
    unfold run_e0_single.sl.H14_8
    funext j
    exact read_cell arg14 _ _ 7 (by decide) _ _ _
      (fun _ => congrArg (fun G => Scalar.fptosi (F := F) 32 (k0_pay24 (k0_pay11 (k0_pay18 i) G))) (readAt_full _ _ _)) (read_cell arg14 _ _ 6 (by decide) _ _ _
      (fun _ => congrArg (fun G => Scalar.fptosi (F := F) 32 (k0_pay23 (k0_pay11 (k0_pay18 i) G))) (readAt_full _ _ _)) (read_cell arg14 _ _ 5 (by decide) _ _ _
      (fun _ => congrArg (fun G => Scalar.fptosi (F := F) 32 (k0_pay22 (k0_pay11 (k0_pay18 i) G))) (readAt_full _ _ _)) (read_cell arg14 _ _ 4 (by decide) _ _ _
      (fun _ => congrArg (fun G => Scalar.fptosi (F := F) 32 (k0_pay21 (k0_pay11 (k0_pay18 i) G))) (readAt_full _ _ _)) (read_cell arg14 _ _ 3 (by decide) _ _ _
      (fun _ => congrArg (fun G => Scalar.fptosi (F := F) 32 (k0_pay20 (k0_pay11 (k0_pay18 i) G))) (readAt_full _ _ _)) (read_cell arg14 _ _ 2 (by decide) _ _ _
      (fun _ => congrArg (fun G => Scalar.fptosi (F := F) 32 (k0_pay19 (k0_pay11 (k0_pay18 i) G))) (readAt_full _ _ _)) (read_cell arg14 _ _ 1 (by decide) _ _ _
      (fun _ => congrArg (fun G => Scalar.fptosi (F := F) 32 (k0_pay13 (k0_pay18 i) G)) (readAt_full _ _ _)) (read_cell arg14 _ _ 0 (by decide) _ _ _
      (fun _ => congrArg (fun G => Scalar.fptosi (F := F) 32 (k0_pay12 (k0_pay18 i) G)) (readAt_full _ _ _)) (fun _ h => absurd h (Nat.not_lt_zero _))))))))) j (j 0).isLt
  have ew : (run_e0_single.sl.r_9 i arg4 arg14 f4) = word i (countWords i (arg4.view.read (Elt F) f4)) := by
    unfold run_e0_single.sl.r_9
    exact (readAt_word (F := F) arg14 i _ _).trans (congrArg (word i) eCN)
  have hv' : BitVec.toNat (run_e0_single.sl.r_9 i arg4 arg14 f4) ≤ 896 := by rw [ew]; exact hv
  have w : k0_chk1 i (run_e0_single.sl.r_9 i arg4 arg14 f4) := chk1_of_le i _ hv'
  have h4 : ¬ k0_cond4 (run_e0_single.sl.r_9 i arg4 arg14 f4) = 1#1 := by rw [cond4_iff hv', ew]; exact hs
  have h6 : ¬ k0_cond6 (run_e0_single.sl.r_9 i arg4 arg14 f4) = 1#1 := by rw [cond6_iff hv', ew]; exact hs
  have hl : Scalar.cmpi .ne (Scalar.extui (Scalar.cmpi .sle (run_e0_single.sl.r_9 i arg4 arg14 f4) 256#32) : BitVec 32) 0#32 = 1#1 := by
    rw [single_iff hv', ew]; omega
  unfold step opA opB opD at hs'
  rw [if_pos h1, if_pos h2, if_neg h7] at hs'
  unfold opC at hs'
  rw [if_neg hs] at hs'
  rw [if_neg hs] at hs'
  subst hs'
  sl_exec (disch := first | sl_exact w | sl_exact h1 | sl_exact h2 | sl_exact h7 | sl_exact h4 | sl_exact h6 | sl_exact hl)
  have e47 : run_e0_single.sl.v47 i arg4 arg5 arg13 f4 f5 = rows (m := 896) 0 8 (k0_pay10 (k0_pay18 i) (arg4.view.read (Elt F) f4) (arg5.view.read (Elt F) f5)) := by
    unfold run_e0_single.sl.v47
    exact (readAt_rows (n := 128) (m := 896) (W := 8) arg13.view _ _ rfl).trans (congrArg (rows 0 8)
      (read_whole _ _ _ (congrArg₂ (fun G T => k0_pay10 (k0_pay18 i) G T) (readAt_full _ _ _) (readAt_full _ _ _)) _))
  sl_step
  isplitl [H3]; · iexact H3
  isplitl [H4]; · iexact H4
  isplitl [H5]; · iexact H5
  isplitl [H6]; · iexact H6
  isplitl [H7]; · iexact H7
  isplitl [H8]; · iexact H8
  isplitl [H9]
  · unfold owns
    iexists _; isplitr; rotate_left; · iexact H9
    ipureintro
    dsimp only
    exact read_whole _ _ _ rfl _
  isplitl [H10]
  · unfold owns
    iexists _; isplitr; rotate_left; · iexact H10
    ipureintro
    dsimp only
    unfold run_e0_single.sl.H10_1
    refine read_top (W := 256) arg10 _ ?_ _ ?_
    · rfl
    · rw [e47, readAt_full]
  isplitl [H11]
  · unfold owns
    iexists _; isplitr; rotate_left; · iexact H11
    ipureintro
    dsimp only
    unfold run_e0_single.sl.v44 run_e0_single.sl.v51 run_e0_single.sl.H11_1 run_e0_single.sl.H10_1
    refine read_top_over (W := 256) arg11 _ _ ?_ _ ?_
    · exact read_top (W := 256) arg11 _ rfl _ rfl
    · rw [readCov_top, readCov_top, rows_setTop, rows_setTop, e47, readAt_full, readAt_full, readAt_full, readAt_full]
  isplitl [H12]
  · unfold owns
    iexists _; isplitr; rotate_left; · iexact H12
    ipureintro
    dsimp only
    refine read_whole _ _ _ ?_ _
    rw [readAt_full, readAt_full]
  isplitl [H13]
  · unfold owns
    iexists _; isplitr; rotate_left; · iexact H13
    ipureintro
    dsimp only
    refine read_whole _ _ _ ?_ _
    rw [readAt_full, readAt_full]
  · unfold owns
    iexists _; isplitr; rotate_left; · iexact H14
    ipureintro
    dsimp only
    exact eCN

end

end Cert.Moe
-- ==== Proof.BodyF0.lean ====
/- The body of the kernel at the first part of the inner width, past the first expert. -/
module

public import proofs.«01_k».proof.Proof.Body

@[expose] public section

set_option maxRecDepth 16384
set_option maxHeartbeats 400000

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (E : Set ℕ) (i : grid0.Coords)
  (arg3 : Memref sig .tc .vmem S896x1024 .bf16) (harg3 : arg3.IsWhole) (arg4 : Memref sig .tc .vmem S896x128 .f32) (harg4 : arg4.IsWhole)
  (arg5 : Memref sig .tc .vmem S896x896 .bf16) (harg5 : arg5.IsWhole) (arg6 : Memref sig .tc .vmem S1x1024x1792 .bf16) (harg6 : arg6.IsWhole)
  (arg7 : Memref sig .tc .vmem S1x1024x1792 .bf16) (harg7 : arg7.IsWhole) (arg8 : Memref sig .tc .vmem S1x1792x1024 .bf16) (harg8 : arg8.IsWhole)
  (arg9 : Memref sig .tc .vmem S896x1024 .f32) (harg9 : arg9.IsWhole) (arg10 : Memref sig .tc .vmem S1024x1024 .bf16) (harg10 : arg10.IsWhole)
  (arg11 : Memref sig .tc .vmem S1024x1024 .f32) (harg11 : arg11.IsWhole) (arg12 : Memref sig .tc .vmem S896x128 .f32) (harg12 : arg12.IsWhole)
  (arg13 : Memref sig .tc .vmem S128x896 .f32) (harg13 : arg13.IsWhole) (arg14 : Memref sig .tc .smem S8 .i32) (harg14 : arg14.IsWhole)

theorem run_f0_multi (f3 f4 f5 f6 f7 f8 f9 f10 f11 f12 f13) (f14 : arg14.view.ty.Contents (Elt F))
    (h1 : ¬ k0_cond1 i = 1#1) (h2 : k0_cond2 i = 1#1) (h7 : ¬ k0_cond7 i = 1#1)
    (hv : (word (F := F) i (arg14.view.read (Elt F) f14)).toNat ≤ 896) (hs : 256 < (word (F := F) i (arg14.view.read (Elt F) f14)).toNat)
    (s' : St F) (hs' : step i (winOf arg3 arg4 arg5 arg6 arg7 arg8 f3 f4 f5 f6 f7 f8) (stOf arg9 arg10 arg11 arg12 arg13 arg14 f9 f10 f11 f12 f13 f14) = s') :
    Found c arg3 arg4 arg5 arg6 arg7 arg8 arg9 arg10 arg11 arg12 arg13 arg14 f3 f4 f5 f6 f7 f8 f9 f10 f11 f12 f13 f14
      ⊢ wp frame (wpE (defs₀ (F := F)) 𝒱₀ c none) E
          (cc0__moe_body i arg3 harg3 arg4 harg4 arg5 harg5 arg6 harg6 arg7 harg7 arg8 harg8 arg9 harg9 arg10 harg10 arg11 harg11 arg12 harg12 arg13 harg13 arg14 harg14)
          (fun _ => Left c arg3 arg4 arg5 arg6 arg7 arg8 arg9 arg10 arg11 arg12 arg13 arg14 f3 f4 f5 f6 f7 f8 s') := by
  have ew := readAt_word (F := F) arg14 i f14 (Shape.Idx.first (numel1_S1.symm ▸ Nat.one_pos))
  have hv' : BitVec.toNat (arg14.view.readAt (Elt F) (Rect.unit (s := S8) (k0_off1 i) S1.size (k0_off1_inb i)).toLoadRect f14 (Shape.Idx.first (numel1_S1.symm ▸ Nat.one_pos))) ≤ 896 := by rw [ew]; exact hv
  have w : k0_chk1 i (arg14.view.readAt (Elt F) (Rect.unit (s := S8) (k0_off1 i) S1.size (k0_off1_inb i)).toLoadRect f14 (Shape.Idx.first (numel1_S1.symm ▸ Nat.one_pos))) := chk1_of_le i _ hv'
  have h4 : k0_cond4 (arg14.view.readAt (Elt F) (Rect.unit (s := S8) (k0_off1 i) S1.size (k0_off1_inb i)).toLoadRect f14 (Shape.Idx.first (numel1_S1.symm ▸ Nat.one_pos))) = 1#1 := (cond4_iff hv').2 (by rw [ew]; exact hs)
  have h6 : k0_cond6 (arg14.view.readAt (Elt F) (Rect.unit (s := S8) (k0_off1 i) S1.size (k0_off1_inb i)).toLoadRect f14 (Shape.Idx.first (numel1_S1.symm ▸ Nat.one_pos))) = 1#1 := (cond6_iff hv').2 (by rw [ew]; exact hs)
  have hl : ¬ Scalar.cmpi .ne (Scalar.extui (Scalar.cmpi .sle (arg14.view.readAt (Elt F) (Rect.unit (s := S8) (k0_off1 i) S1.size (k0_off1_inb i)).toLoadRect f14 (Shape.Idx.first (numel1_S1.symm ▸ Nat.one_pos))) 256#32) : BitVec 32) 0#32 = 1#1 := by
    rw [single_iff hv', ew]; omega
  unfold step opA opB opD at hs'
  rw [if_neg h1, if_pos h2, if_neg h7] at hs'
  unfold opC at hs'
  rw [if_pos hs] at hs'
  rw [if_pos hs] at hs'
  subst hs'
  rw [cc0__moe_body_eq_skeleton]; unfold cc0__moe_body_skel
  iintro ⟨H3, H4, H5, H6, H7, H8, H9, H10, H11, H12, H13, H14⟩
  sl_exec (disch := first | sl_exact w | sl_exact h1 | sl_exact h2 | sl_exact h7 | sl_exact h4 | sl_exact h6 | sl_exact hl)
  sl_step
  isplitl [H3]; · iexact H3
  isplitl [H4]; · iexact H4
  isplitl [H5]; · iexact H5
  isplitl [H6]; · iexact H6
  isplitl [H7]; · iexact H7
  isplitl [H8]; · iexact H8
  isplitl [H9]
  · unfold owns
    iexists _; isplitr; rotate_left; · iexact H9
    ipureintro
    rfl
  isplitl [H10]
  · unfold owns
    iexists _; isplitr; rotate_left; · iexact H10
    ipureintro
    dsimp only
    refine read_gather c i arg3 harg3 arg4 harg4 arg5 harg5 arg6 harg6 arg7 harg7 arg8 harg8 arg9 harg9 arg10 harg10 arg11 harg11 arg12 harg12 arg13 harg13 arg14 harg14 _ ?_ ?_ h2 h4 _ _ ?_ ?_ ?_
    · exact ew
    · exact hv'
    · exact readAt_rows (n := 128) (m := 896) (W := 8) arg13.view _ _ rfl
    · exact readAt_full _ _ _
    · rfl
  isplitl [H11]
  · unfold owns
    iexists _; isplitr; rotate_left; · iexact H11
    ipureintro
    dsimp only
    refine read_add_over c i arg3 harg3 arg4 harg4 arg5 harg5 arg6 harg6 arg7 harg7 arg8 harg8 arg9 harg9 arg10 harg10 arg11 harg11 arg12 harg12 arg13 harg13 arg14 harg14 _ ?_ ?_ h6 (winOf arg3 arg4 arg5 arg6 arg7 arg8 f3 f4 f5 f6 f7 f8) ?_ ?_ ?_ ?_ ?_
    · exact ew
    · exact hv'
    · rfl
    · rfl
    · rfl
    · refine read_gather c i arg3 harg3 arg4 harg4 arg5 harg5 arg6 harg6 arg7 harg7 arg8 harg8 arg9 harg9 arg10 harg10 arg11 harg11 arg12 harg12 arg13 harg13 arg14 harg14 _ ?_ ?_ h2 h4 _ _ ?_ ?_ ?_
      · exact ew
      · exact hv'
      · exact readAt_rows (n := 128) (m := 896) (W := 8) arg13.view _ _ rfl
      · exact readAt_full _ _ _
      · rfl
    · unfold run_f0_multi.sl.H11_1
      exact read_whole _ _ _ rfl _
  isplitl [H12]
  · unfold owns
    iexists _; isplitr; rotate_left; · iexact H12
    ipureintro
    rfl
  isplitl [H13]
  · unfold owns
    iexists _; isplitr; rotate_left; · iexact H13
    ipureintro
    rfl
  · unfold owns
    iexists _; isplitr; rotate_left; · iexact H14
    ipureintro
    rfl

theorem run_f0_single (f3 f4 f5 f6 f7 f8 f9 f10 f11 f12 f13) (f14 : arg14.view.ty.Contents (Elt F))
    (h1 : ¬ k0_cond1 i = 1#1) (h2 : k0_cond2 i = 1#1) (h7 : ¬ k0_cond7 i = 1#1)
    (hv : (word (F := F) i (arg14.view.read (Elt F) f14)).toNat ≤ 896) (hs : ¬ 256 < (word (F := F) i (arg14.view.read (Elt F) f14)).toNat)
    (s' : St F) (hs' : step i (winOf arg3 arg4 arg5 arg6 arg7 arg8 f3 f4 f5 f6 f7 f8) (stOf arg9 arg10 arg11 arg12 arg13 arg14 f9 f10 f11 f12 f13 f14) = s') :
    Found c arg3 arg4 arg5 arg6 arg7 arg8 arg9 arg10 arg11 arg12 arg13 arg14 f3 f4 f5 f6 f7 f8 f9 f10 f11 f12 f13 f14
      ⊢ wp frame (wpE (defs₀ (F := F)) 𝒱₀ c none) E
          (cc0__moe_body i arg3 harg3 arg4 harg4 arg5 harg5 arg6 harg6 arg7 harg7 arg8 harg8 arg9 harg9 arg10 harg10 arg11 harg11 arg12 harg12 arg13 harg13 arg14 harg14)
          (fun _ => Left c arg3 arg4 arg5 arg6 arg7 arg8 arg9 arg10 arg11 arg12 arg13 arg14 f3 f4 f5 f6 f7 f8 s') := by
  have ew := readAt_word (F := F) arg14 i f14 (Shape.Idx.first (numel1_S1.symm ▸ Nat.one_pos))
  have hv' : BitVec.toNat (arg14.view.readAt (Elt F) (Rect.unit (s := S8) (k0_off1 i) S1.size (k0_off1_inb i)).toLoadRect f14 (Shape.Idx.first (numel1_S1.symm ▸ Nat.one_pos))) ≤ 896 := by rw [ew]; exact hv
  have w : k0_chk1 i (arg14.view.readAt (Elt F) (Rect.unit (s := S8) (k0_off1 i) S1.size (k0_off1_inb i)).toLoadRect f14 (Shape.Idx.first (numel1_S1.symm ▸ Nat.one_pos))) := chk1_of_le i _ hv'
  have h4 : ¬ k0_cond4 (arg14.view.readAt (Elt F) (Rect.unit (s := S8) (k0_off1 i) S1.size (k0_off1_inb i)).toLoadRect f14 (Shape.Idx.first (numel1_S1.symm ▸ Nat.one_pos))) = 1#1 := by rw [cond4_iff hv', ew]; exact hs
  have h6 : ¬ k0_cond6 (arg14.view.readAt (Elt F) (Rect.unit (s := S8) (k0_off1 i) S1.size (k0_off1_inb i)).toLoadRect f14 (Shape.Idx.first (numel1_S1.symm ▸ Nat.one_pos))) = 1#1 := by rw [cond6_iff hv', ew]; exact hs
  have hl : Scalar.cmpi .ne (Scalar.extui (Scalar.cmpi .sle (arg14.view.readAt (Elt F) (Rect.unit (s := S8) (k0_off1 i) S1.size (k0_off1_inb i)).toLoadRect f14 (Shape.Idx.first (numel1_S1.symm ▸ Nat.one_pos))) 256#32) : BitVec 32) 0#32 = 1#1 := by
    rw [single_iff hv', ew]; omega
  unfold step opA opB opD at hs'
  rw [if_neg h1, if_pos h2, if_neg h7] at hs'
  unfold opC at hs'
  rw [if_neg hs] at hs'
  rw [if_neg hs] at hs'
  subst hs'
  rw [cc0__moe_body_eq_skeleton]; unfold cc0__moe_body_skel
  iintro ⟨H3, H4, H5, H6, H7, H8, H9, H10, H11, H12, H13, H14⟩
  sl_exec (disch := first | sl_exact w | sl_exact h1 | sl_exact h2 | sl_exact h7 | sl_exact h4 | sl_exact h6 | sl_exact hl)
  sl_step
  isplitl [H3]; · iexact H3
  isplitl [H4]; · iexact H4
  isplitl [H5]; · iexact H5
  isplitl [H6]; · iexact H6
  isplitl [H7]; · iexact H7
  isplitl [H8]; · iexact H8
  isplitl [H9]
  · unfold owns
    iexists _; isplitr; rotate_left; · iexact H9
    ipureintro
    rfl
  isplitl [H10]
  · unfold owns
    iexists _; isplitr; rotate_left; · iexact H10
    ipureintro
    dsimp only
    unfold run_f0_single.sl.H10_1
    refine read_top (W := 256) arg10 _ ?_ _ ?_
    · rfl
    · rw [readAt_rows (n := 128) (m := 896) (W := 8) arg13.view _ _ rfl, readAt_full]
  isplitl [H11]
  · unfold owns
    iexists _; isplitr; rotate_left; · iexact H11
    ipureintro
    dsimp only
    unfold run_f0_single.sl.v44 run_f0_single.sl.v51 run_f0_single.sl.H11_1 run_f0_single.sl.H10_1
    refine read_top_over (W := 256) arg11 _ _ ?_ _ ?_
    · exact read_top (W := 256) arg11 _ rfl _ rfl
    · rw [readCov_top, readCov_top, rows_setTop, rows_setTop, readAt_rows (n := 128) (m := 896) (W := 8) arg13.view _ _ rfl, readAt_full, readAt_full, readAt_full, readAt_full]
  isplitl [H12]
  · unfold owns
    iexists _; isplitr; rotate_left; · iexact H12
    ipureintro
    rfl
  isplitl [H13]
  · unfold owns
    iexists _; isplitr; rotate_left; · iexact H13
    ipureintro
    rfl
  · unfold owns
    iexists _; isplitr; rotate_left; · iexact H14
    ipureintro
    rfl

end

end Cert.Moe
-- ==== Proof.BodyF1.lean ====
/- The body of the kernel at the second part of the inner width. -/
module

public import proofs.«01_k».proof.Proof.Body

@[expose] public section

set_option maxRecDepth 16384
set_option maxHeartbeats 400000

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (E : Set ℕ) (i : grid0.Coords)
  (arg3 : Memref sig .tc .vmem S896x1024 .bf16) (harg3 : arg3.IsWhole) (arg4 : Memref sig .tc .vmem S896x128 .f32) (harg4 : arg4.IsWhole)
  (arg5 : Memref sig .tc .vmem S896x896 .bf16) (harg5 : arg5.IsWhole) (arg6 : Memref sig .tc .vmem S1x1024x1792 .bf16) (harg6 : arg6.IsWhole)
  (arg7 : Memref sig .tc .vmem S1x1024x1792 .bf16) (harg7 : arg7.IsWhole) (arg8 : Memref sig .tc .vmem S1x1792x1024 .bf16) (harg8 : arg8.IsWhole)
  (arg9 : Memref sig .tc .vmem S896x1024 .f32) (harg9 : arg9.IsWhole) (arg10 : Memref sig .tc .vmem S1024x1024 .bf16) (harg10 : arg10.IsWhole)
  (arg11 : Memref sig .tc .vmem S1024x1024 .f32) (harg11 : arg11.IsWhole) (arg12 : Memref sig .tc .vmem S896x128 .f32) (harg12 : arg12.IsWhole)
  (arg13 : Memref sig .tc .vmem S128x896 .f32) (harg13 : arg13.IsWhole) (arg14 : Memref sig .tc .smem S8 .i32) (harg14 : arg14.IsWhole)

theorem run_f1_multi (f3 f4 f5 f6 f7 f8 f9 f10 f11 f12 f13) (f14 : arg14.view.ty.Contents (Elt F))
    (h1 : ¬ k0_cond1 i = 1#1) (h2 : ¬ k0_cond2 i = 1#1) (h7 : k0_cond7 i = 1#1)
    (hv : (word (F := F) i (arg14.view.read (Elt F) f14)).toNat ≤ 896) (hs : 256 < (word (F := F) i (arg14.view.read (Elt F) f14)).toNat)
    (s' : St F) (hs' : step i (winOf arg3 arg4 arg5 arg6 arg7 arg8 f3 f4 f5 f6 f7 f8) (stOf arg9 arg10 arg11 arg12 arg13 arg14 f9 f10 f11 f12 f13 f14) = s') :
    Found c arg3 arg4 arg5 arg6 arg7 arg8 arg9 arg10 arg11 arg12 arg13 arg14 f3 f4 f5 f6 f7 f8 f9 f10 f11 f12 f13 f14
      ⊢ wp frame (wpE (defs₀ (F := F)) 𝒱₀ c none) E
          (cc0__moe_body i arg3 harg3 arg4 harg4 arg5 harg5 arg6 harg6 arg7 harg7 arg8 harg8 arg9 harg9 arg10 harg10 arg11 harg11 arg12 harg12 arg13 harg13 arg14 harg14)
          (fun _ => Left c arg3 arg4 arg5 arg6 arg7 arg8 arg9 arg10 arg11 arg12 arg13 arg14 f3 f4 f5 f6 f7 f8 s') := by
  have ew := readAt_word (F := F) arg14 i f14 (Shape.Idx.first (numel1_S1.symm ▸ Nat.one_pos))
  have hv' : BitVec.toNat (arg14.view.readAt (Elt F) (Rect.unit (s := S8) (k0_off1 i) S1.size (k0_off1_inb i)).toLoadRect f14 (Shape.Idx.first (numel1_S1.symm ▸ Nat.one_pos))) ≤ 896 := by rw [ew]; exact hv
  have w : k0_chk1 i (arg14.view.readAt (Elt F) (Rect.unit (s := S8) (k0_off1 i) S1.size (k0_off1_inb i)).toLoadRect f14 (Shape.Idx.first (numel1_S1.symm ▸ Nat.one_pos))) := chk1_of_le i _ hv'
  have h6 : k0_cond6 (arg14.view.readAt (Elt F) (Rect.unit (s := S8) (k0_off1 i) S1.size (k0_off1_inb i)).toLoadRect f14 (Shape.Idx.first (numel1_S1.symm ▸ Nat.one_pos))) = 1#1 := (cond6_iff hv').2 (by rw [ew]; exact hs)
  have hl : ¬ Scalar.cmpi .ne (Scalar.extui (Scalar.cmpi .sle (arg14.view.readAt (Elt F) (Rect.unit (s := S8) (k0_off1 i) S1.size (k0_off1_inb i)).toLoadRect f14 (Shape.Idx.first (numel1_S1.symm ▸ Nat.one_pos))) 256#32) : BitVec 32) 0#32 = 1#1 := by
    rw [single_iff hv', ew]; omega
  unfold step opA opB opD at hs'
  rw [if_neg h1, if_neg h2, if_pos h7] at hs'
  unfold opC at hs'
  rw [if_pos hs] at hs'
  subst hs'
  rw [cc0__moe_body_eq_skeleton]; unfold cc0__moe_body_skel
  iintro ⟨H3, H4, H5, H6, H7, H8, H9, H10, H11, H12, H13, H14⟩
  sl_exec (disch := first | sl_exact w | sl_exact h1 | sl_exact h2 | sl_exact h7 | sl_exact h6 | sl_exact hl)
  sl_step
  isplitl [H3]; · iexact H3
  isplitl [H4]; · iexact H4
  isplitl [H5]; · iexact H5
  isplitl [H6]; · iexact H6
  isplitl [H7]; · iexact H7
  isplitl [H8]; · iexact H8
  isplitl [H9]
  · unfold owns
    iexists _; isplitr; rotate_left; · iexact H9
    ipureintro
    dsimp only
    refine read_put c i arg3 harg3 arg4 harg4 arg5 harg5 arg6 harg6 arg7 harg7 arg8 harg8 arg9 harg9 arg10 harg10 arg11 harg11 arg12 harg12 arg13 harg13 arg14 harg14 _ ?_ ?_ h7 (arg12.view.read (Elt F) f12) (arg4.view.read (Elt F) f4) ?_ ?_ ?_ ?_
    · exact ew
    · exact hv'
    · exact congrArg (k0_pay15 _) (readAt_full _ _ _)
    · exact congrArg (k0_pay16 _ _) (readAt_full _ _ _)
    · refine read_add c i arg3 harg3 arg4 harg4 arg5 harg5 arg6 harg6 arg7 harg7 arg8 harg8 arg9 harg9 arg10 harg10 arg11 harg11 arg12 harg12 arg13 harg13 arg14 harg14 _ ?_ ?_ h6 (winOf arg3 arg4 arg5 arg6 arg7 arg8 f3 f4 f5 f6 f7 f8) ?_ ?_ ?_ ?_ ?_
      · exact ew
      · exact hv'
      · rfl
      · rfl
      · rfl
      · rfl
      · rfl
    · rfl
  isplitl [H10]
  · unfold owns
    iexists _; isplitr; rotate_left; · iexact H10
    ipureintro
    rfl
  isplitl [H11]
  · unfold owns
    iexists _; isplitr; rotate_left; · iexact H11
    ipureintro
    dsimp only
    refine read_add c i arg3 harg3 arg4 harg4 arg5 harg5 arg6 harg6 arg7 harg7 arg8 harg8 arg9 harg9 arg10 harg10 arg11 harg11 arg12 harg12 arg13 harg13 arg14 harg14 _ ?_ ?_ h6 (winOf arg3 arg4 arg5 arg6 arg7 arg8 f3 f4 f5 f6 f7 f8) ?_ ?_ ?_ ?_ ?_
    · exact ew
    · exact hv'
    · rfl
    · rfl
    · rfl
    · rfl
    · rfl
  isplitl [H12]
  · unfold owns
    iexists _; isplitr; rotate_left; · iexact H12
    ipureintro
    rfl
  isplitl [H13]
  · unfold owns
    iexists _; isplitr; rotate_left; · iexact H13
    ipureintro
    rfl
  · unfold owns
    iexists _; isplitr; rotate_left; · iexact H14
    ipureintro
    rfl

theorem run_f1_single (f3 f4 f5 f6 f7 f8 f9 f10 f11 f12 f13) (f14 : arg14.view.ty.Contents (Elt F))
    (h1 : ¬ k0_cond1 i = 1#1) (h2 : ¬ k0_cond2 i = 1#1) (h7 : k0_cond7 i = 1#1)
    (hv : (word (F := F) i (arg14.view.read (Elt F) f14)).toNat ≤ 896) (hs : ¬ 256 < (word (F := F) i (arg14.view.read (Elt F) f14)).toNat)
    (s' : St F) (hs' : step i (winOf arg3 arg4 arg5 arg6 arg7 arg8 f3 f4 f5 f6 f7 f8) (stOf arg9 arg10 arg11 arg12 arg13 arg14 f9 f10 f11 f12 f13 f14) = s') :
    Found c arg3 arg4 arg5 arg6 arg7 arg8 arg9 arg10 arg11 arg12 arg13 arg14 f3 f4 f5 f6 f7 f8 f9 f10 f11 f12 f13 f14
      ⊢ wp frame (wpE (defs₀ (F := F)) 𝒱₀ c none) E
          (cc0__moe_body i arg3 harg3 arg4 harg4 arg5 harg5 arg6 harg6 arg7 harg7 arg8 harg8 arg9 harg9 arg10 harg10 arg11 harg11 arg12 harg12 arg13 harg13 arg14 harg14)
          (fun _ => Left c arg3 arg4 arg5 arg6 arg7 arg8 arg9 arg10 arg11 arg12 arg13 arg14 f3 f4 f5 f6 f7 f8 s') := by
  have ew := readAt_word (F := F) arg14 i f14 (Shape.Idx.first (numel1_S1.symm ▸ Nat.one_pos))
  have hv' : BitVec.toNat (arg14.view.readAt (Elt F) (Rect.unit (s := S8) (k0_off1 i) S1.size (k0_off1_inb i)).toLoadRect f14 (Shape.Idx.first (numel1_S1.symm ▸ Nat.one_pos))) ≤ 896 := by rw [ew]; exact hv
  have w : k0_chk1 i (arg14.view.readAt (Elt F) (Rect.unit (s := S8) (k0_off1 i) S1.size (k0_off1_inb i)).toLoadRect f14 (Shape.Idx.first (numel1_S1.symm ▸ Nat.one_pos))) := chk1_of_le i _ hv'
  have h6 : ¬ k0_cond6 (arg14.view.readAt (Elt F) (Rect.unit (s := S8) (k0_off1 i) S1.size (k0_off1_inb i)).toLoadRect f14 (Shape.Idx.first (numel1_S1.symm ▸ Nat.one_pos))) = 1#1 := by rw [cond6_iff hv', ew]; exact hs
  have hl : Scalar.cmpi .ne (Scalar.extui (Scalar.cmpi .sle (arg14.view.readAt (Elt F) (Rect.unit (s := S8) (k0_off1 i) S1.size (k0_off1_inb i)).toLoadRect f14 (Shape.Idx.first (numel1_S1.symm ▸ Nat.one_pos))) 256#32) : BitVec 32) 0#32 = 1#1 := by
    rw [single_iff hv', ew]; omega
  unfold step opA opB opD at hs'
  rw [if_neg h1, if_neg h2, if_pos h7] at hs'
  unfold opC at hs'
  rw [if_neg hs] at hs'
  subst hs'
  rw [cc0__moe_body_eq_skeleton]; unfold cc0__moe_body_skel
  iintro ⟨H3, H4, H5, H6, H7, H8, H9, H10, H11, H12, H13, H14⟩
  sl_exec (disch := first | sl_exact w | sl_exact h1 | sl_exact h2 | sl_exact h7 | sl_exact h6 | sl_exact hl)
  sl_step
  isplitl [H3]; · iexact H3
  isplitl [H4]; · iexact H4
  isplitl [H5]; · iexact H5
  isplitl [H6]; · iexact H6
  isplitl [H7]; · iexact H7
  isplitl [H8]; · iexact H8
  isplitl [H9]
  · unfold owns
    iexists _; isplitr; rotate_left; · iexact H9
    ipureintro
    dsimp only
    refine read_put c i arg3 harg3 arg4 harg4 arg5 harg5 arg6 harg6 arg7 harg7 arg8 harg8 arg9 harg9 arg10 harg10 arg11 harg11 arg12 harg12 arg13 harg13 arg14 harg14 _ ?_ ?_ h7 (arg12.view.read (Elt F) f12) (arg4.view.read (Elt F) f4) ?_ ?_ ?_ ?_
    · exact ew
    · exact hv'
    · exact congrArg (k0_pay15 _) (readAt_full _ _ _)
    · exact congrArg (k0_pay16 _ _) (readAt_full _ _ _)
    · refine read_top (W := 256) arg11 _ ?_ _ ?_
      · rfl
      · rw [readAt_rows (n := 1024) (m := 1024) (W := 256) arg10.view _ _ rfl, readAt_rows (n := 1024) (m := 1024) (W := 256) arg11.view _ _ rfl, readAt_full, readAt_full, readAt_full]
    · rfl
  isplitl [H10]
  · unfold owns
    iexists _; isplitr; rotate_left; · iexact H10
    ipureintro
    rfl
  isplitl [H11]
  · unfold owns
    iexists _; isplitr; rotate_left; · iexact H11
    ipureintro
    dsimp only
    refine read_top (W := 256) arg11 _ ?_ _ ?_
    · rfl
    · rw [readAt_rows (n := 1024) (m := 1024) (W := 256) arg10.view _ _ rfl, readAt_rows (n := 1024) (m := 1024) (W := 256) arg11.view _ _ rfl, readAt_full, readAt_full, readAt_full]
  isplitl [H12]
  · unfold owns
    iexists _; isplitr; rotate_left; · iexact H12
    ipureintro
    rfl
  isplitl [H13]
  · unfold owns
    iexists _; isplitr; rotate_left; · iexact H13
    ipureintro
    rfl
  · unfold owns
    iexists _; isplitr; rotate_left; · iexact H14
    ipureintro
    rfl

end

end Cert.Moe
-- ==== Proof.BodyAll.lean ====
/- The body of the kernel at every grid point: it leaves what `step` says, the count read being at most 896. -/
module

public import proofs.«01_k».proof.Proof.BodyE0
public import proofs.«01_k».proof.Proof.BodyF0
public import proofs.«01_k».proof.Proof.BodyF1

@[expose] public section

set_option maxRecDepth 16384
set_option maxHeartbeats 400000

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem cond1_iff (i : grid0.Coords) : k0_cond1 i = 1#1 ↔ (i 1).val = 0 ∧ (i 2).val = 0 := by
  have h1 : (i 1).val < 8 := (i 1).isLt
  have h2 : (i 2).val < 2 := (i 2).isLt
  unfold k0_cond1
  generalize (i 1).val = a at h1 ⊢
  generalize (i 2).val = b at h2 ⊢
  revert b a
  decide

theorem cond2_iff (i : grid0.Coords) : k0_cond2 i = 1#1 ↔ (i 2).val = 0 := by
  have h2 : (i 2).val < 2 := (i 2).isLt
  unfold k0_cond2
  generalize (i 2).val = b at h2 ⊢
  revert b
  decide

theorem cond7_iff (i : grid0.Coords) : k0_cond7 i = 1#1 ↔ (i 2).val = 1 := by
  have h2 : (i 2).val < 2 := (i 2).isLt
  unfold k0_cond7
  generalize (i 2).val = b at h2 ⊢
  revert b
  decide

section
variable (c : Dev nD) (E : Set ℕ) (i : grid0.Coords)
  (arg3 : Memref sig .tc .vmem S896x1024 .bf16) (harg3 : arg3.IsWhole) (arg4 : Memref sig .tc .vmem S896x128 .f32) (harg4 : arg4.IsWhole)
  (arg5 : Memref sig .tc .vmem S896x896 .bf16) (harg5 : arg5.IsWhole) (arg6 : Memref sig .tc .vmem S1x1024x1792 .bf16) (harg6 : arg6.IsWhole)
  (arg7 : Memref sig .tc .vmem S1x1024x1792 .bf16) (harg7 : arg7.IsWhole) (arg8 : Memref sig .tc .vmem S1x1792x1024 .bf16) (harg8 : arg8.IsWhole)
  (arg9 : Memref sig .tc .vmem S896x1024 .f32) (harg9 : arg9.IsWhole) (arg10 : Memref sig .tc .vmem S1024x1024 .bf16) (harg10 : arg10.IsWhole)
  (arg11 : Memref sig .tc .vmem S1024x1024 .f32) (harg11 : arg11.IsWhole) (arg12 : Memref sig .tc .vmem S896x128 .f32) (harg12 : arg12.IsWhole)
  (arg13 : Memref sig .tc .vmem S128x896 .f32) (harg13 : arg13.IsWhole) (arg14 : Memref sig .tc .smem S8 .i32) (harg14 : arg14.IsWhole)

theorem run_body (f3 f4 f5 f6 f7 f8 f9 f10 f11 f12 f13) (f14 : arg14.view.ty.Contents (Elt F))
    (hv : (word (F := F) i (opA i (winOf arg3 arg4 arg5 arg6 arg7 arg8 f3 f4 f5 f6 f7 f8) (stOf arg9 arg10 arg11 arg12 arg13 arg14 f9 f10 f11 f12 f13 f14)).CN).toNat ≤ 896)
    (s' : St F) (hs' : step i (winOf arg3 arg4 arg5 arg6 arg7 arg8 f3 f4 f5 f6 f7 f8) (stOf arg9 arg10 arg11 arg12 arg13 arg14 f9 f10 f11 f12 f13 f14) = s') :
    Found c arg3 arg4 arg5 arg6 arg7 arg8 arg9 arg10 arg11 arg12 arg13 arg14 f3 f4 f5 f6 f7 f8 f9 f10 f11 f12 f13 f14
      ⊢ wp frame (wpE (defs₀ (F := F)) 𝒱₀ c none) E
          (cc0__moe_body i arg3 harg3 arg4 harg4 arg5 harg5 arg6 harg6 arg7 harg7 arg8 harg8 arg9 harg9 arg10 harg10 arg11 harg11 arg12 harg12 arg13 harg13 arg14 harg14)
          (fun _ => Left c arg3 arg4 arg5 arg6 arg7 arg8 arg9 arg10 arg11 arg12 arg13 arg14 f3 f4 f5 f6 f7 f8 s') := by
  have h2lt : (i 2).val < 2 := (i 2).isLt
  by_cases h1 : k0_cond1 i = 1#1
  · have h2 : k0_cond2 i = 1#1 := (cond2_iff i).2 ((cond1_iff i).1 h1).2
    have h7 : ¬ k0_cond7 i = 1#1 := fun h => by have := (cond7_iff i).1 h; have := (cond2_iff i).1 h2; omega
    unfold opA at hv
    rw [if_pos h1] at hv
    by_cases hs : 256 < (word (F := F) i (countWords i (arg4.view.read (Elt F) f4))).toNat
    · exact run_e0_multi c E i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 h1 h2 h7 hv hs s' hs'
    · exact run_e0_single c E i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 h1 h2 h7 hv hs s' hs'
  · unfold opA at hv
    rw [if_neg h1] at hv
    by_cases h2 : k0_cond2 i = 1#1
    · have h7 : ¬ k0_cond7 i = 1#1 := fun h => by have := (cond7_iff i).1 h; have := (cond2_iff i).1 h2; omega
      by_cases hs : 256 < (word (F := F) i (arg14.view.read (Elt F) f14)).toNat
      · exact run_f0_multi c E i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 h1 h2 h7 hv hs s' hs'
      · exact run_f0_single c E i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 h1 h2 h7 hv hs s' hs'
    · have h7 : k0_cond7 i = 1#1 := (cond7_iff i).2 (by have : ¬ (i 2).val = 0 := fun h => h2 ((cond2_iff i).2 h); omega)
      by_cases hs : 256 < (word (F := F) i (arg14.view.read (Elt F) f14)).toNat
      · exact run_f1_multi c E i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 h1 h2 h7 hv hs s' hs'
      · exact run_f1_single c E i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 h1 h2 h7 hv hs s' hs'

end

end Cert.Moe
-- ==== Proof.Point.lean ====
/- One grid point run on the buffers the pipeline hands the body: the windows' staging buffers and the scratch memory
   owned at given contents, the body leaves what `step` says. -/
module

public import proofs.«01_k».proof.Proof.BodyAll
public import proofs.«01_k».proof.Proof.Gen.KernelIdeal.Frame
public import Idealize.ShloMosaic.Lib.Pipeline.KitQuiescent

@[expose] public section

set_option maxRecDepth 16384
set_option maxHeartbeats 400000

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-- The scratch memory of core `c` at a state's contents. -/
abbrev held (c : Dev nD) (s : St F) : sProp 𝕄 :=
  iprop(owns (Ix := Unit) (Val := Elt F) (Name := ℕ) (U := UR sig nD τ) (Lvl := ℕ) (c : Thread nD τ) (Memref.whole cc0_scratch0) fullShare s.XS
    ∗ owns (Ix := Unit) (Val := Elt F) (Name := ℕ) (U := UR sig nD τ) (Lvl := ℕ) (c : Thread nD τ) (Memref.whole cc0_scratch1) fullShare s.ACC
    ∗ owns (Ix := Unit) (Val := Elt F) (Name := ℕ) (U := UR sig nD τ) (Lvl := ℕ) (c : Thread nD τ) (Memref.whole cc0_scratch2) fullShare s.RC
    ∗ owns (Ix := Unit) (Val := Elt F) (Name := ℕ) (U := UR sig nD τ) (Lvl := ℕ) (c : Thread nD τ) (Memref.whole cc0_scratch3) fullShare s.RR
    ∗ owns (Ix := Unit) (Val := Elt F) (Name := ℕ) (U := UR sig nD τ) (Lvl := ℕ) (c : Thread nD τ) (Memref.whole cc0_scratch4) fullShare s.CN)

/-- The blocks read, in their staging buffers. -/
abbrev staged (c : Dev nD) (t : Fin cfg0.N) (w : Win F) : sProp 𝕄 :=
  iprop(owns (Ix := Unit) (Val := Elt F) (Name := ℕ) (U := UR sig nD τ) (Lvl := ℕ) (c : Thread nD τ) (win0_0.stage (cfg0.slots t 0)) fullShare w.X
    ∗ owns (Ix := Unit) (Val := Elt F) (Name := ℕ) (U := UR sig nD τ) (Lvl := ℕ) (c : Thread nD τ) (win0_1.stage (cfg0.slots t 1)) fullShare w.G
    ∗ owns (Ix := Unit) (Val := Elt F) (Name := ℕ) (U := UR sig nD τ) (Lvl := ℕ) (c : Thread nD τ) (win0_2.stage (cfg0.slots t 2)) fullShare w.T
    ∗ owns (Ix := Unit) (Val := Elt F) (Name := ℕ) (U := UR sig nD τ) (Lvl := ℕ) (c : Thread nD τ) (win0_3.stage (cfg0.slots t 3)) fullShare w.W1
    ∗ owns (Ix := Unit) (Val := Elt F) (Name := ℕ) (U := UR sig nD τ) (Lvl := ℕ) (c : Thread nD τ) (win0_4.stage (cfg0.slots t 4)) fullShare w.W3
    ∗ owns (Ix := Unit) (Val := Elt F) (Name := ℕ) (U := UR sig nD τ) (Lvl := ℕ) (c : Thread nD τ) (win0_5.stage (cfg0.slots t 5)) fullShare w.W2)

/-- The result's staging buffer. -/
abbrev outAt (c : Dev nD) (t : Fin cfg0.N) (O : Vec F S896x1024 .f32) : sProp 𝕄 :=
  owns (Ix := Unit) (Val := Elt F) (Name := ℕ) (U := UR sig nD τ) (Lvl := ℕ) (c : Thread nD τ) (win0_6.stage (cfg0.slots t 6)) fullShare O

theorem run_point (c : Dev nD) (t : Fin cfg0.N) (w : Win F) (s : St F)
    (hv : (word (F := F) (grid0.coords t) (opA (grid0.coords t) w s).CN).toNat ≤ 896) (K : PUnit → sProp 𝕄) :
    iprop(staged c t w ∗ outAt c t s.O ∗ held c s
        ∗ (iprop(staged c t w ∗ outAt c t (step (grid0.coords t) w s).O ∗ held c (step (grid0.coords t) w s)) -∗ K ⟨⟩))
      ⊢ wp frame (wpE (defs₀ (F := F)) 𝒱₀ c none) Set.univ (bodyAt0 t) K := by
  obtain ⟨X, G, T, W1, W3, W2⟩ := w
  obtain ⟨O, XS, ACC, RC, RR, CN⟩ := s
  dsimp only [staged, outAt, held, bodyAt0]
  generalize hs' : step (grid0.coords t) ⟨X, G, T, W1, W3, W2⟩ ⟨O, XS, ACC, RC, RR, CN⟩ = s'
  unfold owns
  iintro ⟨⟨⟨%f3, %e3, H3⟩, ⟨%f4, %e4, H4⟩, ⟨%f5, %e5, H5⟩, ⟨%f6, %e6, H6⟩, ⟨%f7, %e7, H7⟩, ⟨%f8, %e8, H8⟩⟩, ⟨%f9, %e9, H9⟩, ⟨⟨%f10, %e10, H10⟩, ⟨%f11, %e11, H11⟩, ⟨%f12, %e12, H12⟩, ⟨%f13, %e13, H13⟩, ⟨%f14, %e14, H14⟩⟩, Hk⟩
  subst e3 e4 e5 e6 e7 e8 e9 e10 e11 e12 e13 e14
  iapply ((sep_mono (run_body c Set.univ (grid0.coords t) _ _ _ _ _ _ _ _ _ _ _ _ _ _ _ _ _ _ _ _ _ _ _ _ f3 f4 f5 f6 f7 f8 f9 f10 f11 f12 f13 f14 hv s' hs') .rfl).trans (wp_wand_r _ _ _))
  isplitl [H3 H4 H5 H6 H7 H8 H9 H10 H11 H12 H13 H14]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %a ⟨H3, H4, H5, H6, H7, H8, H9, H10, H11, H12, H13, H14⟩
  unfold owns
  iapply Hk
  isplitl [H3 H4 H5 H6 H7 H8]
  · isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    iexists f8; isplitr; · ipureintro; rfl
    iexact H8
  isplitl [H9]; · iexact H9
  isplitl [H10]; · iexact H10
  isplitl [H11]; · iexact H11
  isplitl [H12]; · iexact H12
  isplitl [H13]; · iexact H13
  iexact H14

end Cert.Moe
-- ==== Proof.Frames.lean ====
/- The launch over any float values whose counts read back small: every grid point runs by `run_point`, and the
   argument arrays end as launched. -/
module

public import proofs.«01_k».proof.Proof.Point
public import Idealize.ShloMosaic.Lib.Pipeline.Frame

@[expose] public section

set_option maxRecDepth 16384
set_option maxHeartbeats 400000

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's block in its staging buffer, the part outside the array anything. -/
def filled (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The blocks point `t` reads, the parts outside the arrays as `d0` and `d1` have them. -/
abbrev winAt (c : Dev nD) (t : Fin cfg0.N) (d0 : Vec F S896x1024 .bf16) (d1 : Vec F S896x128 .f32) : Win F :=
  ⟨filled m c 0 t d0, filled m c 1 t d1, iblk m c 2 t, iblk m c 3 t, iblk m c 4 t, iblk m c 5 t⟩

/-- The counts held are counts of rows. -/
def Small (CN : Vec F S8 .i32) : Prop := ∀ j, (CN j).toNat ≤ 896

/-- The proof data: a relation `Inv` on the scratch memory carried between points, a value `out` left in the
    result's staging buffer. -/
def datOf (Inv : Fin (cfg0.N + 1) → St F → Prop) (out : Fin cfg0.N → Vec F S896x1024 .f32) (c : Dev nD) :
    Dat τ (Elt F) Unit ℕ (UR sig nD τ) ℕ cfg0 c where
  A w := V m c (Pipeline.arrRef spec0 w)
  after w t := match w with
    | 0 => filled m c 0 t (Pipeline.Dat.unnamed (cfg := cfg0) 0 t)
    | 1 => filled m c 1 t (Pipeline.Dat.unnamed (cfg := cfg0) 1 t)
    | 2 => iblk m c 2 t
    | 3 => iblk m c 3 t
    | 4 => iblk m c 4 t
    | 5 => iblk m c 5 t
    | 6 => out t
  Φ t := iprop(∃ s : St F, ⌜Inv t s⌝ ∗ held c s ∗ ∃ r, prngReg c r)
  q _ := fullShare
  owed _ := 0

section
variable (Inv : Fin (cfg0.N + 1) → St F → Prop) (out : Fin cfg0.N → Vec F S896x1024 .f32)

theorem before_0 (c : Dev nD) (t : Fin cfg0.N) (d) : (datOf m Inv out c).before 0 t d = filled m c 0 t d :=
  ((datOf m Inv out c).before_in_eq_fetched 0 rfl (fun _ => rfl)
    (fun t t' h => funext fun a => congrArg (fun ix : Fin 2 → Nat => Pipeline.Clip.of (ix a) (S896x1024.size a) (S32768x1024.size a)) h)
    (fun t => (cfg0.win 0).cut_fill _ _ _) t d).trans rfl

theorem before_1 (c : Dev nD) (t : Fin cfg0.N) (d) : (datOf m Inv out c).before 1 t d = filled m c 1 t d :=
  ((datOf m Inv out c).before_in_eq_fetched 1 rfl (fun _ => rfl)
    (fun t t' h => funext fun a => congrArg (fun ix : Fin 2 → Nat => Pipeline.Clip.of (ix a) (S896x128.size a) (S32768x128.size a)) h)
    (fun t => (cfg0.win 1).cut_fill _ _ _) t d).trans rfl

theorem before_2 (c : Dev nD) (t : Fin cfg0.N) (d) : (datOf m Inv out c).before 2 t d = iblk m c 2 t :=
  before0_2_of m _ rfl (fun _ => rfl) t d
theorem before_3 (c : Dev nD) (t : Fin cfg0.N) (d) : (datOf m Inv out c).before 3 t d = iblk m c 3 t :=
  before0_3_of m _ rfl (fun _ => rfl) t d
theorem before_4 (c : Dev nD) (t : Fin cfg0.N) (d) : (datOf m Inv out c).before 4 t d = iblk m c 4 t :=
  before0_4_of m _ rfl (fun _ => rfl) t d
theorem before_5 (c : Dev nD) (t : Fin cfg0.N) (d) : (datOf m Inv out c).before 5 t d = iblk m c 5 t :=
  before0_5_of m _ rfl (fun _ => rfl) t d

theorem refill (c : Dev nD) (t : Fin cfg0.N) (w : Fin cfg0.W) (d d') :
    (cfg0.win w).fill (cfg0.grid.coords t) d ((cfg0.win w).cut (cfg0.grid.coords t) (filled m c w t d')) = filled m c w t d :=
  congrArg _ ((cfg0.win w).cut_fill _ _ _)

end

theorem defs₀_row (t : Fin cfg0.N) : defs₀ (F := F) .tc cfg0.body (cfg0.bodyArgs t (cfg0.slots t)) = bodyAt0 t := by
  unfold defs₀; rw [Defs.onTc_tc]

/-- What is needed of a relation carried between points: it holds of anything at launch, a point keeps it, and the
    point's word count is of rows. -/
structure Carried (Inv : Fin (cfg0.N + 1) → St F → Prop) (c : Dev nD) : Prop where
  start : ∀ s, Inv 0 s
  small : ∀ (t : Fin cfg0.N) (s : St F), Inv t.castSucc s → ∀ d0 d1,
    (word (F := F) (grid0.coords t) (opA (grid0.coords t) (winAt m c t d0 d1) s).CN).toNat ≤ 896
  keep : ∀ (t : Fin cfg0.N) (s : St F), Inv t.castSucc s → ∀ d0 d1, Inv t.succ (step (grid0.coords t) (winAt m c t d0 d1) s)

/-- The result's window only forgotten. -/
abbrev forgets0 : Fin cfg0.W → Bool := fun w => w == 6

theorem obligation_frame (Inv : Fin (cfg0.N + 1) → St F → Prop) (out : Fin cfg0.N → Vec F S896x1024 .f32) (c : Dev nD)
    (hI : Carried m Inv c) (hO : ∀ t s O, Inv t s → Inv t { s with O := O }) :
    BodyObligationLoose (datOf m Inv out c) (defs₀ (F := F)) 𝒱₀ () Set.univ forgets0 := fun t => by
  rw [bigSep_W0, bigSep_W0, defs₀_row]
  simp only [before_0, before_1, before_2, before_3, before_4, before_5]
  change iprop((∃ s : St F, ⌜Inv t.castSucc s⌝ ∗ held c s ∗ ∃ r, prngReg c r) ∗ (datOf m Inv out c).owesAt () t.castSucc
    ∗ (∃ d, owns (Ix := Unit) (Val := Elt F) (Name := ℕ) (U := UR sig nD τ) (Lvl := ℕ) (c : Thread nD τ) (win0_0.stage (cfg0.slots t 0)) fullShare (filled m c 0 t d))
    ∗ (∃ d, owns (Ix := Unit) (Val := Elt F) (Name := ℕ) (U := UR sig nD τ) (Lvl := ℕ) (c : Thread nD τ) (win0_1.stage (cfg0.slots t 1)) fullShare (filled m c 1 t d))
    ∗ (∃ d : (cfg0.win 2).block.Idx → Elt F (cfg0.win 2).elt, owns (Ix := Unit) (Val := Elt F) (Name := ℕ) (U := UR sig nD τ) (Lvl := ℕ) (c : Thread nD τ) (win0_2.stage (cfg0.slots t 2)) fullShare (iblk m c 2 t))
    ∗ (∃ d : (cfg0.win 3).block.Idx → Elt F (cfg0.win 3).elt, owns (Ix := Unit) (Val := Elt F) (Name := ℕ) (U := UR sig nD τ) (Lvl := ℕ) (c : Thread nD τ) (win0_3.stage (cfg0.slots t 3)) fullShare (iblk m c 3 t))
    ∗ (∃ d : (cfg0.win 4).block.Idx → Elt F (cfg0.win 4).elt, owns (Ix := Unit) (Val := Elt F) (Name := ℕ) (U := UR sig nD τ) (Lvl := ℕ) (c : Thread nD τ) (win0_4.stage (cfg0.slots t 4)) fullShare (iblk m c 4 t))
    ∗ (∃ d : (cfg0.win 5).block.Idx → Elt F (cfg0.win 5).elt, owns (Ix := Unit) (Val := Elt F) (Name := ℕ) (U := UR sig nD τ) (Lvl := ℕ) (c : Thread nD τ) (win0_5.stage (cfg0.slots t 5)) fullShare (iblk m c 5 t))
    ∗ (∃ X, owns (Ix := Unit) (Val := Elt F) (Name := ℕ) (U := UR sig nD τ) (Lvl := ℕ) (c : Thread nD τ) (win0_6.stage (cfg0.slots t 6)) fullShare X))
  ⊢ wp frame (wpE (defs₀ (F := F)) 𝒱₀ c none) Set.univ (bodyAt0 t) fun _ =>
    iprop((∃ s : St F, ⌜Inv t.succ s⌝ ∗ held c s ∗ ∃ r, prngReg c r) ∗ (datOf m Inv out c).owesAt () t.castSucc
    ∗ (∃ d, owns (Ix := Unit) (Val := Elt F) (Name := ℕ) (U := UR sig nD τ) (Lvl := ℕ) (c : Thread nD τ) (win0_0.stage (cfg0.slots t 0)) fullShare ((cfg0.win 0).fill (cfg0.grid.coords t) d ((cfg0.win 0).cut (cfg0.grid.coords t) (filled m c 0 t (Pipeline.Dat.unnamed (cfg := cfg0) 0 t)))))
    ∗ (∃ d, owns (Ix := Unit) (Val := Elt F) (Name := ℕ) (U := UR sig nD τ) (Lvl := ℕ) (c : Thread nD τ) (win0_1.stage (cfg0.slots t 1)) fullShare ((cfg0.win 1).fill (cfg0.grid.coords t) d ((cfg0.win 1).cut (cfg0.grid.coords t) (filled m c 1 t (Pipeline.Dat.unnamed (cfg := cfg0) 1 t)))))
    ∗ owns (Ix := Unit) (Val := Elt F) (Name := ℕ) (U := UR sig nD τ) (Lvl := ℕ) (c : Thread nD τ) (win0_2.stage (cfg0.slots t 2)) fullShare (iblk m c 2 t)
    ∗ owns (Ix := Unit) (Val := Elt F) (Name := ℕ) (U := UR sig nD τ) (Lvl := ℕ) (c : Thread nD τ) (win0_3.stage (cfg0.slots t 3)) fullShare (iblk m c 3 t)
    ∗ owns (Ix := Unit) (Val := Elt F) (Name := ℕ) (U := UR sig nD τ) (Lvl := ℕ) (c : Thread nD τ) (win0_4.stage (cfg0.slots t 4)) fullShare (iblk m c 4 t)
    ∗ owns (Ix := Unit) (Val := Elt F) (Name := ℕ) (U := UR sig nD τ) (Lvl := ℕ) (c : Thread nD τ) (win0_5.stage (cfg0.slots t 5)) fullShare (iblk m c 5 t)
    ∗ (∃ X, owns (Ix := Unit) (Val := Elt F) (Name := ℕ) (U := UR sig nD τ) (Lvl := ℕ) (c : Thread nD τ) (win0_6.stage (cfg0.slots t 6)) fullShare X))
  iintro ⟨⟨%s, %hs, Hh, Hg⟩, HW, ⟨%d0, H0⟩, ⟨%d1, H1⟩, ⟨%d2, H2⟩, ⟨%d3, H3⟩, ⟨%d4, H4⟩, ⟨%d5, H5⟩, ⟨%O, H6⟩⟩
  iapply (run_point c t (winAt m c t d0 d1) { s with O := O } (hI.small t _ (hO _ _ _ hs) d0 d1) _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [Hh]; · iexact Hh
  iintro ⟨⟨H0, H1, H2, H3, H4, H5⟩, H6, Hh⟩
  isplitl [Hh Hg]
  · iexists (step (grid0.coords t) (winAt m c t d0 d1) { s with O := O })
    isplitr; · ipureintro; exact hI.keep t _ (hO _ _ _ hs) d0 d1
    isplitl [Hh]; · iexact Hh
    iexact Hg
  isplitl [HW]; · iexact HW
  isplitl [H0]
  · iexists d0
    rw [refill]
    iexact H0
  isplitl [H1]
  · iexists d1
    rw [refill]
    iexact H1
  isplitl [H2]; · iexact H2
  isplitl [H3]; · iexact H3
  isplitl [H4]; · iexact H4
  isplitl [H5]; · iexact H5
  iexists _; iexact H6

theorem entry (Inv : Fin (cfg0.N + 1) → St F → Prop) (out : Fin cfg0.N → Vec F S896x1024 .f32) (c : Dev nD) (h : ∀ s, Inv 0 s) :
    Pipeline.ΦA (U := UR sig nD τ) (Val := Elt F) spec0 c ⊢ (datOf m Inv out c).Φ 0 := by
  unfold Pipeline.ΦA
  rw [scopedRest0_eq, show (datOf m Inv out c).Φ 0 = iprop(∃ s : St F, ⌜Inv 0 s⌝ ∗ held c s ∗ ∃ r, prngReg c r) from rfl]
  iintro ⟨⟨⟨%f0, H0⟩, ⟨%f1, H1⟩, ⟨%f2, H2⟩, ⟨%f3, H3⟩, ⟨%f4, H4⟩⟩, Hg⟩
  iexists (⟨fun _ => FloatOps.ofBits .f32 0, f0, f1, f2, f3, f4⟩ : St F)
  isplitr; · ipureintro; exact h _
  simp only [held, owns_whole]
  isplitl [H0 H1 H2 H3 H4]
  · isplitl [H0]; · iexact H0
    isplitl [H1]; · iexact H1
    isplitl [H2]; · iexact H2
    isplitl [H3]; · iexact H3
    iexact H4
  iexact Hg

theorem exit (Inv : Fin (cfg0.N + 1) → St F → Prop) (out : Fin cfg0.N → Vec F S896x1024 .f32) (c : Dev nD) :
    (datOf m Inv out c).Φ (Fin.last cfg0.N) ⊢ Pipeline.ΦA (U := UR sig nD τ) (Val := Elt F) spec0 c := by
  unfold Pipeline.ΦA
  rw [scopedRest0_eq, show (datOf m Inv out c).Φ (Fin.last cfg0.N) = iprop(∃ s : St F, ⌜Inv (Fin.last cfg0.N) s⌝ ∗ held c s ∗ ∃ r, prngReg c r) from rfl]
  simp only [held, owns_whole]
  iintro ⟨%s, -, ⟨H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

/-- Between points, once the first has run, the counts held are of rows. -/
def smallAfter (t : Fin (cfg0.N + 1)) (s : St F) : Prop := t.val ≠ 0 → Small s.CN

theorem opB_CN (i : grid0.Coords) (w : Win F) (s : St F) : (opB i w s).CN = s.CN := by
  unfold opB; split
  · split <;> rfl
  · rfl

/-- The counts a point leaves. -/
theorem step_CN (i : grid0.Coords) (w : Win F) (s : St F) :
    (step i w s).CN = (opA i w s).CN := by
  unfold step
  rw [show ∀ s : St F, (opD i w s).CN = s.CN from fun s => by
      unfold opD; repeat' split
      all_goals rfl,
    show ∀ s : St F, (opC i w s).CN = s.CN from fun s => by
      unfold opC; repeat' split
      all_goals rfl, opB_CN]

theorem opA_small (hcount : ∀ (i : grid0.Coords) (G : Vec F S896x128 .f32), Small (countWords i G)) (i : grid0.Coords) (w : Win F) (s : St F)
    (h : ¬ (k0_cond1 i = 1#1) → Small s.CN) : Small (opA i w s).CN := by
  unfold opA
  split
  · exact hcount i w.G
  · rename_i hc; exact h hc

theorem coords_zero (t : Fin cfg0.N) (h : t.val = 0) : k0_cond1 (grid0.coords t) = 1#1 := by
  have : t = ⟨0, by rw [show cfg0.N = 592 from N_0]; decide⟩ := Fin.ext h
  subst this
  rw [cond1_iff]
  exact ⟨rfl, rfl⟩

theorem carried_small (hcount : ∀ (i : grid0.Coords) (G : Vec F S896x128 .f32), Small (countWords i G)) (c : Dev nD) :
    Carried m (smallAfter (F := F)) c where
  start _ h := absurd rfl h
  small t s hs d0 d1 := opA_small hcount _ _ _ (fun hc => hs fun h => hc (coords_zero t h)) _
  keep t s hs d0 d1 _ := by
    rw [step_CN]
    exact opA_small hcount _ _ _ fun hc => hs fun h => hc (coords_zero t h)

abbrev dats (p : Fin 1) (c : Dev nD) : Dat τ (Elt F) Unit ℕ (UR sig nD τ) ℕ (cfgs p) c :=
  match p with
  | 0 => datOf m smallAfter (fun t => Pipeline.Dat.unnamed (cfg := cfg0) 6 t) c

theorem kept (c : Dev nD) (w : Fin cfg0.W) (hin : (cfg0.win w).isOut = false) {X}
    (h : ((dats m 0 c).toRForget forgets0).ArrAt w cfg0.N X) : X = V m c (Pipeline.arrRef spec0 w) := by
  rw [Pipeline.RDat.ArrAt_in _ w hin] at h
  exact h

set_option backward.isDefEq.respectTransparency.types false in
/-- The kernel runs to its end from any memory, its argument arrays as launched and every counter at zero. -/
theorem run_main (hcount : ∀ (i : grid0.Coords) (G : Vec F S896x128 .f32), Small (countWords i G)) :
    θ_run defs (onTc (τ := τ) (main (F := F))) (s₀ m ρ)
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  Pipeline.θ_run_frame_track_forget cfgs (dats m) (0 : Fin 1) launch0 defs₀ 𝒱₀ forgets0 m ρ main
    (hbody := fun c => obligation_frame m smallAfter _ c (carried_small m hcount c) (fun _ _ _ h => h))
    (hshare := fun c => (dats m 0 c).share_full fun _ => rfl)
    (howed := fun _ _ => rfl) (V := V m) (hmain := hmain m 𝒱₀) (hA := fun _ _ => rfl)
    (Q' := _) (hin := fun c => entry m _ _ c (fun _ h => absurd rfl h)) (hout := fun c => exit m _ _ c)
    (hQ' := fun r h => ⟨fun c =>
      ⟨(kept m c 0 rfl ((h.1 c).1 0)).trans (V_main_arg0 m c),
       (kept m c 1 rfl ((h.1 c).1 1)).trans (V_main_arg1 m c),
       (kept m c 3 rfl ((h.1 c).1 3)).trans (V_main_arg2 m c),
       (kept m c 4 rfl ((h.1 c).1 4)).trans (V_main_arg3 m c),
       (kept m c 5 rfl ((h.1 c).1 5)).trans (V_main_arg4 m c)⟩, h.2⟩)

end Cert.Moe
-- ==== Proof.Tally.lean ====
/- The experts' counts: the word a count is read as is the number of the block's rows the expert takes, at most
   896, both on the machine's words and over the extended reals. -/
module

public import proofs.«01_k».proof.Proof.Step
public import Idealize.ShloMosaic.Lib.NatWords
public import Idealize.ShloMosaic.Lib.IdealHost
public import Idealize.ShloMosaic.PureOps.Ideal.Laws
public import Idealize.ShloMosaic.Lib.Pipeline.Value

@[expose] public section

set_option maxRecDepth 16384

noncomputable section

namespace Cert.Moe

open Cert.KernelIdeal Cert.KernelIdeal.Gen
open Idealize.ShloMosaic Idealize.ShloMosaic.ValueIdx
open Idealize.ShloMosaic.Bits (reduceFiber multiReduction_add_nat fptosi32_nat natOfF32?_f32OfNat)

section
variable {F : FTy → Type} [FloatOps F]

/-- The gates of a block, 0 on the rows past the last token. -/
def masked (i : grid0.Coords) (G : Vec F S896x128 .f32) : Vec F S896x128 .f32 :=
  select (broadcastTo S896x128 (shapeCast S896x1 (k0_pay18 i) shapeCasts_S896x1_S896x1) broadcasts_S896x1_S896x128) G
    (broadcast S896x128 (Scalar.ofBits .f32 0x00000000#32 : F .f32))

/-- Whether a row goes to an expert. -/
def member (i : grid0.Coords) (G : Vec F S896x128 .f32) : IVec S896x128 1 :=
  cmpf .ogt (masked i G) (broadcast S896x128 (Scalar.ofBits .f32 0x00000000#32 : F .f32))

theorem pay7_apply (i : grid0.Coords) (G : Vec F S896x128 .f32) (x : S896x128.Idx) :
    k0_pay7 (k0_pay18 i) G x = if member i G x = 1#1 then (Scalar.ofBits .f32 0x3F800000#32 : F .f32) else Scalar.ofBits .f32 0x00000000#32 := rfl

/-- How many of the first `n` rows go to an expert. -/
def tally (i : grid0.Coords) (G : Vec F S896x128 .f32) (n : Nat) (e : Fin 128) : Nat :=
  (Finset.univ.filter fun r : Fin 896 => r.val < n ∧ member i G (ix2 r e) = 1#1).card

theorem tally_le (i : grid0.Coords) (G : Vec F S896x128 .f32) (n : Nat) (e : Fin 128) : tally i G n e ≤ 896 := by
  refine (Finset.card_le_univ _).trans ?_
  rw [Fintype.card_fin]

/-- The column of ones and zeros summed. -/
def colSum (i : grid0.Coords) (G : Vec F S896x128 .f32) : Vec F S128 .f32 :=
  multiReduction .add [0] S128 (k0_pay7 (k0_pay18 i) G) 0x00000000#32 reduces_S896x128_S128 (.inl rfl) rfl

theorem pay11_apply (i : grid0.Coords) (G : Vec F S896x128 .f32) (e : Fin 128) :
    k0_pay11 (k0_pay18 i) G (ix2 (0 : Fin 1) e) = colSum i G (ix1 e) := by
  refine shapeCast_apply _ _ _ _ ?_
  rw [Shape.rowMajor_val_one, Shape.rowMajor_val_two]
  simp

theorem countWords_eq (i : grid0.Coords) (G : Vec F S896x128 .f32) (j : Fin 8) :
    countWords i G (ix1 j) = Scalar.fptosi 32 (colSum i G (ix1 (⟨j.val, by omega⟩ : Fin 128))) := by
  rw [← pay11_apply]
  unfold countWords
  congr 1
  match j with
  | 0 => rfl
  | 1 => rfl
  | 2 => rfl
  | 3 => rfl
  | 4 => rfl
  | 5 => rfl
  | 6 => rfl
  | 7 => rfl

theorem lift_col (e : Fin 128) (r : Fin 896) : reduces_S896x128_S128.lift (ix1 e) (r : Fin (S896x128.size 0)) = ix2 r e := by
  funext a
  refine Fin.ext ((Shape.Reduces.lift_val _ _ _ _).trans ?_)
  match a with
  | 0 => rfl
  | 1 => rfl
end

theorem countWords_bits (i : grid0.Coords) (G : Vec Bits S896x128 .f32) (j : Fin 8) :
    countWords i G (ix1 j) = BitVec.ofNat 32 (tally i G 896 ⟨j.val, by omega⟩) := by
  have hsum : (reduceFiber reduces_S896x128_S128 (ix1 (⟨j.val, by omega⟩ : Fin 128))).sum (fun x => if member i G x = 1#1 then 1 else 0) = tally i G 896 ⟨j.val, by omega⟩ := by
    refine (reduces_S896x128_S128.sum_filter_drop_single (α := Nat) (fun x => if member i G x = 1#1 then 1 else 0) _).trans ?_
    unfold tally
    rw [Finset.card_filter]
    refine Finset.sum_congr rfl fun r _ => ?_
    refine (congrArg (fun x => if member i G x = 1#1 then 1 else 0) (lift_col _ r)).trans ?_
    have : (r : Fin 896).val < 896 := r.isLt
    exact if_congr ⟨fun h => ⟨this, h⟩, fun h => h.2⟩ rfl rfl
  rw [countWords_eq]
  unfold colSum
  rw [multiReduction_add_nat [0] reduces_S896x128_S128 _ _ (fun x => if member i G x = 1#1 then 1 else 0) (fun x _ => ?_) ?_, hsum]
  · exact fptosi32_nat _ (lt_of_le_of_lt (tally_le _ _ _ _) (by decide))
  · rw [hsum]
    exact lt_of_le_of_lt (tally_le _ _ _ _) (by decide)
  · rw [pay7_apply]
    split
    · rw [show (Scalar.ofBits .f32 0x3F800000#32 : Bits .f32) = Bits.f32OfNat 1 from (by rw [Bits.f32OfNat_eq 1 (by decide)]; decide)]
      exact natOfF32?_f32OfNat 1 (by decide)
    · rw [show (Scalar.ofBits .f32 0x00000000#32 : Bits .f32) = Bits.f32OfNat 0 from Bits.f32OfNat_zero.symm]
      exact natOfF32?_f32OfNat 0 (by decide)

theorem colSum_ideal (i : grid0.Coords) (G : Vec Ideal S896x128 .f32) (e : Fin 128) :
    colSum i G (ix1 e) = ((tally i G 896 e : ℝ) : EReal) := by
  unfold colSum
  refine (Ideal.multiReduction_add_single _ _ _ _ _ _).trans ?_
  have hk : ∀ k : Fin 896, k0_pay7 (k0_pay18 i) G (reduces_S896x128_S128.lift (ix1 e) k) = if k.val < 896 ∧ member i G (ix2 k e) = 1#1 then (1 : EReal) else 0 := fun k => by
    rw [lift_col, pay7_apply]
    have : k.val < 896 := k.isLt
    by_cases h : member i G (ix2 k e) = 1#1 <;> simp [*, Ideal.ofBits_one_f32]
  refine (Finset.sum_congr rfl fun k _ => hk k).trans ?_
  refine (Finset.sum_boole _ _).trans ?_
  rw [← EReal.coe_natCast]
  rfl

theorem countWords_ideal (i : grid0.Coords) (G : Vec Ideal S896x128 .f32) (j : Fin 8) :
    countWords i G (ix1 j) = BitVec.ofNat 32 (tally i G 896 ⟨j.val, by omega⟩) := by
  have h := tally_le i G 896 ⟨j.val, by omega⟩
  rw [countWords_eq, colSum_ideal, Ideal.scalar_fptosi_def]
  generalize tally i G 896 ⟨j.val, by omega⟩ = n at h ⊢
  show BitVec.ofInt 32 (max _ (min _ (if (0 : ℝ) ≤ (n : ℝ) then ⌊(n : ℝ)⌋ else ⌈(n : ℝ)⌉))) = _
  rw [if_pos (Nat.cast_nonneg n), Int.floor_natCast, ← BitVec.ofInt_natCast]
  congr 1
  omega

end Cert.Moe
-- ==== Proof.FrameClaims.lean ====
/- The frames of the kernel, at the machine's floats and at the extended reals: the counts read back are of rows. -/
module

public import proofs.«01_k».proof.Proof.Frames
public import proofs.«01_k».proof.Proof.Tally

@[expose] public section

noncomputable section

namespace Cert.Moe

open Cert.KernelIdeal Cert.KernelIdeal.Gen
open Idealize.ShloMosaic Idealize.ShloMosaic.TcCoe
open Idealize.ShloMosaic.ValueIdx

theorem small_of_tally {F : FTy → Type} [FloatOps F] (i : grid0.Coords) (G : Vec F S896x128 .f32)
    (h : ∀ j : Fin 8, countWords i G (ix1 j) = BitVec.ofNat 32 (tally i G 896 ⟨j.val, by omega⟩)) : Small (countWords i G) := fun j => by
  have hj : j = ix1 (j 0) := funext fun a => by
    match a with
    | ⟨0, _⟩ => rfl
  rw [hj]
  refine (congrArg BitVec.toNat (h _)).trans_le ?_
  rw [BitVec.toNat_ofNat]
  exact (Nat.mod_le _ _).trans (tally_le _ _ _ _)

theorem small_bits (i : grid0.Coords) (G : Vec Bits S896x128 .f32) : Small (countWords i G) :=
  small_of_tally i G (countWords_bits i G)

theorem small_ideal (i : grid0.Coords) (G : Vec Ideal S896x128 .f32) : Small (countWords i G) :=
  small_of_tally i G (countWords_ideal i G)

end Cert.Moe
-- ==== Proof.SameText.lean ====
/- The kernel as printed and its idealization have the same text: their body tables are equal, and so are their programs. -/
module

public import proofs.«01_k».proof.Defs
public import proofs.«01_k».proof.Proof.Gen.Kernel
public import proofs.«01_k».proof.Proof.Gen.KernelIdeal

@[expose] public section

set_option maxHeartbeats 400000

noncomputable section

namespace Cert.Moe

open Idealize.ShloMosaic Idealize.SL.Sem

theorem same_bodies : @Cert.Kernel.defs₀ Bits _ Cert.Kernel.Gen.facts = @Cert.KernelIdeal.defs₀ Bits _ Cert.KernelIdeal.Gen.facts :=
  congrArg Defs.onTc (funext fun l => funext fun a => by
    match l, a with
    | 0, (t, s) => rfl
    | ⟨_ + 1, h⟩, _ => exact absurd h (Nat.not_lt.2 (Nat.le_add_left _ _)))

theorem same_defs : @Cert.Kernel.defs Bits _ Cert.Kernel.Gen.facts = @Cert.KernelIdeal.defs Bits _ Cert.KernelIdeal.Gen.facts := by
  unfold Cert.Kernel.defs Cert.KernelIdeal.defs
  rw [same_bodies]
  exact rfl

theorem same_main : @Cert.Kernel.main Bits _ Cert.Kernel.Gen.facts = @Cert.KernelIdeal.main Bits _ Cert.KernelIdeal.Gen.facts := rfl

end Cert.Moe
-- ==== Proof.Entries.lean ====
/- The kernel's intermediate arrays read at an index, over the extended reals. -/
module

public import proofs.«01_k».proof.Proof.Tally
public import Idealize.ShloMosaic.Lib.MatmulPlain
public import Idealize.ShloMosaic.Lib.StackMember
public import Idealize.ShloMosaic.Lib.ValueLayout

@[expose] public section

set_option maxRecDepth 16384
set_option maxHeartbeats 400000

noncomputable section

namespace Cert.Moe

open Cert.KernelIdeal Cert.KernelIdeal.Gen
open Idealize.ShloMosaic Idealize.ShloMosaic.ValueIdx

/-- A natural number as an extended real. -/
abbrev nn (n : Nat) : EReal := ((n : ℝ) : EReal)

theorem nn_inj {a b : Nat} : nn a = nn b ↔ a = b := by
  rw [EReal.coe_eq_coe_iff, Nat.cast_inj]

theorem nn_add (a b : Nat) : nn a + nn b = nn (a + b) := by
  show ((a : ℝ) : EReal) + ((b : ℝ) : EReal) = (((a + b : ℕ) : ℝ) : EReal)
  rw [← EReal.coe_add, Nat.cast_add]

theorem sitofp_nat (n : Nat) (h : n < 2 ^ 31) : (Scalar.sitofp .f32 (BitVec.ofNat 32 n) : Ideal .f32) = nn n := by
  have hn : (BitVec.ofNat 32 n).toNat = n := by rw [BitVec.toNat_ofNat, Nat.mod_eq_of_lt (by omega)]
  rw [Ideal.scalar_sitofp_def, BitVec.toInt_eq_toNat_of_lt (by omega), hn, Int.cast_natCast]

/-- A one-bit word from a decision, compared with 1. -/
theorem ofBool_one (p : Prop) [Decidable p] : BitVec.ofBool (decide p) = 1#1 ↔ p := by
  by_cases h : p <;> simp [h]

theorem mm_apply {M K N : ℕ} {φ₁ φ₂ : FTy} (d : DotDims ⟨2, ![M, K]⟩ ⟨2, ![K, N]⟩ ⟨2, ![M, N]⟩) (hd : d = DotDims.plain M K N)
    (prec : Option ContractPrecision) (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  subst hd
  rw [matmul_zero_eq_dotGeneral, StackMember.dotGeneral_plain_apply]

/-- Whether a block's row is a token. -/
def valid (i : grid0.Coords) (r : Fin 896) : Prop := 896 * (i 0).val + r.val < 32768

instance (i : grid0.Coords) (r : Fin 896) : Decidable (valid i r) := inferInstanceAs (Decidable (_ < _))

theorem valid_words : ∀ (b : Fin 37) (r : Fin 896),
    Scalar.cmpi .slt (BitVec.ofNat 32 r.val + BitVec.ofNat 32 b.val * 896#32) 32768#32 = 1#1 ↔ 896 * b.val + r.val < 32768 := by
  decide +kernel

theorem pay18_iff (i : grid0.Coords) (r : Fin 896) (z : Fin 1) : k0_pay18 i (ix2 r z) = 1#1 ↔ valid i r := by
  have h : k0_pay18 i (ix2 r z) = Scalar.cmpi .slt (BitVec.ofNat 32 r.val + BitVec.ofNat 32 (i 0).val * 896#32) 32768#32 := by
    show Scalar.cmpi .slt (iota .tc S896x1 32 [0] iota_S896x1_d0_w32 (ix2 r z) + _) _ = _
    rw [iota_single_apply]
    rfl
  rw [h]
  exact valid_words (i 0) r

theorem cast18 (i : grid0.Coords) : shapeCast S896x1 (k0_pay18 i) shapeCasts_S896x1_S896x1 = k0_pay18 i := shapeCast_self _ _

theorem bcol_apply {n m : Nat} {α : Type} (v : (⟨2, ![n, 1]⟩ : Shape).Idx → α) (h : (⟨2, ![n, 1]⟩ : Shape).Broadcasts ⟨2, ![n, m]⟩)
    (hn : n ≠ 1) (r : Fin n) (c : Fin m) : broadcastTo ⟨2, ![n, m]⟩ v h (ix2 r c) = v (ix2 r 0) := by
  refine broadcastTo_apply _ _ _ _ fun a => ?_
  match a with
  | 0 =>
    rw [if_neg (show ¬ ((⟨2, ![n, 1]⟩ : Shape).size 0 = 1) from hn)]
    rfl
  | 1 => rfl

theorem brow_apply {n m : Nat} {α : Type} (v : (⟨2, ![1, m]⟩ : Shape).Idx → α) (h : (⟨2, ![1, m]⟩ : Shape).Broadcasts ⟨2, ![n, m]⟩)
    (hm : m ≠ 1) (r : Fin n) (c : Fin m) : broadcastTo ⟨2, ![n, m]⟩ v h (ix2 r c) = v (ix2 0 c) := by
  refine broadcastTo_apply _ _ _ _ fun a => ?_
  match a with
  | 0 => rfl
  | 1 =>
    rw [if_neg (show ¬ ((⟨2, ![1, m]⟩ : Shape).size 1 = 1) from hm)]
    rfl

theorem masked_apply (i : grid0.Coords) (G : Vec Ideal S896x128 .f32) (r : Fin 896) (e : Fin 128) :
    masked i G (ix2 r e) = if valid i r then G (ix2 r e) else 0 := by
  unfold masked
  rw [cast18]
  show (if broadcastTo S896x128 (k0_pay18 i) _ (ix2 r e) = 1#1 then _ else Ideal.ofBits .f32 0x00000000#32) = _
  rw [bcol_apply _ _ (by decide), Ideal.ofBits_zero_f32]
  exact if_congr (pay18_iff i r 0) rfl rfl

theorem member_iff (i : grid0.Coords) (G : Vec Ideal S896x128 .f32) (r : Fin 896) (e : Fin 128) :
    member i G (ix2 r e) = 1#1 ↔ valid i r ∧ 0 < G (ix2 r e) := by
  show Ideal.cmp .ogt (masked i G (ix2 r e)) (Ideal.ofBits .f32 0x00000000#32) = 1#1 ↔ _
  rw [masked_apply, Ideal.ofBits_zero_f32]
  unfold Ideal.cmp
  rw [ofBool_one]
  by_cases h : valid i r <;> simp [h]

/-- The triangle of ones: 1 where the row is past the column. -/
def IsTri (T : Vec Ideal S896x896 .bf16) : Prop := ∀ a b : Fin 896, T (ix2 a b) = if b.val < a.val then (1 : EReal) else 0

theorem pay7_ideal (i : grid0.Coords) (G : Vec Ideal S896x128 .f32) (x : S896x128.Idx) :
    k0_pay7 (k0_pay18 i) G x = if member i G x = 1#1 then (1 : EReal) else 0 := by
  rw [pay7_apply]
  exact if_congr Iff.rfl Ideal.ofBits_one_f32 Ideal.ofBits_zero_f32

theorem rank_sum (i : grid0.Coords) (G : Vec Ideal S896x128 .f32) (T : Vec Ideal S896x896 .bf16) (hT : IsTri T) (r : Fin 896) (e : Fin 128) :
    (∑ k : Fin 896, T (ix2 r k) * k0_pay7 (k0_pay18 i) G (ix2 k e)) = nn (tally i G r.val e) := by
  have hk : ∀ k : Fin 896, T (ix2 r k) * k0_pay7 (k0_pay18 i) G (ix2 k e) = if k.val < r.val ∧ member i G (ix2 k e) = 1#1 then (1 : EReal) else 0 := fun k => by
    rw [hT, pay7_ideal]
    by_cases h : member i G (ix2 k e) = 1#1 <;> by_cases h' : k.val < r.val <;> simp [h, h']
  refine (Finset.sum_congr rfl fun k _ => hk k).trans ?_
  refine (Finset.sum_boole _ _).trans ?_
  rw [← EReal.coe_natCast]
  rfl

theorem ofBits_negOne : Ideal.ofBits .f32 0xBF800000#32 = (-1 : EReal) := by
  rw [show (-1 : EReal) = ((-(1 : ℝ) : ℝ) : EReal) by rw [EReal.coe_neg, EReal.coe_one]]
  simp [Ideal.ofBits, Ideal.ieee, -EReal.coe_mul, -EReal.coe_neg]; norm_num

theorem pay8_ideal (i : grid0.Coords) (G : Vec Ideal S896x128 .f32) (T : Vec Ideal S896x896 .bf16) (hT : IsTri T) (r : Fin 896) (e : Fin 128) :
    k0_pay8 (k0_pay18 i) G T (ix2 r e) = if member i G (ix2 r e) = 1#1 then nn (tally i G r.val e) else -1 := by
  unfold k0_pay8
  rw [shapeCast_self]
  show (if Ideal.cmp .ogt (k0_pay7 (k0_pay18 i) G (ix2 r e)) (Ideal.ofBits .f32 0x00000000#32) = 1#1
    then matmul dot_S896x896_S896x128_S896x128_1_0_0_1_n_n none T (truncf .bf16 (k0_pay7 (k0_pay18 i) G) bitsLt_bf16_f32) (constant S896x128 .f32 0x00000000#32) (ix2 r e)
    else Ideal.ofBits .f32 0xBF800000#32) = _
  refine if_congr ?_ ?_ ofBits_negOne
  · rw [pay7_ideal, Ideal.ofBits_zero_f32]
    unfold Ideal.cmp
    rw [ofBool_one]
    by_cases h : member i G (ix2 r e) = 1#1 <;> simp [h]
  · exact (mm_apply _ rfl none T _ r e).trans (rank_sum i G T hT r e)

theorem pay9_ideal (i : grid0.Coords) (G : Vec Ideal S896x128 .f32) (T : Vec Ideal S896x896 .bf16) (hT : IsTri T) (r : Fin 896) (e : Fin 128) :
    k0_pay9 (k0_pay18 i) G T (ix2 r e) = if member i G (ix2 r e) = 1#1 then nn (tally i G r.val e) else -1 := by
  unfold k0_pay9
  rw [shapeCast_self]
  exact pay8_ideal i G T hT r e

theorem pay10_ideal (i : grid0.Coords) (G : Vec Ideal S896x128 .f32) (T : Vec Ideal S896x896 .bf16) (hT : IsTri T) (r : Fin 896) (e : Fin 128) :
    k0_pay10 (k0_pay18 i) G T (ix2 e r) = if member i G (ix2 r e) = 1#1 then nn (tally i G r.val e) else -1 := by
  unfold k0_pay10
  rw [shapeCast_self]
  exact (transpose_ix2_apply _ _ _ _).trans (pay8_ideal i G T hT r e)

end Cert.Moe
-- ==== Proof.Gather.lean ====
/- The rows gathered, the products accumulated and the rows put back, read at an index over the extended reals. -/
module

public import proofs.«01_k».proof.Proof.Entries

@[expose] public section

set_option maxRecDepth 16384
set_option maxHeartbeats 400000

noncomputable section

namespace Cert.Moe

open Cert.KernelIdeal Cert.KernelIdeal.Gen
open Idealize.ShloMosaic Idealize.ShloMosaic.ValueIdx

/-- An expert's column of the gates. -/
def col (e : Fin 8) : Fin 128 := ⟨e.val, by omega⟩

theorem col_words : ∀ (a : Fin 128) (e : Fin 8), Scalar.cmpi .eq (BitVec.ofNat 32 a.val) (BitVec.ofNat 32 e.val) = 1#1 ↔ a = col e := by
  decide +kernel

theorem row_words : ∀ (a : Fin 8) (e : Fin 8), Scalar.cmpi .eq (BitVec.ofNat 32 a.val) (BitVec.ofNat 32 e.val) = 1#1 ↔ a = e := by
  decide +kernel

theorem pay14_iff (i : grid0.Coords) (r : Fin 896) (a : Fin 128) : k0_pay14 (exW i) (ix2 r a) = 1#1 ↔ a = col (ex i) := by
  have h : k0_pay14 (exW i) (ix2 r a) = Scalar.cmpi .eq (BitVec.ofNat 32 a.val) (BitVec.ofNat 32 (i 1).val) := by
    show Scalar.cmpi .eq (iota .tc S896x128 32 [1] iota_S896x128_d1_w32 (ix2 r a)) _ = _
    rw [iota_single_apply]
    rfl
  rw [h]
  exact col_words a (i 1)

theorem lift_row (r : Fin 896) (a : Fin 128) : reduces_S896x128_S896.lift (ix1 r) (a : Fin (S896x128.size 1)) = ix2 r a := by
  funext b
  refine Fin.ext ((Shape.Reduces.lift_val _ _ _ _).trans ?_)
  match b with
  | 0 => rfl
  | 1 => rfl

theorem lift_col8 (j : Fin 896) (a : Fin 8) : reduces_S8x896_S896.lift (ix1 j) (a : Fin (S8x896.size 0)) = ix2 a j := by
  funext b
  refine Fin.ext ((Shape.Reduces.lift_val _ _ _ _).trans ?_)
  match b with
  | 0 => rfl
  | 1 => rfl

theorem asCol_apply (v : S896.Idx → EReal) (r : Fin 896) (z : Fin 1) : shapeCast S896x1 v shapeCasts_S896_S896x1 (ix2 r z) = v (ix1 r) := by
  refine shapeCast_apply _ _ _ _ ?_
  rw [Shape.rowMajor_val_one, Shape.rowMajor_val_two]
  have : z = 0 := Subsingleton.elim _ _
  subst this
  simp

theorem asRow_apply (v : S896.Idx → EReal) (r : Fin 896) (z : Fin 1) : shapeCast S1x896 v shapeCasts_S896_S1x896 (ix2 z r) = v (ix1 r) := by
  refine shapeCast_apply _ _ _ _ ?_
  rw [Shape.rowMajor_val_one, Shape.rowMajor_val_two]
  have : z = 0 := Subsingleton.elim _ _
  subst this
  simp

theorem pay15_apply (i : grid0.Coords) (RC : Vec Ideal S896x128 .f32) (r : Fin 896) (z : Fin 1) :
    k0_pay15 (exW i) RC (ix2 r z) = RC (ix2 r (col (ex i))) := by
  unfold k0_pay15
  refine (asCol_apply _ r z).trans ?_
  refine (Ideal.multiReduction_add_single _ _ _ _ _ _).trans ?_
  have hk : ∀ a : Fin 128, (select (k0_pay14 (exW i)) RC (broadcast S896x128 (Scalar.ofBits .f32 0x00000000#32 : Ideal .f32))) (reduces_S896x128_S896.lift (ix1 r) a)
      = if a = col (ex i) then RC (ix2 r a) else 0 := fun a => by
    rw [lift_row]
    exact if_congr (pay14_iff i r a) rfl Ideal.ofBits_zero_f32
  refine (Finset.sum_congr rfl fun a _ => hk a).trans ?_
  refine (Finset.sum_ite_eq' _ _ _).trans ?_
  exact if_pos (Finset.mem_univ _)

theorem pay16_apply (i : grid0.Coords) (G : Vec Ideal S896x128 .f32) (r : Fin 896) (z : Fin 1) :
    k0_pay16 (exW i) (k0_pay18 i) G (ix2 r z) = if valid i r then G (ix2 r (col (ex i))) else 0 := by
  unfold k0_pay16
  refine (asCol_apply _ r z).trans ?_
  refine (Ideal.multiReduction_add_single _ _ _ _ _ _).trans ?_
  have and_one : ∀ x y : BitVec 1, x &&& y = 1#1 ↔ x = 1#1 ∧ y = 1#1 := by decide
  have hk : ∀ a : Fin 128, (select (andi (k0_pay14 (exW i)) (broadcastTo S896x128 (k0_pay18 i) broadcasts_S896x1_S896x128)) G (broadcast S896x128 (Scalar.ofBits .f32 0x00000000#32 : Ideal .f32))) (reduces_S896x128_S896.lift (ix1 r) a)
      = if a = col (ex i) then (if valid i r then G (ix2 r a) else 0) else 0 := fun a => by
    rw [lift_row]
    show (if k0_pay14 (exW i) (ix2 r a) &&& broadcastTo S896x128 (k0_pay18 i) broadcasts_S896x1_S896x128 (ix2 r a) = 1#1 then G (ix2 r a) else Ideal.ofBits .f32 0x00000000#32) = _
    rw [bcol_apply _ _ (by decide), Ideal.ofBits_zero_f32, ← ite_and]
    exact if_congr ((and_one _ _).trans (and_congr (pay14_iff i r a) (pay18_iff i r 0))) rfl rfl
  refine (Finset.sum_congr rfl fun a _ => hk a).trans ?_
  refine (Finset.sum_ite_eq' _ _ _).trans ?_
  exact if_pos (Finset.mem_univ _)

theorem pay25_apply (i : grid0.Coords) (R : Vec Ideal S8x896 .f32) (j : Fin 896) (z : Fin 1) :
    k0_pay25 i R (ix2 z j) = R (ix2 (ex i) j) := by
  unfold k0_pay25
  refine (asRow_apply _ j z).trans ?_
  refine (Ideal.multiReduction_add_single _ _ _ _ _ _).trans ?_
  have hk : ∀ a : Fin 8, (select (cmpi .eq (iota .tc S8x896 32 [0] iota_S8x896_d0_w32) (broadcast S8x896 (BitVec.ofNat 32 (i 1).val))) R (broadcast S8x896 (Scalar.ofBits .f32 0x00000000#32 : Ideal .f32))) (reduces_S8x896_S896.lift (ix1 j) a)
      = if a = ex i then R (ix2 a j) else 0 := fun a => by
    rw [lift_col8]
    show (if Scalar.cmpi .eq (iota .tc S8x896 32 [0] iota_S8x896_d0_w32 (ix2 a j)) (BitVec.ofNat 32 (i 1).val) = 1#1 then R (ix2 a j) else Ideal.ofBits .f32 0x00000000#32) = _
    rw [iota_single_apply, Ideal.ofBits_zero_f32]
    exact if_congr (row_words a (i 1)) rfl rfl
  refine (Finset.sum_congr rfl fun a _ => hk a).trans ?_
  refine (Finset.sum_ite_eq' _ _ _).trans ?_
  exact if_pos (Finset.mem_univ _)

theorem pay26_apply (i : grid0.Coords) (X : Vec Ideal S896x1024 .bf16) (j : Fin 896) (q : Fin 1024) :
    k0_pay26 i X (ix2 j q) = if valid i j then X (ix2 j q) else (0 : EReal) := by
  unfold k0_pay26
  rw [cast18]
  show (if broadcastTo S896x1024 (k0_pay18 i) _ (ix2 j q) = 1#1 then _ else Ideal.ofBits .bf16 0x0000#16) = _
  rw [bcol_apply _ _ (by decide), Ideal.ofBits_zero_bf16]
  exact if_congr (pay18_iff i j 0) rfl rfl

/-- A packed row: the block's rows of a rank, added. -/
def packed (i : grid0.Coords) (X : Vec Ideal S896x1024 .bf16) (R : Fin 896 → EReal) (n : Nat) (q : Fin 1024) : EReal :=
  ∑ j : Fin 896, (if nn n = R j then (1 : EReal) else 0) * (if valid i j then X (ix2 j q) else 0)

theorem sel_one (a b : EReal) : (if Ideal.cmp .oeq a b = 1#1 then Ideal.ofBits .f32 0x3F800000#32 else Ideal.ofBits .f32 0x00000000#32) = if a = b then (1 : EReal) else 0 := by
  refine if_congr ?_ Ideal.ofBits_one_f32 Ideal.ofBits_zero_f32
  unfold Ideal.cmp
  exact ofBool_one _

theorem pay28_apply (i : grid0.Coords) (R : Vec Ideal S8x896 .f32) (X : Vec Ideal S896x1024 .bf16) (k : Fin 256) (q : Fin 1024) :
    k0_pay28 i R X (ix2 k q) = packed i X (fun j => R (ix2 (ex i) j)) k.val q := by
  unfold k0_pay28 packed
  rw [shapeCast_self]
  refine (mm_apply (φ₁ := .bf16) (φ₂ := .bf16) _ rfl none _ _ k q).trans ?_
  refine Finset.sum_congr rfl fun j _ => ?_
  rw [pay26_apply]
  refine congrArg (· * _) ?_
  show (if Ideal.cmp .oeq ((Scalar.sitofp .f32 (iota .tc S256x896 32 [0] iota_S256x896_d0_w32 (ix2 k j)) : Ideal .f32) + Ideal.ofBits .f32 0x00000000#32)
    (broadcastTo S256x896 (k0_pay25 i R) broadcasts_S1x896_S256x896 (ix2 k j)) = 1#1 then Ideal.ofBits .f32 0x3F800000#32 else Ideal.ofBits .f32 0x00000000#32) = _
  rw [sel_one, iota_single_apply, brow_apply _ _ (by decide), pay25_apply, Ideal.ofBits_zero_f32]
  have hk : k.val < 256 := k.isLt
  exact if_congr (by rw [show ((ix2 k j : S256x896.Idx) 0).val = k.val from rfl, sitofp_nat _ (by omega), add_zero]) rfl rfl

theorem mult_words : ∀ k : Fin 8, Scalar.muli (Scf.iv 0#32 1#32 k.val) 128#32 = BitVec.ofNat 32 (128 * k.val)
    ∧ Scalar.muli (Scf.iv 0#32 1#32 k.val) 256#32 = BitVec.ofNat 32 (256 * k.val) := by
  decide +kernel

theorem pay30_apply (i : grid0.Coords) (v : BitVec 32) (R : Vec Ideal S8x896 .f32) (X : Vec Ideal S896x1024 .bf16) (t : Fin (k0_t1_loop v).trips)
    (ht : t.val < 8) (k : Fin 128) (q : Fin 1024) :
    k0_pay30 (F := Ideal) i v R X t (ix2 k q) = packed i X (fun j => R (ix2 (ex i) j)) (k.val + 128 * t.val) q := by
  unfold k0_pay30 packed
  rw [shapeCast_self]
  refine (mm_apply (φ₁ := .bf16) (φ₂ := .bf16) _ rfl none _ _ k q).trans ?_
  refine Finset.sum_congr rfl fun j _ => ?_
  rw [pay26_apply]
  refine congrArg (· * _) ?_
  show (if Ideal.cmp .oeq ((Scalar.sitofp .f32 (iota .tc S128x896 32 [0] iota_S128x896_d0_w32 (ix2 k j)) : Ideal .f32) + (Scalar.sitofp .f32 (Scalar.muli (Scf.iv 0#32 1#32 t.val) 128#32) : Ideal .f32))
    (broadcastTo S128x896 (k0_pay25 i R) broadcasts_S1x896_S128x896 (ix2 k j)) = 1#1 then Ideal.ofBits .f32 0x3F800000#32 else Ideal.ofBits .f32 0x00000000#32) = _
  rw [sel_one, iota_single_apply, brow_apply _ _ (by decide), pay25_apply, (mult_words ⟨t.val, ht⟩).1]
  have hk : k.val < 128 := k.isLt
  exact if_congr (by rw [show ((ix2 k j : S128x896.Idx) 0).val = k.val from rfl, sitofp_nat _ (by omega), sitofp_nat _ (by omega), nn_add]) rfl rfl

/-- One hidden entry of an expert: the gated product. -/
def act (a b : EReal) : EReal := Ideal.div a (1 + Ideal.exp (0 - a)) * b

/-- One tile's part of an expert's output row. -/
def tile (x : Fin 1024 → EReal) (W1 W3 : Vec Ideal S1x1024x1792 .bf16) (W2 : Vec Ideal S1x1792x1024 .bf16) (q : Fin 1024) : EReal :=
  ∑ k : Fin 1792, act (∑ d : Fin 1024, x d * W1 (ix3 0 d k)) (∑ d : Fin 1024, x d * W3 (ix3 0 d k)) * W2 (ix3 0 k q)

theorem drop_apply {n m : Nat} {α : Type} (v : (⟨3, ![1, n, m]⟩ : Shape).Idx → α) (h : (⟨3, ![1, n, m]⟩ : Shape).ShapeCasts ⟨2, ![n, m]⟩)
    (a : Fin n) (b : Fin m) : shapeCast ⟨2, ![n, m]⟩ v h (ix2 a b) = v (ix3 0 a b) := by
  refine shapeCast_apply _ _ _ _ ?_
  rw [Shape.rowMajor_val_three, Shape.rowMajor_val_two]
  show (0 * n + a.val) * m + b.val = a.val * m + b.val
  rw [Nat.zero_mul, Nat.zero_add]

theorem act_apply {n : Nat} (a b : FVec Ideal ⟨2, ![n, 1792]⟩ .f32) (x : (⟨2, ![n, 1792]⟩ : Shape).Idx) :
    (truncf .bf16 (mulf (divf a (addf (broadcast _ (Scalar.ofBits .f32 0x3F800000#32 : Ideal .f32)) (exp (subf (broadcast _ (Scalar.ofBits .f32 0x00000000#32 : Ideal .f32)) a)))) b) bitsLt_bf16_f32 : FVec Ideal _ .bf16) x = act (a x) (b x) := by
  show Ideal.div (a x) (Ideal.ofBits .f32 0x3F800000#32 + Ideal.exp (Ideal.ofBits .f32 0x00000000#32 - a x)) * b x = _
  rw [Ideal.ofBits_one_f32, Ideal.ofBits_zero_f32]
  rfl

theorem pay1_apply (XS : Vec Ideal S256x1024 .bf16) (W1 W3 : Vec Ideal S1x1024x1792 .bf16) (A : Vec Ideal S256x1024 .f32) (W2 : Vec Ideal S1x1792x1024 .bf16)
    (k : Fin 256) (q : Fin 1024) : k0_pay1 XS W1 W3 A W2 (ix2 k q) = A (ix2 k q) + tile (fun d => XS (ix2 k d)) W1 W3 W2 q := by
  unfold k0_pay1 tile
  rw [shapeCast_self]
  refine congrArg (A (ix2 k q) + ·) ?_
  refine (mm_apply (φ₁ := .bf16) (φ₂ := .bf16) _ rfl none _ _ k q).trans ?_
  refine Finset.sum_congr rfl fun j _ => ?_
  refine congrArg₂ (· * ·) ((act_apply _ _ _).trans (congrArg₂ act ?_ ?_)) (drop_apply _ _ _ _)
  · exact (mm_apply (φ₁ := .bf16) (φ₂ := .bf16) _ rfl none _ _ k j).trans (Finset.sum_congr rfl fun d _ => congrArg (_ * ·) (drop_apply _ _ _ _))
  · exact (mm_apply (φ₁ := .bf16) (φ₂ := .bf16) _ rfl none _ _ k j).trans (Finset.sum_congr rfl fun d _ => congrArg (_ * ·) (drop_apply _ _ _ _))

theorem pay2_apply (XS : Vec Ideal S128x1024 .bf16) (W1 W3 : Vec Ideal S1x1024x1792 .bf16) (A : Vec Ideal S128x1024 .f32) (W2 : Vec Ideal S1x1792x1024 .bf16)
    (k : Fin 128) (q : Fin 1024) : k0_pay2 XS W1 W3 A W2 (ix2 k q) = A (ix2 k q) + tile (fun d => XS (ix2 k d)) W1 W3 W2 q := by
  unfold k0_pay2 tile
  rw [shapeCast_self]
  refine congrArg (A (ix2 k q) + ·) ?_
  refine (mm_apply (φ₁ := .bf16) (φ₂ := .bf16) _ rfl none _ _ k q).trans ?_
  refine Finset.sum_congr rfl fun j _ => ?_
  refine congrArg₂ (· * ·) ((act_apply _ _ _).trans (congrArg₂ act ?_ ?_)) (drop_apply _ _ _ _)
  · exact (mm_apply (φ₁ := .bf16) (φ₂ := .bf16) _ rfl none _ _ k j).trans (Finset.sum_congr rfl fun d _ => congrArg (_ * ·) (drop_apply _ _ _ _))
  · exact (mm_apply (φ₁ := .bf16) (φ₂ := .bf16) _ rfl none _ _ k j).trans (Finset.sum_congr rfl fun d _ => congrArg (_ * ·) (drop_apply _ _ _ _))

/-- One group's rows put back: each row takes its packed row times its gate. -/
theorem pay4_apply (i : grid0.Coords) (v : BitVec 32) (G RC : Vec Ideal S896x128 .f32) (t : Fin (k0_t5_loop v).trips) (ht : t.val < 8)
    (Y : Vec Ideal S256x1024 .f32) (O : Vec Ideal S896x1024 .f32) (r : Fin 896) (q : Fin 1024) :
    k0_pay4 (F := Ideal) v (k0_pay15 (exW i) RC) (k0_pay16 (exW i) (k0_pay18 i) G) k0_pay17 0#32 1#32 t Y O (ix2 r q)
      = O (ix2 r q) + (if valid i r then G (ix2 r (col (ex i))) else 0)
        * ((∑ k : Fin 256, (if nn (k.val + 256 * t.val) = RC (ix2 r (col (ex i))) then (1 : EReal) else 0) * Y (ix2 k q))
          + ∑ k : Fin 256, (if nn (k.val + 256 * t.val) = RC (ix2 r (col (ex i))) then (1 : EReal) else 0) * (Y (ix2 k q) - Y (ix2 k q))) := by
  unfold k0_pay4
  rw [shapeCast_self]
  have hsel : ∀ k : Fin 256, (truncf .bf16 (select (cmpf .oeq (addf (k0_pay17 (F := Ideal)) (broadcast S896x256 (Scalar.sitofp .f32 (Scalar.muli (Scf.iv 0#32 1#32 t.val) 256#32) : Ideal .f32)))
      (broadcastTo S896x256 (k0_pay15 (exW i) RC) broadcasts_S896x1_S896x256)) (broadcast S896x256 (Scalar.ofBits .f32 0x3F800000#32 : Ideal .f32)) (broadcast S896x256 (Scalar.ofBits .f32 0x00000000#32 : Ideal .f32))) bitsLt_bf16_f32 : FVec Ideal S896x256 .bf16) (ix2 r k)
      = if nn (k.val + 256 * t.val) = RC (ix2 r (col (ex i))) then (1 : EReal) else 0 := fun k => by
    show (if Ideal.cmp .oeq ((Scalar.sitofp .f32 (iota .tc S896x256 32 [1] iota_S896x256_d1_w32 (ix2 r k)) : Ideal .f32) + (Scalar.sitofp .f32 (Scalar.muli (Scf.iv 0#32 1#32 t.val) 256#32) : Ideal .f32))
      (broadcastTo S896x256 (k0_pay15 (exW i) RC) broadcasts_S896x1_S896x256 (ix2 r k)) = 1#1 then Ideal.ofBits .f32 0x3F800000#32 else Ideal.ofBits .f32 0x00000000#32) = _
    rw [sel_one, iota_single_apply, bcol_apply _ _ (by decide), pay15_apply, (mult_words ⟨t.val, ht⟩).2]
    have hk : k.val < 256 := k.isLt
    exact if_congr (by rw [show ((ix2 r k : S896x256.Idx) 1).val = k.val from rfl, sitofp_nat _ (by omega), sitofp_nat _ (by omega), nn_add]) rfl rfl
  refine congrArg (O (ix2 r q) + ·) (congrArg₂ (· * ·) ?_ (congrArg₂ (· + ·) ?_ ?_))
  · exact (bcol_apply _ _ (by decide) r q).trans (pay16_apply i G r 0)
  · exact (mm_apply (φ₁ := .bf16) (φ₂ := .bf16) _ rfl none _ _ r q).trans (Finset.sum_congr rfl fun k _ => congrArg (· * _) (hsel k))
  · exact (mm_apply (φ₁ := .bf16) (φ₂ := .bf16) _ rfl none _ _ r q).trans (Finset.sum_congr rfl fun k _ => congrArg (· * _) (hsel k))

end Cert.Moe
-- ==== Proof.Row.lean ====
/- One row of a block followed through a grid point, over the extended reals: where the row goes, what its packed row
   and its accumulator hold, and what is put back. -/
module

public import proofs.«01_k».proof.Proof.Gather
public import proofs.«01_k».proof.Proof.BodyAll

@[expose] public section

set_option maxRecDepth 16384
set_option maxHeartbeats 400000

noncomputable section

namespace Cert.Moe

open Cert.KernelIdeal Cert.KernelIdeal.Gen
open Idealize.ShloMosaic Idealize.ShloMosaic.ValueIdx

/-- Whether a row of a block goes to an expert. -/
abbrev goes (i : grid0.Coords) (G : Vec Ideal S896x128 .f32) (r : Fin 896) (e : Fin 128) : Prop := member i G (ix2 r e) = 1#1

theorem tally_strict (i : grid0.Coords) (G : Vec Ideal S896x128 .f32) (r : Fin 896) (e : Fin 128) (h : goes i G r e) (n : Nat) (hn : r.val < n) :
    tally i G r.val e < tally i G n e := by
  unfold tally
  refine Finset.card_lt_card (Finset.ssubset_iff_of_subset (fun k hk => ?_) |>.mpr ⟨r, ?_, ?_⟩)
  · simp only [Finset.mem_filter, Finset.mem_univ, true_and] at hk ⊢
    exact ⟨by omega, hk.2⟩
  · simp only [Finset.mem_filter, Finset.mem_univ, true_and]
    exact ⟨hn, h⟩
  · simp

theorem tally_inj (i : grid0.Coords) (G : Vec Ideal S896x128 .f32) (r j : Fin 896) (e : Fin 128) (hr : goes i G r e) (hj : goes i G j e)
    (h : tally i G r.val e = tally i G j.val e) : r = j := by
  rcases lt_trichotomy r.val j.val with h' | h' | h'
  · exact absurd h (tally_strict i G r e hr _ h').ne
  · exact Fin.ext h'
  · exact absurd h.symm (tally_strict i G j e hj _ h').ne

/-- The ranks and the counts held are those of a block's gates. -/
structure Ranked (i : grid0.Coords) (G : Vec Ideal S896x128 .f32) (s : St Ideal) : Prop where
  RC : ∀ r e, s.RC (ix2 r e) = if goes i G r e then nn (tally i G r.val e) else -1
  RR : ∀ r e, s.RR (ix2 e r) = if goes i G r e then nn (tally i G r.val e) else -1
  CN : ∀ j : Fin 8, s.CN (ix1 j) = BitVec.ofNat 32 (tally i G 896 (col j))

theorem Ranked.congr {i i' : grid0.Coords} {G G' : Vec Ideal S896x128 .f32} {s : St Ideal} (h : Ranked i G s) (hm : masked i G = masked i' G') :
    Ranked i' G' s := by
  have hme : member i G = member i' G' := congrArg (fun M => cmpf .ogt M (broadcast S896x128 (Scalar.ofBits .f32 0x00000000#32 : Ideal .f32))) hm
  have ht : ∀ n e, tally i G n e = tally i' G' n e := fun n e => by unfold tally; rw [hme]
  have hg : ∀ r e, goes i G r e ↔ goes i' G' r e := fun r e => by unfold goes; rw [hme]
  refine ⟨fun r e => (h.RC r e).trans ?_, fun r e => (h.RR r e).trans ?_, fun j => (h.CN j).trans ?_⟩
  · exact if_congr (hg r e) (by rw [ht]) rfl
  · exact if_congr (hg r e) (by rw [ht]) rfl
  · rw [ht]

theorem opA_ranked (i : grid0.Coords) (w : Win Ideal) (s : St Ideal) (hc : k0_cond1 i = 1#1) (hT : IsTri w.T) : Ranked i w.G (opA i w s) := by
  unfold opA
  rw [if_pos hc]
  exact ⟨fun r e => pay9_ideal i w.G w.T hT r e, fun r e => pay10_ideal i w.G w.T hT r e, fun j => countWords_ideal i w.G j⟩

theorem Ranked.word {i : grid0.Coords} {G : Vec Ideal S896x128 .f32} {s : St Ideal} (h : Ranked i G s) :
    (word i s.CN).toNat = tally i G 896 (col (ex i)) := by
  unfold Moe.word
  rw [h.CN, BitVec.toNat_ofNat, Nat.mod_eq_of_lt]
  exact lt_of_le_of_lt (tally_le _ _ _ _) (by decide)

/-- A row's packed place for the expert whose turn it is. -/
def place (i : grid0.Coords) (G : Vec Ideal S896x128 .f32) (r : Fin 896) : Fin 1024 :=
  ⟨tally i G r.val (col (ex i)), lt_of_le_of_lt (tally_le _ _ _ _) (by decide)⟩

theorem place_lt {i : grid0.Coords} {G : Vec Ideal S896x128 .f32} {r : Fin 896} (h : goes i G r (col (ex i))) :
    (place i G r).val < tally i G 896 (col (ex i)) := tally_strict i G r _ h _ r.isLt

theorem packed_place {i : grid0.Coords} {G : Vec Ideal S896x128 .f32} {s : St Ideal} (hs : Ranked i G s) {r : Fin 896} (h : goes i G r (col (ex i)))
    (X : Vec Ideal S896x1024 .bf16) (q : Fin 1024) :
    packed i X (fun j => rows (m := 896) 0 8 s.RR (ix2 (ex i) j)) (place i G r).val q = X (ix2 r q) := by
  unfold packed
  have hR : ∀ j : Fin 896, rows (m := 896) 0 8 s.RR (ix2 (ex i) j) = s.RR (ix2 (col (ex i)) j) := fun j => by
    have : (ex i).val < 8 := (ex i).isLt
    refine congrArg (fun a => s.RR (ix2 a j)) (Fin.ext ?_)
    show (0 + (ex i).val) % 128 = (ex i).val
    omega
  have hv : valid i r := ((member_iff i G r _).mp h).1
  refine (Finset.sum_eq_single r (fun j _ hj => ?_) (fun hr => absurd (Finset.mem_univ _) hr)).trans ?_
  · beta_reduce
    rw [hR, hs.RR, if_neg, zero_mul]
    split
    · rename_i hg
      intro he
      exact hj (tally_inj i G r j _ h hg (nn_inj.mp he)).symm
    · intro he
      have : ((place i G r).val : ℝ) = -1 := by
        rw [show (-1 : EReal) = ((-(1 : ℝ) : ℝ) : EReal) by rw [EReal.coe_neg, EReal.coe_one]] at he
        exact EReal.coe_eq_coe_iff.mp he
      have h0 : (0 : ℝ) ≤ ((place i G r).val : ℝ) := Nat.cast_nonneg _
      rw [this] at h0
      norm_num at h0
  · beta_reduce
    rw [hR, hs.RR, if_pos h, if_pos (show nn (place i G r).val = nn (tally i G r.val (col (ex i))) from rfl), one_mul, if_pos hv]

theorem trips_of {v : BitVec 32} {n : Nat} (hv : v.toNat = n) (hn : n ≤ 896) :
    (k0_t1_loop v).trips = chunks n ∧ (k0_t3_loop v).trips = chunks n ∧ (k0_t5_loop v).trips = groups n := by
  have hv' : v = BitVec.ofNat 32 n := by rw [← hv]; simp
  obtain ⟨h1, -, h3, -, h5, -⟩ := trips_facts ⟨n, by omega⟩
  subst hv'
  exact ⟨h1, h3, h5⟩

theorem ix2_fin {a b : Nat} (x x' : Fin a) (y : Fin b) (h : x.val = x'.val) : (ix2 x y : (⟨2, ![a, b]⟩ : Shape).Idx) = ix2 x' y := by
  rw [Fin.ext h]

theorem opB_row (i : grid0.Coords) (w : Win Ideal) (s : St Ideal) (G : Vec Ideal S896x128 .f32) (hs : Ranked i G s) (hc : k0_cond2 i = 1#1)
    (r : Fin 896) (h : goes i G r (col (ex i))) (q : Fin 1024) :
    (opB i w s).XS (ix2 (place i G r) q) = w.X (ix2 r q) ∧ (opB i w s).ACC (ix2 (place i G r) q) = (0 : EReal) := by
  have hp := place_lt h
  have hw := hs.word
  have ht := tally_le i G 896 (col (ex i))
  obtain ⟨t1, -, -⟩ := trips_of hw ht
  unfold opB
  rw [if_pos hc]
  generalize hpl : place i G r = p at hp
  split
  · rename_i h256
    rw [hw] at h256
    have hch : p.val / 128 < chunks (tally i G 896 (col (ex i))) := by
      unfold chunks; rw [if_neg (by omega)]; omega
    have hch8 := chunks_le ht
    refine ⟨?_, ?_⟩
    · show gathered _ _ _ _ _ le_rfl _ (ix2 p q) = _
      unfold gathered
      rw [dif_pos (show ((ix2 p q : S1024x1024.Idx) 0).val / 128 < _ by rw [t1]; exact hch)]
      refine (pay30_apply i _ _ _ _ (by show p.val / 128 < 8; omega) _ _).trans ?_
      rw [show (⟨((ix2 p q : S1024x1024.Idx) 0).val % 128, Nat.mod_lt _ (by decide)⟩ : Fin 128).val + 128 * (((ix2 p q : S1024x1024.Idx) 0).val / 128) = p.val from Nat.mod_add_div p.val 128, ← hpl]
      exact packed_place hs h w.X q
    · exact Ideal.ofBits_zero_f32
  · rename_i h256
    rw [hw] at h256
    have hlt : p.val < 256 := by omega
    refine ⟨?_, ?_⟩
    · show setTop _ _ (ix2 p q) = _
      unfold setTop
      rw [dif_pos (show ((ix2 p q : S1024x1024.Idx) 0).val < 256 from hlt)]
      refine (pay28_apply i _ _ _ _).trans ?_
      show packed _ _ _ p.val q = _
      rw [← hpl]
      exact packed_place hs h w.X q
    · show setTop _ _ (ix2 p q) = _
      unfold setTop
      rw [dif_pos (show ((ix2 p q : S1024x1024.Idx) 0).val < 256 from hlt)]
      exact Ideal.ofBits_zero_f32

theorem rows_at {α : Type} {m : Nat} (o W : Nat) (A : (⟨2, ![1024, m]⟩ : Shape).Idx → α) (k : Fin W) (p : Fin 1024) (h : o + k.val = p.val) (q : Fin m) :
    rows (n := 1024) o W A (ix2 k q) = A (ix2 p q) := by
  refine congrArg (fun a => A (ix2 a q)) (Fin.ext ?_)
  show (o + k.val) % 1024 = p.val
  have := p.isLt
  omega

theorem opC_row (i : grid0.Coords) (w : Win Ideal) (s : St Ideal) (p : Fin 1024) (hw896 : (word i s.CN).toNat ≤ 896) (hp : p.val < (word i s.CN).toNat) (q : Fin 1024) :
    (opC i w s).ACC (ix2 p q) = s.ACC (ix2 p q) + tile (fun d => s.XS (ix2 p d)) w.W1 w.W3 w.W2 q := by
  obtain ⟨-, t3, -⟩ := trips_of rfl hw896
  unfold opC
  split
  · rename_i h256
    have hch : p.val / 128 < chunks (word i s.CN).toNat := by
      unfold chunks; rw [if_neg (by omega)]; omega
    show accumulated _ _ _ _ (ix2 p q) = _
    unfold accumulated
    rw [if_pos (show ((ix2 p q : S1024x1024.Idx) 0).val / 128 < _ by rw [t3]; exact hch)]
    refine (pay2_apply _ _ _ _ _ _ _).trans ?_
    have hr : ∀ d : Fin 1024, rows (m := 1024) (128 * (p.val / 128)) 128 s.XS (ix2 (⟨p.val % 128, Nat.mod_lt _ (by decide)⟩ : Fin 128) d) = s.XS (ix2 p d) := fun d =>
      rows_at _ _ _ _ _ (Nat.div_add_mod p.val 128) _
    refine congrArg₂ (· + ·) (rows_at _ _ _ _ _ (Nat.div_add_mod p.val 128) _) ?_
    exact congrArg (fun x => tile x w.W1 w.W3 w.W2 q) (funext hr)
  · rename_i h256
    show setTop _ _ (ix2 p q) = _
    unfold setTop
    have hlt : p.val < 256 := by omega
    rw [dif_pos (show ((ix2 p q : S1024x1024.Idx) 0).val < 256 from hlt)]
    refine (pay1_apply _ _ _ _ _ _ _).trans ?_
    have hr : ∀ d : Fin 1024, rows (m := 1024) 0 256 s.XS (ix2 (⟨p.val, hlt⟩ : Fin 256) d) = s.XS (ix2 p d) := fun d =>
      rows_at _ _ _ _ _ (Nat.zero_add _) _
    refine congrArg₂ (· + ·) (rows_at _ _ _ _ _ (Nat.zero_add _) _) ?_
    exact congrArg (fun x => tile x w.W1 w.W3 w.W2 q) (funext hr)

theorem combined_none (i : grid0.Coords) (v : BitVec 32) (G RC : Vec Ideal S896x128 .f32) (ACC : Vec Ideal S1024x1024 .f32) (O : Vec Ideal S896x1024 .f32)
    (r : Fin 896) (q : Fin 1024) (hRC : RC (ix2 r (col (ex i))) = (-1 : EReal)) (ht : (k0_t5_loop v).trips ≤ 8) :
    ∀ (k : Nat) (hk : k ≤ (k0_t5_loop v).trips), combined i v G RC ACC O k hk (ix2 r q) = O (ix2 r q) := by
  intro k
  induction k with
  | zero => intro _; rfl
  | succ k ih =>
    intro hk
    unfold combined
    refine (pay4_apply i v G RC ⟨k, hk⟩ (by show k < 8; omega) _ _ r q).trans ?_
    rw [ih, hRC]
    have hne : ∀ n : Nat, nn n ≠ (-1 : EReal) := fun n he => by
      have : (n : ℝ) = -1 := by
        rw [show (-1 : EReal) = ((-(1 : ℝ) : ℝ) : EReal) by rw [EReal.coe_neg, EReal.coe_one]] at he
        exact EReal.coe_eq_coe_iff.mp he
      have h0 : (0 : ℝ) ≤ (n : ℝ) := Nat.cast_nonneg _
      rw [this] at h0
      norm_num at h0
    simp only [hne, if_false, zero_mul, Finset.sum_const_zero, add_zero, mul_zero]

theorem combined_some (i : grid0.Coords) (v : BitVec 32) (G RC : Vec Ideal S896x128 .f32) (ACC : Vec Ideal S1024x1024 .f32) (O : Vec Ideal S896x1024 .f32)
    (r : Fin 896) (q : Fin 1024) (p : Fin 1024) (hRC : RC (ix2 r (col (ex i))) = nn p.val) (ht : (k0_t5_loop v).trips ≤ 4)
    (y : ℝ) (hy : ACC (ix2 p q) = (y : EReal)) (hv : valid i r) :
    ∀ (k : Nat) (hk : k ≤ (k0_t5_loop v).trips), combined i v G RC ACC O k hk (ix2 r q)
      = if p.val < 256 * k then O (ix2 r q) + G (ix2 r (col (ex i))) * (y : EReal) else O (ix2 r q) := by
  intro k
  induction k with
  | zero => intro _; rw [if_neg (by omega)]; rfl
  | succ k ih =>
    intro hk
    unfold combined
    refine (pay4_apply i v G RC ⟨k, hk⟩ (by show k < 8; omega) _ _ r q).trans ?_
    rw [ih, hRC, if_pos hv]
    simp only [nn_inj]
    by_cases h1 : p.val < 256 * k
    · rw [if_pos h1, if_pos (by omega)]
      have hne : ∀ c : Fin 256, ¬ (c.val + 256 * k = p.val) := fun c => by omega
      simp only [hne, if_false, zero_mul, Finset.sum_const_zero, add_zero, mul_zero]
    · rw [if_neg h1]
      by_cases h2 : p.val < 256 * (k + 1)
      · rw [if_pos h2]
        have hiff : ∀ c : Fin 256, (c.val + 256 * k = p.val) ↔ c = ⟨p.val - 256 * k, by omega⟩ := fun c =>
          ⟨fun h => Fin.ext (by show c.val = p.val - 256 * k; omega), fun h => by subst h; show p.val - 256 * k + 256 * k = p.val; omega⟩
        have hrow : rows (m := 1024) (256 * k) 256 ACC (ix2 (⟨p.val - 256 * k, by omega⟩ : Fin 256) q) = (y : EReal) :=
          (rows_at _ _ _ _ p (by show 256 * k + (p.val - 256 * k) = p.val; omega) _).trans hy
        simp only [hiff, ite_mul, one_mul, zero_mul, Finset.sum_ite_eq', Finset.mem_univ, if_true]
        rw [hrow, ← EReal.coe_sub, sub_self, EReal.coe_zero, add_zero]
      · rw [if_neg h2]
        have hne : ∀ c : Fin 256, ¬ (c.val + 256 * k = p.val) := fun c => by have := c.isLt; omega
        simp only [hne, if_false, zero_mul, Finset.sum_const_zero, add_zero, mul_zero]

end Cert.Moe
-- ==== Proof.Blocks.lean ====
/- The blocks a grid point reads, as entries of the arrays. -/
module

public import proofs.«01_k».proof.Proof.Frames
public import proofs.«01_k».proof.Proof.Row

@[expose] public section

set_option maxRecDepth 16384
set_option maxHeartbeats 400000

noncomputable section

namespace Cert.Moe

open Cert.KernelIdeal Cert.KernelIdeal.Gen
open Idealize.ShloMosaic Idealize.ShloMosaic.ValueIdx Idealize.ShloMosaic.TcCoe Idealize.SL.Sem

variable {F : FTy → Type} [FloatOps F]
variable (m : (ℓ : Loc nD τ sig) → Buf (Elt F) ℓ)

theorem coord0 (t : Fin cfg0.N) : (grid0.coords t 0).val = t.val / 16 % 37 := Pipeline.Grid.coords_val t 0 (by decide) (by decide)
theorem coord1 (t : Fin cfg0.N) : (grid0.coords t 1).val = t.val / 2 % 8 := Pipeline.Grid.coords_val t 1 (by decide) (by decide)
theorem coord2 (t : Fin cfg0.N) : (grid0.coords t 2).val = t.val / 1 % 2 := Pipeline.Grid.coords_val t 2 (by decide) (by decide)

theorem word32 (n : Nat) (h : n < 2 ^ 32) : (BitVec.ofNat 32 n).toNat = n := by rw [BitVec.toNat_ofNat, Nat.mod_eq_of_lt h]

/-- A row of a block as a row of the array. -/
def tok (i : grid0.Coords) (r : Fin 896) (h : valid i r) : Fin 32768 := ⟨896 * (i 0).val + r.val, h⟩

theorem inside (ix k d j : Nat) (h : ix * k + j < d) (hj : j < k) : j < (Pipeline.Clip.of ix k d).extent k := by
  unfold Pipeline.Clip.of
  split
  · exact hj
  · show j < d - ix * k; omega

theorem filled_0 (c : Dev nD) (t : Fin cfg0.N) (d) (r : Fin 896) (h : valid (grid0.coords t) r) (q : Fin 1024) :
    filled m c 0 t d (ix2 r q) = V m c main_arg0 (ix2 (tok _ r h) q) := by
  have h0 : cc0_transform_0 (grid0.coords t) 0 = (grid0.coords t 0).val := word32 _ (lt_trans (grid0.coords t 0).isLt (by decide))
  have hm : (cfg0.win 0).moved (cfg0.grid.coords t) (ix2 r q) = true := by
    rw [Pipeline.Window.moved_iff]
    intro a
    match a with
    | 0 =>
      refine inside (cc0_transform_0 (grid0.coords t) 0) 896 32768 r.val ?_ r.isLt
      rw [h0]; unfold valid at h; omega
    | 1 => exact inside (cc0_transform_0 (grid0.coords t) 1) 1024 1024 q.val (by show 0 * 1024 + _ < _; have := q.isLt; omega) q.isLt
  unfold filled
  unfold Pipeline.Window.fill
  rw [dif_pos hm]
  unfold iblk
  rw [View.read_apply]
  refine congrArg (V m c main_arg0) (funext fun a => Fin.ext ?_)
  match a with
  | 0 =>
    refine (Pipeline.Window.rect_emb_val win0_0 t _ 0).trans ?_
    show cc0_transform_0 (grid0.coords t) 0 * 896 + r.val = 896 * (grid0.coords t 0).val + r.val
    rw [h0, Nat.mul_comm]
  | 1 =>
    refine (Pipeline.Window.rect_emb_val win0_0 t _ 1).trans ?_
    show 0 * 1024 + q.val = q.val
    omega

theorem filled_1 (c : Dev nD) (t : Fin cfg0.N) (d) (r : Fin 896) (h : valid (grid0.coords t) r) (q : Fin 128) :
    filled m c 1 t d (ix2 r q) = V m c main_arg1 (ix2 (tok _ r h) q) := by
  have h0 : cc0_transform_1 (grid0.coords t) 0 = (grid0.coords t 0).val := word32 _ (lt_trans (grid0.coords t 0).isLt (by decide))
  have hm : (cfg0.win 1).moved (cfg0.grid.coords t) (ix2 r q) = true := by
    rw [Pipeline.Window.moved_iff]
    intro a
    match a with
    | 0 =>
      refine inside (cc0_transform_1 (grid0.coords t) 0) 896 32768 r.val ?_ r.isLt
      rw [h0]; unfold valid at h; omega
    | 1 => exact inside (cc0_transform_1 (grid0.coords t) 1) 128 128 q.val (by show 0 * 128 + _ < _; have := q.isLt; omega) q.isLt
  unfold filled
  unfold Pipeline.Window.fill
  rw [dif_pos hm]
  unfold iblk
  rw [View.read_apply]
  refine congrArg (V m c main_arg1) (funext fun a => Fin.ext ?_)
  match a with
  | 0 =>
    refine (Pipeline.Window.rect_emb_val win0_1 t _ 0).trans ?_
    show cc0_transform_1 (grid0.coords t) 0 * 896 + r.val = 896 * (grid0.coords t 0).val + r.val
    rw [h0, Nat.mul_comm]
  | 1 =>
    refine (Pipeline.Window.rect_emb_val win0_1 t _ 1).trans ?_
    show 0 * 128 + q.val = q.val
    omega

theorem iblk_2 (c : Dev nD) (t : Fin cfg0.N) (a b : Fin 896) :
    (iblk m c 2 t : Vec F S896x896 .bf16) (ix2 a b) = V m c main_v4 (ix2 a b) := by
  unfold iblk
  rw [View.read_apply]
  refine congrArg (V m c main_v4) (funext fun x => Fin.ext ?_)
  match x with
  | 0 =>
    refine (Pipeline.Window.rect_emb_val win0_2 t _ 0).trans ?_
    show 0 * 896 + a.val = a.val
    omega
  | 1 =>
    refine (Pipeline.Window.rect_emb_val win0_2 t _ 1).trans ?_
    show 0 * 896 + b.val = b.val
    omega

/-- The part of the hidden layer a grid point works on, and a hidden entry of it. -/
def part (i : grid0.Coords) : Fin 2 := i 2
def hid (f : Fin 2) (k : Fin 1792) : Fin 3584 := ⟨1792 * f.val + k.val, by omega⟩

theorem iblk_3 (c : Dev nD) (t : Fin cfg0.N) (d : Fin 1024) (k : Fin 1792) :
    (iblk m c 3 t : Vec F S1x1024x1792 .bf16) (ix3 0 d k) = V m c main_arg2 (ix3 (ex (grid0.coords t)) d (hid (part (grid0.coords t)) k)) := by
  have h1 : cc0_transform_3 (grid0.coords t) 0 = (grid0.coords t 1).val := word32 _ (lt_trans (grid0.coords t 1).isLt (by decide))
  have h2 : cc0_transform_3 (grid0.coords t) 2 = (grid0.coords t 2).val := word32 _ (lt_trans (grid0.coords t 2).isLt (by decide))
  unfold iblk
  rw [View.read_apply]
  refine congrArg (V m c main_arg2) (funext fun x => Fin.ext ?_)
  match x with
  | 0 =>
    refine (Pipeline.Window.rect_emb_val win0_3 t _ 0).trans ?_
    show cc0_transform_3 (grid0.coords t) 0 * 1 + 0 = (grid0.coords t 1).val
    rw [h1]; omega
  | 1 =>
    refine (Pipeline.Window.rect_emb_val win0_3 t _ 1).trans ?_
    show 0 * 1024 + d.val = d.val
    omega
  | 2 =>
    refine (Pipeline.Window.rect_emb_val win0_3 t _ 2).trans ?_
    show cc0_transform_3 (grid0.coords t) 2 * 1792 + k.val = 1792 * (grid0.coords t 2).val + k.val
    rw [h2, Nat.mul_comm]

theorem iblk_4 (c : Dev nD) (t : Fin cfg0.N) (d : Fin 1024) (k : Fin 1792) :
    (iblk m c 4 t : Vec F S1x1024x1792 .bf16) (ix3 0 d k) = V m c main_arg3 (ix3 (ex (grid0.coords t)) d (hid (part (grid0.coords t)) k)) := by
  have h1 : cc0_transform_4 (grid0.coords t) 0 = (grid0.coords t 1).val := word32 _ (lt_trans (grid0.coords t 1).isLt (by decide))
  have h2 : cc0_transform_4 (grid0.coords t) 2 = (grid0.coords t 2).val := word32 _ (lt_trans (grid0.coords t 2).isLt (by decide))
  unfold iblk
  rw [View.read_apply]
  refine congrArg (V m c main_arg3) (funext fun x => Fin.ext ?_)
  match x with
  | 0 =>
    refine (Pipeline.Window.rect_emb_val win0_4 t _ 0).trans ?_
    show cc0_transform_4 (grid0.coords t) 0 * 1 + 0 = (grid0.coords t 1).val
    rw [h1]; omega
  | 1 =>
    refine (Pipeline.Window.rect_emb_val win0_4 t _ 1).trans ?_
    show 0 * 1024 + d.val = d.val
    omega
  | 2 =>
    refine (Pipeline.Window.rect_emb_val win0_4 t _ 2).trans ?_
    show cc0_transform_4 (grid0.coords t) 2 * 1792 + k.val = 1792 * (grid0.coords t 2).val + k.val
    rw [h2, Nat.mul_comm]

theorem iblk_5 (c : Dev nD) (t : Fin cfg0.N) (k : Fin 1792) (q : Fin 1024) :
    (iblk m c 5 t : Vec F S1x1792x1024 .bf16) (ix3 0 k q) = V m c main_arg4 (ix3 (ex (grid0.coords t)) (hid (part (grid0.coords t)) k) q) := by
  have h1 : cc0_transform_5 (grid0.coords t) 0 = (grid0.coords t 1).val := word32 _ (lt_trans (grid0.coords t 1).isLt (by decide))
  have h2 : cc0_transform_5 (grid0.coords t) 1 = (grid0.coords t 2).val := word32 _ (lt_trans (grid0.coords t 2).isLt (by decide))
  unfold iblk
  rw [View.read_apply]
  refine congrArg (V m c main_arg4) (funext fun x => Fin.ext ?_)
  match x with
  | 0 =>
    refine (Pipeline.Window.rect_emb_val win0_5 t _ 0).trans ?_
    show cc0_transform_5 (grid0.coords t) 0 * 1 + 0 = (grid0.coords t 1).val
    rw [h1]; omega
  | 1 =>
    refine (Pipeline.Window.rect_emb_val win0_5 t _ 1).trans ?_
    show cc0_transform_5 (grid0.coords t) 1 * 1792 + k.val = 1792 * (grid0.coords t 2).val + k.val
    rw [h2, Nat.mul_comm]
  | 2 =>
    refine (Pipeline.Window.rect_emb_val win0_5 t _ 2).trans ?_
    show 0 * 1024 + q.val = q.val
    omega

end Cert.Moe
-- ==== Proof.Value.lean ====
/- What a grid point leaves, in terms of the arrays: the packed rows and their sums of the experts taken so far. -/
module

public import proofs.«01_k».proof.Proof.Blocks

@[expose] public section

set_option maxRecDepth 16384
set_option maxHeartbeats 400000

noncomputable section

namespace Cert.Moe

open Cert.KernelIdeal Cert.KernelIdeal.Gen
open Idealize.ShloMosaic Idealize.ShloMosaic.ValueIdx

/-- The arrays: tokens, gates and the experts' three weights. -/
structure Arr where
  x : Vec Ideal S32768x1024 .bf16
  g : Vec Ideal S32768x128 .f32
  w1 : Vec Ideal S8x1024x3584 .bf16
  w3 : Vec Ideal S8x1024x3584 .bf16
  w2 : Vec Ideal S8x3584x1024 .bf16

/-- A part of an expert's output for a token. -/
def tileG (A : Arr) (n : Fin 32768) (e : Fin 8) (f : Fin 2) (q : Fin 1024) : EReal :=
  ∑ k : Fin 1792, act (∑ d : Fin 1024, A.x (ix2 n d) * A.w1 (ix3 e d (hid f k))) (∑ d : Fin 1024, A.x (ix2 n d) * A.w3 (ix3 e d (hid f k)))
    * A.w2 (ix3 e (hid f k) q)

/-- An expert's gated output for a token that goes to it, else 0. -/
def share (A : Arr) (n : Fin 32768) (e : Fin 8) (q : Fin 1024) : EReal :=
  if 0 < A.g (ix2 n (col e)) then A.g (ix2 n (col e)) * (tileG A n e 0 q + tileG A n e 1 q) else 0

/-- Every part is a real number. -/
def Reals (A : Arr) : Prop := ∀ n e f q, ∃ y : ℝ, tileG A n e f q = (y : EReal)

/-- A token's gate in a block, 0 past the last token. -/
def gAt (A : Arr) (i : grid0.Coords) (r : Fin 896) (e : Fin 128) : EReal :=
  if h : valid i r then A.g (ix2 (tok i r h) e) else 0

theorem gAt_valid (A : Arr) (i : grid0.Coords) (r : Fin 896) (e : Fin 128) (h : valid i r) : gAt A i r e = A.g (ix2 (tok i r h) e) := dif_pos h

/-- The gates of a block, 0 past the last token. -/
def gBlock (A : Arr) (i : grid0.Coords) : Vec Ideal S896x128 .f32 := fun x =>
  gAt A i (x 0) (x 1)

/-- A grid point's blocks are those of the arrays. -/
structure Reads (A : Arr) (i : grid0.Coords) (w : Win Ideal) : Prop where
  X : ∀ r h q, w.X (ix2 r q) = A.x (ix2 (tok i r h) q)
  G : ∀ r h q, w.G (ix2 r q) = A.g (ix2 (tok i r h) q)
  T : IsTri w.T
  W1 : ∀ d k, w.W1 (ix3 0 d k) = A.w1 (ix3 (ex i) d (hid (part i) k))
  W3 : ∀ d k, w.W3 (ix3 0 d k) = A.w3 (ix3 (ex i) d (hid (part i) k))
  W2 : ∀ k q, w.W2 (ix3 0 k q) = A.w2 (ix3 (ex i) (hid (part i) k) q)

theorem ix2_eta {a b : Nat} (x : (⟨2, ![a, b]⟩ : Shape).Idx) : ix2 (x 0) (x 1) = x := (eq_ix2 x).symm

theorem masked_reads {A : Arr} {i : grid0.Coords} {w : Win Ideal} (h : Reads A i w) : masked i w.G = masked i (gBlock A i) := by
  funext x
  obtain ⟨r, e, rfl⟩ : ∃ r e, x = ix2 r e := ⟨x 0, x 1, (ix2_eta x).symm⟩
  rw [masked_apply, masked_apply]
  by_cases hv : valid i r
  · rw [if_pos hv, if_pos hv, h.G r hv]
    exact (gAt_valid A i r e hv).symm
  · rw [if_neg hv, if_neg hv]

theorem masked_block (A : Arr) {i i' : grid0.Coords} (h : (i' 0).val = (i 0).val) : masked i' (gBlock A i') = masked i (gBlock A i) := by
  have hv' : ∀ r, valid i' r ↔ valid i r := fun r => by unfold valid; rw [h]
  funext x
  obtain ⟨r, e, rfl⟩ : ∃ r e, x = ix2 r e := ⟨x 0, x 1, (ix2_eta x).symm⟩
  rw [masked_apply, masked_apply]
  by_cases hv : valid i r
  · rw [if_pos hv, if_pos ((hv' r).mpr hv)]
    refine (gAt_valid A i' r e ((hv' r).mpr hv)).trans (Eq.trans ?_ (gAt_valid A i r e hv).symm)
    refine congrArg (fun a => A.g (ix2 a e)) (Fin.ext ?_)
    show 896 * (i' 0).val + r.val = 896 * (i 0).val + r.val
    rw [h]
  · rw [if_neg hv, if_neg fun h' => hv ((hv' r).mp h')]

theorem goes_of_masked {i i' : grid0.Coords} {G G' : Vec Ideal S896x128 .f32} (h : masked i G = masked i' G') : member i G = member i' G' :=
  congrArg (fun M => cmpf .ogt M (broadcast S896x128 (Scalar.ofBits .f32 0x00000000#32 : Ideal .f32))) h

theorem tally_of_masked {i i' : grid0.Coords} {G G' : Vec Ideal S896x128 .f32} (h : masked i G = masked i' G') : tally i G = tally i' G' := by
  funext n e; unfold tally; rw [goes_of_masked h]

theorem goes_iff (A : Arr) (i : grid0.Coords) (r : Fin 896) (h : valid i r) (e : Fin 128) :
    goes i (gBlock A i) r e ↔ 0 < A.g (ix2 (tok i r h) e) := by
  unfold goes
  rw [member_iff]
  have : gBlock A i (ix2 r e) = A.g (ix2 (tok i r h) e) := gAt_valid A i r e h
  rw [this]
  exact ⟨fun h => h.2, fun h' => ⟨h, h'⟩⟩

/-- The packed rows hold the tokens that go to an expert, and the accumulator its first part's sums. -/
def Held (A : Arr) (i : grid0.Coords) (XS : Vec Ideal S1024x1024 .bf16) (ACC : Fin 32768 → Fin 1024 → EReal) (acc : Vec Ideal S1024x1024 .f32) : Prop :=
  ∀ (r : Fin 896) (h : valid i r) (p : Fin 1024), goes i (gBlock A i) r (col (ex i)) → p.val = tally i (gBlock A i) r.val (col (ex i)) →
    ∀ q, XS (ix2 p q) = A.x (ix2 (tok i r h) q) ∧ acc (ix2 p q) = ACC (tok i r h) q

theorem Held.move {A : Arr} {i i' : grid0.Coords} {XS ACC acc} (h : Held A i' XS ACC acc) (h0 : (i' 0).val = (i 0).val) (h1 : (i' 1).val = (i 1).val) :
    Held A i XS ACC acc := by
  intro r hv p hg hp q
  have hm := masked_block A h0
  have he : ex i' = ex i := Fin.ext h1
  have hv' : valid i' r := by unfold valid; rw [h0]; exact hv
  have ht : tok i r hv = tok i' r hv' := Fin.ext (by show 896 * (i 0).val + r.val = 896 * (i' 0).val + r.val; rw [h0])
  rw [ht]
  refine h r hv' p ?_ ?_ q
  · unfold goes; rw [goes_of_masked hm, he]; exact hg
  · rw [tally_of_masked hm, he]; exact hp

structure Kept (A : Arr) (i : grid0.Coords) (s : St Ideal) : Prop where
  ranked : Ranked i (gBlock A i) s
  row : (i 2).val = 0 → Held A i s.XS (fun n q => tileG A n (ex i) 0 q) s.ACC

/-- What a point finds: it is a block's first, or the point before it left the block's ranks and, at an expert's second
    part, the packed rows. -/
def Ready (A : Arr) (i : grid0.Coords) (s : St Ideal) : Prop :=
  k0_cond1 i = 1#1 ∨ ∃ i', Kept A i' s ∧ (i' 0).val = (i 0).val ∧ ((i 2).val = 1 → (i' 1).val = (i 1).val ∧ (i' 2).val = 0)

theorem ready_ranked {A : Arr} {i : grid0.Coords} {w : Win Ideal} {s : St Ideal} (hw : Reads A i w) (h : Ready A i s) :
    Ranked i (gBlock A i) (opA i w s) := by
  by_cases hc : k0_cond1 i = 1#1
  · exact (opA_ranked i w s hc hw.T).congr (masked_reads hw)
  · obtain h | ⟨i', hk, h0, -⟩ := h
    · exact absurd h hc
    · rw [show opA i w s = s by unfold opA; rw [if_neg hc]]
      exact hk.ranked.congr (masked_block A h0)

theorem opB_ranked {i : grid0.Coords} {G : Vec Ideal S896x128 .f32} {w : Win Ideal} {s : St Ideal} (h : Ranked i G s) : Ranked i G (opB i w s) := by
  have h1 : (opB i w s).RC = s.RC := by
    unfold opB; repeat' split
    all_goals rfl
  have h2 : (opB i w s).RR = s.RR := by
    unfold opB; repeat' split
    all_goals rfl
  exact ⟨h1 ▸ h.RC, h2 ▸ h.RR, (opB_CN i w s) ▸ h.CN⟩

theorem opC_ranked {i : grid0.Coords} {G : Vec Ideal S896x128 .f32} {w : Win Ideal} {s : St Ideal} (h : Ranked i G s) : Ranked i G (opC i w s) := by
  have h1 : (opC i w s).RC = s.RC := by
    unfold opC; repeat' split
    all_goals rfl
  have h2 : (opC i w s).RR = s.RR := by
    unfold opC; repeat' split
    all_goals rfl
  have h3 : (opC i w s).CN = s.CN := by
    unfold opC; repeat' split
    all_goals rfl
  exact ⟨h1 ▸ h.RC, h2 ▸ h.RR, h3 ▸ h.CN⟩

theorem opD_scratch (i : grid0.Coords) (w : Win Ideal) (s : St Ideal) : (opD i w s).XS = s.XS ∧ (opD i w s).ACC = s.ACC
    ∧ (opD i w s).RC = s.RC ∧ (opD i w s).RR = s.RR ∧ (opD i w s).CN = s.CN := by
  unfold opD; split
  all_goals exact ⟨rfl, rfl, rfl, rfl, rfl⟩

theorem opC_XS (i : grid0.Coords) (w : Win Ideal) (s : St Ideal) : (opC i w s).XS = s.XS := by
  unfold opC; repeat' split
  all_goals rfl

theorem opC_O (i : grid0.Coords) (w : Win Ideal) (s : St Ideal) : (opC i w s).O = s.O := by
  unfold opC; repeat' split
  all_goals rfl

theorem opB_O (i : grid0.Coords) (w : Win Ideal) (s : St Ideal) : (opB i w s).O = s.O := by
  unfold opB; repeat' split
  all_goals rfl

theorem tile_reads {A : Arr} {i : grid0.Coords} {w : Win Ideal} (hw : Reads A i w) (n : Fin 32768) (q : Fin 1024) :
    tile (fun d => A.x (ix2 n d)) w.W1 w.W3 w.W2 q = tileG A n (ex i) (part i) q := by
  unfold tile tileG
  refine Finset.sum_congr rfl fun k _ => ?_
  rw [hw.W2]
  simp only [hw.W1, hw.W3]

/-- The products added: from the packed rows and sums so far. -/
theorem opC_held {A : Arr} {i : grid0.Coords} {w : Win Ideal} {s : St Ideal} (hw : Reads A i w) (hr : Ranked i (gBlock A i) s)
    {ACC : Fin 32768 → Fin 1024 → EReal} (h : Held A i s.XS ACC s.ACC) :
    Held A i (opC i w s).XS (fun n q => ACC n q + tileG A n (ex i) (part i) q) (opC i w s).ACC := by
  intro r hv p hg hp q
  have hword := hr.word
  have hpl : p.val < (word i s.CN).toNat := by
    rw [hword, hp]; exact tally_strict i _ r _ hg _ r.isLt
  refine ⟨by rw [opC_XS]; exact (h r hv p hg hp q).1, ?_⟩
  rw [opC_row i w s p (by rw [hword]; exact tally_le _ _ _ _) hpl q, (h r hv p hg hp q).2]
  have hx : (fun d => s.XS (ix2 p d)) = fun d => A.x (ix2 (tok i r hv) d) := funext fun d => (h r hv p hg hp d).1
  rw [hx, tile_reads hw]

theorem opB_held {A : Arr} {i : grid0.Coords} {w : Win Ideal} {s : St Ideal} (hw : Reads A i w) (hr : Ranked i (gBlock A i) s) (hc : k0_cond2 i = 1#1) :
    Held A i (opB i w s).XS (fun _ _ => 0) (opB i w s).ACC := by
  intro r hv p hg hp q
  have hpp : p = place i (gBlock A i) r := Fin.ext hp
  subst hpp
  obtain ⟨h1, h2⟩ := opB_row i w s _ hr hc r hg q
  exact ⟨h1.trans (hw.X r hv q), h2⟩

/-- The packed rows and sums after a point's products. -/
theorem products_held {A : Arr} {i : grid0.Coords} {w : Win Ideal} {s : St Ideal} (hw : Reads A i w) (h : Ready A i s) :
    Ranked i (gBlock A i) (opC i w (opB i w (opA i w s)))
    ∧ Held A i (opC i w (opB i w (opA i w s))).XS (fun n q => if (i 2).val = 0 then tileG A n (ex i) 0 q else tileG A n (ex i) 0 q + tileG A n (ex i) 1 q)
      (opC i w (opB i w (opA i w s))).ACC := by
  have hA := ready_ranked hw h
  have hB := opB_ranked (w := w) hA
  refine ⟨opC_ranked hB, ?_⟩
  have h2lt : (i 2).val < 2 := (i 2).isLt
  by_cases hf : (i 2).val = 0
  · have hp : part i = 0 := Fin.ext hf
    have := opC_held hw hB (opB_held hw hA ((cond2_iff i).mpr hf))
    simp only [hf, if_true]
    rw [hp] at this
    simpa only [zero_add] using this
  · have hp : part i = 1 := Fin.ext (by show (i 2).val = 1; omega)
    have hc1 : ¬ k0_cond1 i = 1#1 := fun hc => hf ((cond1_iff i).mp hc).2
    have hc2 : ¬ k0_cond2 i = 1#1 := fun hc => hf ((cond2_iff i).mp hc)
    have hAs : opA i w s = s := by unfold opA; rw [if_neg hc1]
    have hBs : opB i w s = s := by unfold opB; rw [if_neg hc2]
    rw [hAs, hBs] at hB ⊢
    obtain hc | ⟨i', hk, h0, hnext⟩ := h
    · exact absurd hc hc1
    obtain ⟨h1, h2⟩ := hnext (by omega)
    have hm := (hk.row h2).move h0 h1
    rw [show ex i' = ex i from Fin.ext h1] at hm
    have := opC_held hw hB hm
    simp only [hf, if_false]
    rw [hp] at this
    exact this

theorem step_kept {A : Arr} {i : grid0.Coords} {w : Win Ideal} {s : St Ideal} (hw : Reads A i w) (h : Ready A i s) : Kept A i (step i w s) := by
  obtain ⟨hr, hh⟩ := products_held hw h
  unfold step
  obtain ⟨e1, e2, e3, e4, e5⟩ := opD_scratch i w (opC i w (opB i w (opA i w s)))
  refine ⟨⟨e3 ▸ hr.RC, e4 ▸ hr.RR, e5 ▸ hr.CN⟩, fun hf => ?_⟩
  rw [e1, e2]
  simpa only [hf, if_true] using hh

/-- At an expert's first part the output is as the block's start left it. -/
theorem step_out_first {i : grid0.Coords} {w : Win Ideal} {s : St Ideal} (hf : (i 2).val = 0) : (step i w s).O = (opA i w s).O := by
  unfold step opD
  rw [if_neg fun hc => by have := (cond7_iff i).mp hc; omega, opC_O, opB_O]

/-- At its second part a token's row takes the expert's gated output. -/
theorem step_out_last {A : Arr} (hA : Reals A) {i : grid0.Coords} {w : Win Ideal} {s : St Ideal} (hw : Reads A i w) (h : Ready A i s) (hf : (i 2).val = 1)
    (r : Fin 896) (hv : valid i r) (q : Fin 1024) : (step i w s).O (ix2 r q) = s.O (ix2 r q) + share A (tok i r hv) (ex i) q := by
  obtain ⟨hr, hh⟩ := products_held hw h
  have hc1 : ¬ k0_cond1 i = 1#1 := fun hc => by have := ((cond1_iff i).mp hc).2; omega
  have hAs : opA i w s = s := by unfold opA; rw [if_neg hc1]
  have hO : (opC i w (opB i w (opA i w s))).O = s.O := by rw [opC_O, opB_O, hAs]
  unfold step
  generalize hs3 : opC i w (opB i w (opA i w s)) = s3 at hr hh hO
  unfold opD
  rw [if_pos ((cond7_iff i).mpr hf)]
  show combined i _ w.G s3.RC s3.ACC s3.O _ le_rfl (ix2 r q) = _
  have hw896 : (word i s3.CN).toNat ≤ 896 := by rw [hr.word]; exact tally_le _ _ _ _
  obtain ⟨-, -, t5⟩ := trips_of rfl hw896
  have hg4 := groups_le hw896
  unfold share
  by_cases hg : goes i (gBlock A i) r (col (ex i))
  · obtain ⟨y0, hy0⟩ := hA (tok i r hv) (ex i) 0 q
    obtain ⟨y1, hy1⟩ := hA (tok i r hv) (ex i) 1 q
    have hacc := (hh r hv (place i (gBlock A i) r) hg rfl q).2
    beta_reduce at hacc
    rw [if_neg (by omega), hy0, hy1, ← EReal.coe_add] at hacc
    have hRC : s3.RC (ix2 r (col (ex i))) = nn (place i (gBlock A i) r).val := by rw [hr.RC, if_pos hg]; rfl
    have hpl := place_lt hg
    rw [← hr.word] at hpl
    rw [combined_some i _ w.G s3.RC s3.ACC s3.O r q (place i (gBlock A i) r) hRC (by omega) (y0 + y1) hacc hv, if_pos, hO, hw.G r hv,
      if_pos ((goes_iff A i r hv _).mp hg), hy0, hy1, ← EReal.coe_add]
    rw [t5]
    have := chunks_le_groups (n := (word i s3.CN).toNat)
    have := le_chunks (n := (word i s3.CN).toNat)
    omega
  · have hRC : s3.RC (ix2 r (col (ex i))) = -1 := by rw [hr.RC, if_neg hg]
    rw [combined_none i _ w.G s3.RC s3.ACC s3.O r q hRC (by omega), hO, if_neg fun h' => hg ((goes_iff A i r hv _).mpr h'), add_zero]

end Cert.Moe
-- ==== Proof.Triangle.lean ====
/- The triangle operand: 1 below the diagonal, else 0. -/
module

public import proofs.«01_k».proof.Proof.Blocks
public import Idealize.ShloMosaic.Lib.StableHlo.RunRead

@[expose] public section

set_option maxRecDepth 16384
set_option maxHeartbeats 400000

noncomputable section

namespace Cert.Moe

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ)

theorem below_words (a b : Nat) (ha : a < 896) (hb : b < 896) :
    IntOp.cmpi .sgt (BitVec.ofNat 32 a) (BitVec.ofNat 32 b) = 1#1 ↔ b < a := by
  have h1 : (BitVec.ofNat 32 a).toNat = a := word32 a (by omega)
  have h2 : (BitVec.ofNat 32 b).toNat = b := word32 b (by omega)
  have h3 : (BitVec.ofNat 32 b).slt (BitVec.ofNat 32 a) = decide (b < a) := by
    rw [BitVec.slt_eq_decide, BitVec.toInt_eq_toNat_of_lt (by rw [h2]; omega), BitVec.toInt_eq_toNat_of_lt (by rw [h1]; omega), h1, h2]
    exact decide_eq_decide.mpr Int.ofNat_lt
  show BitVec.ofBool ((BitVec.ofNat 32 b).slt (BitVec.ofNat 32 a)) = 1#1 ↔ _
  rw [h3, ofBool_one]

theorem V_tri (c : Dev nD) (x : S896x896.Idx) : (V m c main_v4 : Vec Ideal S896x896 .bf16) x = if (x 1).val < (x 0).val then (1:EReal) else 0 := by
  unfold V
  simp only [hostOps0, hostOps0_1, hostOps0_2, List.flatten_cons, List.flatten_nil, List.append_nil, List.cons_append, List.nil_append]
  after_reads_simp
  show (if IntOp.cmpi .sgt (BitVec.ofNat 32 (x 0).val) (BitVec.ofNat 32 (x 1).val) = 1#1 then Ideal.ofBits .f32 0x3F800000#32
    else Ideal.ofBits .f32 0x00000000#32) = _
  exact if_congr (below_words _ _ (x 0).isLt (x 1).isLt) Ideal.ofBits_one_f32 Ideal.ofBits_zero_f32

theorem isTri (c : Dev nD) (t : Fin cfg0.N) : IsTri (iblk m c 2 t) := fun a b => (iblk_2 m c t a b).trans (V_tri m c (ix2 a b))

end Cert.Moe
-- ==== Proof.Output.lean ====
/- The result's staging buffer from point to point: the gated outputs of the experts taken so far. -/
module

public import proofs.«01_k».proof.Proof.Value
public import proofs.«01_k».proof.Proof.Triangle
public import Idealize.ShloMosaic.Lib.Pipeline.Value

@[expose] public section

set_option maxRecDepth 16384
set_option maxHeartbeats 400000

noncomputable section

namespace Cert.Moe

open Cert.KernelIdeal Cert.KernelIdeal.Gen
open Idealize.ShloMosaic Idealize.ShloMosaic.ValueIdx Idealize.ShloMosaic.TcCoe Idealize.SL.Sem

/-- The first `k` experts' gated outputs for a token. -/
def partialRow (A : Arr) (n : Fin 32768) (q : Fin 1024) : Nat → EReal
  | 0 => 0
  | k + 1 => partialRow A n q k + if h : k < 8 then share A n ⟨k, h⟩ q else 0

theorem partialRow_succ (A : Arr) (n : Fin 32768) (q : Fin 1024) (e : Fin 8) :
    partialRow A n q (e.val + 1) = partialRow A n q e.val + share A n e q := by
  show partialRow A n q e.val + (if h : e.val < 8 then share A n ⟨e.val, h⟩ q else 0) = _
  rw [dif_pos e.isLt]

def outRow (A : Arr) (i : grid0.Coords) (r : Fin 896) (q : Fin 1024) : EReal :=
  if h : valid i r then partialRow A (tok i r h) q ((i 1).val + (i 2).val) else 0

theorem outRow_valid (A : Arr) (i : grid0.Coords) (r : Fin 896) (q : Fin 1024) (h : valid i r) :
    outRow A i r q = partialRow A (tok i r h) q ((i 1).val + (i 2).val) := dif_pos h

/-- What point `i` leaves of the result's block. -/
def outBlock (A : Arr) (i : grid0.Coords) : Vec Ideal S896x1024 .f32 := fun x => outRow A i (x 0) (x 1)

variable (m : (ℓ : Loc nD τ sig) → Buf (Elt Ideal) ℓ)

/-- The arrays as the kernel finds them. -/
abbrev arrM (c : Dev nD) : Arr := ⟨V m c main_arg0, V m c main_arg1, V m c main_arg2, V m c main_arg3, V m c main_arg4⟩

theorem readsAt (c : Dev nD) (t : Fin cfg0.N) (d0 : Vec Ideal S896x1024 .bf16) (d1 : Vec Ideal S896x128 .f32) : Reads (arrM m c) (grid0.coords t) (winAt m c t d0 d1) where
  X r h q := filled_0 m c t d0 r h q
  G r h q := filled_1 m c t d1 r h q
  T := isTri m c t
  W1 d k := iblk_3 m c t d k
  W3 d k := iblk_4 m c t d k
  W2 k q := iblk_5 m c t k q

def prev (t : Fin (cfg0.N + 1)) (h : t.val ≠ 0) : Fin cfg0.N := ⟨t.val - 1, by have := t.isLt; omega⟩

/-- Carried between points: what the point before left. -/
def Inv (c : Dev nD) (t : Fin (cfg0.N + 1)) (s : St Ideal) : Prop :=
  ∀ h : t.val ≠ 0, Kept (arrM m c) (grid0.coords (prev t h)) s

theorem Inv.of_O {c : Dev nD} {t : Fin (cfg0.N + 1)} {s : St Ideal} (O : Vec Ideal S896x1024 .f32) (h : Inv m c t s) : Inv m c t { s with O := O } :=
  fun h0 => ⟨⟨(h h0).ranked.RC, (h h0).ranked.RR, (h h0).ranked.CN⟩, (h h0).row⟩

theorem ready_of_inv {c : Dev nD} {t : Fin cfg0.N} {s : St Ideal} (h : Inv m c t.castSucc s) : Ready (arrM m c) (grid0.coords t) s := by
  have ht : t.val < 592 := lt_of_lt_of_eq t.isLt N_0
  by_cases h16 : t.val % 16 = 0
  · left
    rw [cond1_iff, coord1, coord2]
    omega
  · right
    have h0 : t.castSucc.val ≠ 0 := by show t.val ≠ 0; omega
    refine ⟨_, h h0, ?_, fun hf => ?_⟩
    · rw [coord0, coord0]; show (t.val - 1) / 16 % 37 = _; omega
    · rw [coord1, coord1, coord2]
      rw [coord2] at hf
      show (t.val - 1) / 2 % 8 = _ ∧ (t.val - 1) / 1 % 2 = _
      omega

theorem inv_step {c : Dev nD} {t : Fin cfg0.N} {s : St Ideal} (h : Inv m c t.castSucc s) (d0 : Vec Ideal S896x1024 .bf16) (d1 : Vec Ideal S896x128 .f32) :
    Inv m c t.succ (step (grid0.coords t) (winAt m c t d0 d1) s) := by
  intro _
  exact step_kept (readsAt m c t d0 d1) (ready_of_inv m h)

theorem inv_small {c : Dev nD} {t : Fin cfg0.N} {s : St Ideal} (h : Inv m c t.castSucc s) (d0 : Vec Ideal S896x1024 .bf16) (d1 : Vec Ideal S896x128 .f32) :
    (word (F := Ideal) (grid0.coords t) (opA (grid0.coords t) (winAt m c t d0 d1) s).CN).toNat ≤ 896 := by
  rw [(ready_ranked (readsAt m c t d0 d1) (ready_of_inv m h)).word]
  exact tally_le _ _ _ _

/-- The rows a transfer of the result moves are the tokens' rows. -/
theorem moved_valid (t : Fin cfg0.N) (j : (cfg0.win 6).block.Idx) (h : (cfg0.win 6).moved (cfg0.grid.coords t) j = true) :
    valid (grid0.coords t) (j 0) := by
  have h0 : cc0_transform_6 (grid0.coords t) 0 = (grid0.coords t 0).val := word32 _ (lt_trans (grid0.coords t 0).isLt (by decide))
  rw [Pipeline.Window.moved_iff] at h
  have h := h 0
  have h37 : (grid0.coords t 0).val < 37 := (grid0.coords t 0).isLt
  change (j 0).val < (Pipeline.Clip.of (cc0_transform_6 (grid0.coords t) 0) 896 32768).extent 896 at h
  unfold valid
  rw [h0] at h
  unfold Pipeline.Clip.of at h
  split at h
  · change (j 0).val < 896 at h; omega
  · change (j 0).val < 32768 - _ at h
    omega

theorem moved_of_valid (t : Fin cfg0.N) (r : Fin 896) (q : Fin 1024) (h : valid (grid0.coords t) r) :
    (cfg0.win 6).moved (cfg0.grid.coords t) (ix2 r q) = true := by
  have h0 : cc0_transform_6 (grid0.coords t) 0 = (grid0.coords t 0).val := word32 _ (lt_trans (grid0.coords t 0).isLt (by decide))
  rw [Pipeline.Window.moved_iff]
  intro a
  match a with
  | 0 =>
    refine inside (cc0_transform_6 (grid0.coords t) 0) 896 32768 r.val ?_ r.isLt
    rw [h0]; unfold valid at h; omega
  | 1 => exact inside (cc0_transform_6 (grid0.coords t) 1) 1024 1024 q.val (by show 0 * 1024 + _ < _; have := q.isLt; omega) q.isLt

/-- Contents that agree with `v` on the tokens' rows are `v`'s moved part filled in. -/
theorem fill_agree (t : Fin cfg0.N) (X v : Vec Ideal S896x1024 .f32) (h : ∀ r q, valid (grid0.coords t) r → X (ix2 r q) = v (ix2 r q)) :
    X = (cfg0.win 6).fill (cfg0.grid.coords t) X ((cfg0.win 6).cut (cfg0.grid.coords t) v) := by
  funext j
  unfold Pipeline.Window.fill
  by_cases hm : (cfg0.win 6).moved (cfg0.grid.coords t) j = true
  · rw [dif_pos hm]
    have hv := moved_valid t j hm
    obtain ⟨r, q, rfl⟩ : ∃ r q, j = ix2 r q := ⟨j 0, j 1, (ix2_eta j).symm⟩
    exact h r q hv
  · rw [dif_neg hm]

theorem fill_valid (t : Fin cfg0.N) (d v : Vec Ideal S896x1024 .f32) (r : Fin 896) (q : Fin 1024) (h : valid (grid0.coords t) r) :
    (cfg0.win 6).fill (cfg0.grid.coords t) d ((cfg0.win 6).cut (cfg0.grid.coords t) v) (ix2 r q) = v (ix2 r q) := by
  unfold Pipeline.Window.fill
  rw [dif_pos (moved_of_valid t r q h)]
  rfl

/-- The run's data. -/
abbrev datV (c : Dev nD) : Pipeline.Dat τ (Elt Ideal) Unit ℕ (Idealize.ShloMosaic.UR sig nD τ) ℕ cfg0 c :=
  datOf m (Inv m c) (fun t => outBlock (arrM m c) (grid0.coords t)) c

def back (t : Fin cfg0.N) (k : Nat) : Fin cfg0.N := ⟨t.val - k, Nat.lt_of_le_of_lt (Nat.sub_le _ _) t.isLt⟩

theorem idle_of (t : Fin cfg0.N) (h1 : (grid0.coords t 1).val ≠ 0) (h2 : (grid0.coords t 2).val = 0) : cfg0.idle 6 (cfg0.grid.coords t) = true := by
  show (!(k0_cond1 (grid0.coords t) == 1#1) && !(k0_cond7 (grid0.coords t) == 1#1)) = true
  have a : ¬ k0_cond1 (grid0.coords t) = 1#1 := fun h => h1 ((cond1_iff _).mp h).1
  have b : ¬ k0_cond7 (grid0.coords t) = 1#1 := fun h => by have := (cond7_iff _).mp h; omega
  rw [beq_false_of_ne a, beq_false_of_ne b]; rfl

theorem live_of (t : Fin cfg0.N) (h : (grid0.coords t 1).val = 0 ∨ (grid0.coords t 2).val ≠ 0) : cfg0.idle 6 (cfg0.grid.coords t) = false := by
  show (!(k0_cond1 (grid0.coords t) == 1#1) && !(k0_cond7 (grid0.coords t) == 1#1)) = false
  have h2 : (grid0.coords t 2).val < 2 := (grid0.coords t 2).isLt
  by_cases hf : (grid0.coords t 2).val = 0
  · rw [(cond1_iff (grid0.coords t)).mpr ⟨h.resolve_right (fun h' => h' hf), hf⟩]; rfl
  · rw [(cond7_iff (grid0.coords t)).mpr (by omega)]
    exact Bool.and_false _

theorem noflush_of (t : Fin cfg0.N) (h : t.val % 16 ≠ 15) : (cfg0.win 6).flush t = false := by
  rw [Bool.eq_false_iff]
  exact fun h' => h ((flush0_6 t).mp h')

theorem before_left (c : Dev nD) (t : Fin cfg0.N) (h : t.val % 16 ≠ 0) (d) : (datV m c).before 6 t d = (datV m c).left 6 (back t 1) d := by
  rw [(datV m c).before_of_pos 6 t (by omega) ((cfg0.win 6).fetch_out rfl t) d]
  have := noflush_of (back t 1) (by show (t.val - 1) % 16 ≠ 15; omega)
  unfold back at this
  rw [this]
  rfl

theorem left_live (c : Dev nD) (t : Fin cfg0.N) (h : cfg0.idle 6 (cfg0.grid.coords t) = false) (d : Vec Ideal S896x1024 .f32) (r : Fin 896) (q : Fin 1024) (hv : valid (grid0.coords t) r) :
    (datV m c).left 6 t d (ix2 r q) = outRow (arrM m c) (grid0.coords t) r q := by
  unfold Pipeline.Dat.left
  rw [h]
  exact fill_valid t d (outBlock (arrM m c) (grid0.coords t)) r q hv

theorem left_idle (c : Dev nD) (t : Fin cfg0.N) (h : cfg0.idle 6 (cfg0.grid.coords t) = true) (d) :
    (datV m c).left 6 t d = (datV m c).before 6 t d := by
  unfold Pipeline.Dat.left
  rw [h]

/-- Before an expert's second part the buffer holds the sums of the experts before it. -/
theorem before_6 (c : Dev nD) (t : Fin cfg0.N) (hf : (grid0.coords t 2).val = 1) (d : Vec Ideal S896x1024 .f32) (r : Fin 896) (q : Fin 1024) (hv : valid (grid0.coords t) r) :
    (datV m c).before 6 t d (ix2 r q) = partialRow (arrM m c) (tok _ r hv) q (grid0.coords t 1).val := by
  have ht : t.val < 592 := lt_of_lt_of_eq t.isLt N_0
  have e0 := coord0 t
  have e1 := coord1 t
  have e2 := coord2 t
  have key : ∀ k, k ≤ t.val % 16 → ∀ (hl : cfg0.idle 6 (cfg0.grid.coords (back t k)) = false),
      (grid0.coords (back t k) 1).val + (grid0.coords (back t k) 2).val = (grid0.coords t 1).val →
      (datV m c).left 6 (back t k) d (ix2 r q) = partialRow (arrM m c) (tok _ r hv) q (grid0.coords t 1).val := fun k hk hl hs => by
    have h0 : (grid0.coords (back t k) 0).val = (grid0.coords t 0).val := by
      rw [coord0, coord0]; show (t.val - k) / 16 % 37 = _; omega
    have hv' : valid (grid0.coords (back t k)) r := by unfold valid; rw [h0]; exact hv
    refine (left_live m c (back t k) hl d r q hv').trans ?_
    rw [outRow_valid _ _ _ _ hv', hs]
    refine congrArg (fun n => partialRow (arrM m c) n q (grid0.coords t 1).val) (Fin.ext ?_)
    show 896 * (grid0.coords (back t k) 0).val + r.val = 896 * (grid0.coords t 0).val + r.val
    rw [h0]
  rw [before_left m c t (by omega) d]
  have a1 : (grid0.coords (back t 1) 1).val = (t.val - 1) / 2 % 8 := coord1 _
  have a2 : (grid0.coords (back t 1) 2).val = (t.val - 1) / 1 % 2 := coord2 _
  have b1 : (grid0.coords (back t 2) 1).val = (t.val - 2) / 2 % 8 := coord1 _
  have b2 : (grid0.coords (back t 2) 2).val = (t.val - 2) / 1 % 2 := coord2 _
  by_cases h1 : (grid0.coords t 1).val = 0
  · exact key 1 (by omega) (live_of _ (Or.inl (by omega))) (by omega)
  · rw [left_idle m c (back t 1) (idle_of _ (by omega) (by omega)) d, before_left m c (back t 1) (by show (t.val - 1) % 16 ≠ 0; omega) d,
      show back (back t 1) 1 = back t 2 from rfl]
    exact key 2 (by omega) (live_of _ (Or.inr (by omega))) (by omega)

/-- What the body leaves of the result's buffer is what the data says. -/
theorem leaves_6 (c : Dev nD) (hA : Reals (arrM m c)) (t : Fin cfg0.N) (s : St Ideal) (hs : Inv m c t.castSucc s) (d0 : Vec Ideal S896x1024 .bf16)
    (d1 : Vec Ideal S896x128 .f32) (d : Vec Ideal S896x1024 .f32) (hO : s.O = (datV m c).before 6 t d) :
    (datV m c).Leaves 6 t (step (grid0.coords t) (winAt m c t d0 d1) s).O := by
  have hr := ready_of_inv m hs
  have hw := readsAt m c t d0 d1
  have hlt : (grid0.coords t 2).val < 2 := (grid0.coords t 2).isLt
  have e1 := coord1 t
  have e2 := coord2 t
  by_cases hf : (grid0.coords t 2).val = 0
  · by_cases h1 : (grid0.coords t 1).val = 0
    · rw [Pipeline.Dat.Leaves.live_iff _ (.inl (live_of t (Or.inl h1)))]
      refine ⟨_, fill_agree t _ (outBlock (arrM m c) (grid0.coords t)) fun r q hv => ?_⟩
      rw [step_out_first hf]
      unfold opA
      rw [if_pos ((cond1_iff _).mpr ⟨h1, hf⟩)]
      show k0_pay6 (F := Ideal) (ix2 r q) = outRow (arrM m c) (grid0.coords t) r q
      rw [outRow_valid _ _ _ _ hv, h1, hf]
      exact Ideal.ofBits_zero_f32
    · rw [Pipeline.Dat.Leaves.idle_iff _ (idle_of t h1 hf) (noflush_of t (by omega))]
      refine ⟨d, ?_⟩
      rw [step_out_first hf]
      unfold opA
      rw [if_neg fun hc => h1 ((cond1_iff _).mp hc).1]
      exact hO
  · have hf1 : (grid0.coords t 2).val = 1 := by omega
    rw [Pipeline.Dat.Leaves.live_iff _ (.inl (live_of t (Or.inr hf)))]
    refine ⟨_, fill_agree t _ (outBlock (arrM m c) (grid0.coords t)) fun r q hv => ?_⟩
    rw [step_out_last hA hw hr hf1 r hv q, hO, before_6 m c t hf1 d r q hv]
    show _ = outRow (arrM m c) (grid0.coords t) r q
    rw [outRow_valid _ _ _ _ hv, hf1]
    exact (partialRow_succ _ _ _ (ex (grid0.coords t))).symm

end Cert.Moe
-- ==== Proof.Finite.lean ====
/- Arrays of real numbers: the parts of the experts' outputs are real numbers, and the activation as the reference has it. -/
module

public import proofs.«01_k».proof.Proof.Output

@[expose] public section

set_option maxRecDepth 16384
set_option maxHeartbeats 400000

noncomputable section

namespace Cert.Moe

open Cert.KernelIdeal Cert.KernelIdeal.Gen
open Idealize.ShloMosaic Idealize.ShloMosaic.ValueIdx

def IsReal (x : EReal) : Prop := ∃ y : ℝ, x = (y : EReal)

theorem IsReal.mul {a b : EReal} (ha : IsReal a) (hb : IsReal b) : IsReal (a * b) := by
  obtain ⟨x, rfl⟩ := ha; obtain ⟨y, rfl⟩ := hb
  exact ⟨x * y, (EReal.coe_mul x y).symm⟩

theorem IsReal.add {a b : EReal} (ha : IsReal a) (hb : IsReal b) : IsReal (a + b) := by
  obtain ⟨x, rfl⟩ := ha; obtain ⟨y, rfl⟩ := hb
  exact ⟨x + y, (EReal.coe_add x y).symm⟩

theorem IsReal.sum {n : Nat} {f : Fin n → EReal} (h : ∀ k, IsReal (f k)) : IsReal (∑ k, f k) :=
  Finset.sum_induction f IsReal (fun _ _ => IsReal.add) ⟨0, rfl⟩ fun k _ => h k

/-- The activation's divisor at a real number. -/
theorem divisor (r : ℝ) : (1 : EReal) + Ideal.exp (-(r : EReal)) = ((1 + Real.exp (-r) : ℝ) : EReal) := by
  rw [← EReal.coe_neg, EReal.coe_add]; rfl

theorem divisor_ne (r : ℝ) : ((1 + Real.exp (-r) : ℝ) : EReal) ≠ 0 := by
  have := Real.exp_pos (-r)
  rw [Ne, EReal.coe_eq_zero]; linarith

theorem zero_sub' (a : EReal) : 0 - a = -a := by rw [sub_eq_add_neg, zero_add]

theorem act_real {a b : EReal} (ha : IsReal a) (hb : IsReal b) : IsReal (act a b) := by
  refine IsReal.mul ?_ hb
  obtain ⟨r, rfl⟩ := ha
  rw [zero_sub', divisor]
  unfold Ideal.div
  rw [if_neg (divisor_ne r), ← EReal.coe_inv]
  exact IsReal.mul ⟨r, rfl⟩ ⟨_, rfl⟩

theorem act_ref {a : EReal} (ha : IsReal a) (b : EReal) : a * Ideal.div 1 (1 + Ideal.exp (-a)) * b = act a b := by
  unfold act
  rw [zero_sub']
  obtain ⟨r, rfl⟩ := ha
  rw [divisor]
  unfold Ideal.div
  rw [if_neg (divisor_ne r), if_neg (divisor_ne r), one_mul]

theorem arr_ext {A B : Arr} (h0 : A.x = B.x) (h1 : A.g = B.g) (h2 : A.w1 = B.w1) (h3 : A.w3 = B.w3) (h4 : A.w2 = B.w2) : A = B := by
  cases A; cases B
  cases h0; cases h1; cases h2; cases h3; cases h4
  rfl

/-- Real tokens and weights, gates at least 0. -/
structure Tame (A : Arr) : Prop where
  x : ∀ i, IsReal (A.x i)
  g : ∀ n (e : Fin 8), 0 ≤ A.g (ix2 n (col e))
  w1 : ∀ i, IsReal (A.w1 i)
  w3 : ∀ i, IsReal (A.w3 i)
  w2 : ∀ i, IsReal (A.w2 i)

theorem Tame.reals {A : Arr} (h : Tame A) : Reals A := fun n e f q =>
  IsReal.sum fun k => (act_real (IsReal.sum fun d => (h.x _).mul (h.w1 _)) (IsReal.sum fun d => (h.x _).mul (h.w3 _))).mul (h.w2 _)

theorem sum_parts (f : Fin 3584 → EReal) : ∑ k, f k = (∑ k : Fin 1792, f (hid 0 k)) + ∑ k : Fin 1792, f (hid 1 k) := by
  refine (Fin.sum_univ_add (a := 1792) (b := 1792) f).trans ?_
  refine congrArg₂ (· + ·) (Finset.sum_congr rfl fun k _ => congrArg f (Fin.ext ?_)) (Finset.sum_congr rfl fun k _ => congrArg f (Fin.ext ?_))
  · show k.val = 1792 * 0 + k.val; omega
  · show 1792 + k.val = 1792 * 1 + k.val; omega

/-- An expert's share as the reference has it: the gate times the whole output. -/
def termRef (A : Arr) (n : Fin 32768) (q : Fin 1024) (e : Fin 8) : EReal :=
  A.g (ix2 n (col e)) * ∑ k : Fin 3584, ((∑ d : Fin 1024, A.x (ix2 n d) * A.w1 (ix3 e d k))
    * Ideal.div 1 (1 + Ideal.exp (-(∑ d : Fin 1024, A.x (ix2 n d) * A.w1 (ix3 e d k)))) * (∑ d : Fin 1024, A.x (ix2 n d) * A.w3 (ix3 e d k))) * A.w2 (ix3 e k q)

theorem share_eq {A : Arr} (h : Tame A) (n : Fin 32768) (e : Fin 8) (q : Fin 1024) : share A n e q = termRef A n q e := by
  have hsum : (∑ k : Fin 3584, ((∑ d : Fin 1024, A.x (ix2 n d) * A.w1 (ix3 e d k))
      * Ideal.div 1 (1 + Ideal.exp (-(∑ d : Fin 1024, A.x (ix2 n d) * A.w1 (ix3 e d k)))) * (∑ d : Fin 1024, A.x (ix2 n d) * A.w3 (ix3 e d k))) * A.w2 (ix3 e k q))
      = tileG A n e 0 q + tileG A n e 1 q := by
    refine Eq.trans (Finset.sum_congr rfl fun k _ => congrArg (· * A.w2 (ix3 e k q)) (act_ref (IsReal.sum fun d => (h.x _).mul (h.w1 _)) _)) ?_
    exact sum_parts _
  unfold share termRef
  rw [hsum]
  split
  · rfl
  · rename_i h0
    have : A.g (ix2 n (col e)) = 0 := le_antisymm (not_lt.mp h0) (h.g n e)
    rw [this, zero_mul]

theorem row_eq {A : Arr} (h : Tame A) (n : Fin 32768) (q : Fin 1024) :
    partialRow A n q 8 = 0 + termRef A n q 0 + termRef A n q 1 + termRef A n q 2 + termRef A n q 3 + termRef A n q 4 + termRef A n q 5
      + termRef A n q 6 + termRef A n q 7 := by
  have s := fun e : Fin 8 => (partialRow_succ A n q e).trans (congrArg (partialRow A n q e.val + ·) (share_eq h n e q))
  refine (s 7).trans (congrArg (· + termRef A n q 7) ?_)
  refine (s 6).trans (congrArg (· + termRef A n q 6) ?_)
  refine (s 5).trans (congrArg (· + termRef A n q 5) ?_)
  refine (s 4).trans (congrArg (· + termRef A n q 4) ?_)
  refine (s 3).trans (congrArg (· + termRef A n q 3) ?_)
  refine (s 2).trans (congrArg (· + termRef A n q 2) ?_)
  refine (s 1).trans (congrArg (· + termRef A n q 1) ?_)
  exact s 0

end Cert.Moe
-- ==== Proof.Precondition.lean ====
/- What the precondition says of the arrays: real tokens and weights, gates at least 0. -/
module

public import proofs.«01_k».proof.Pre_tame
public import proofs.«01_k».proof.Proof.Finite
public import Idealize.ShloMosaic.Lib.ReduceAll
public import Idealize.ShloMosaic.Lib.Decide

@[expose] public section

set_option maxRecDepth 16384
set_option maxHeartbeats 400000

noncomputable section

namespace Cert.Moe

open Idealize.ShloMosaic Idealize.ShloMosaic.ValueIdx
open Cert.Pre_tame

theorem tame_facts : Cert.Pre_tame.Facts where
  bitsLt_bf16_f32 := by decide
  bcast_S_S32768x1024 := by decide
  reducesTo_S32768x1024_S_d0_1 := by decide
  h_S_ := by decide
  slices_S32768x128_S32768x8_0_0 := by decide
  bcast_S_S32768x8 := by decide
  reducesTo_S32768x8_S_d0_1 := by decide
  bcast_S_S8x1024x3584 := by decide
  reducesTo_S8x1024x3584_S_d0_1_2 := by decide
  bcast_S_S8x3584x1024 := by decide
  reducesTo_S8x3584x1024_S_d0_1_2 := by decide

theorem one_index : Subsingleton Cert.Pre_tame.S_.Idx := ⟨fun _ _ => funext fun d => d.elim0⟩

theorem and_one {a b : BitVec 1} (h : IntOp.andi a b = 1#1) : a = 1#1 ∧ b = 1#1 := by
  have : ∀ a b : BitVec 1, a &&& b = 1#1 → a = 1#1 ∧ b = 1#1 := by decide
  exact this a b h

theorem infinity : Ideal.ofBits .f32 0x7F800000#32 = ⊤ := by
  show Ideal.ieee 8 23 (0x7F800000#32) = ⊤
  unfold Ideal.ieee
  simp

/-- A magnitude below infinity is a real number's. -/
theorem real_of_abs {a : EReal} (h : max a (-a) < ⊤) : IsReal a := by
  induction a with
  | bot => simp at h
  | top => simp at h
  | coe r => exact ⟨r, rfl⟩

theorem real_of_cmp {a : EReal} (h : Ideal.cmp .olt (max a (-a)) (Ideal.ofBits .f32 0x7F800000#32) = 1#1) : IsReal a := by
  rw [infinity] at h
  unfold Ideal.cmp at h
  exact real_of_abs ((ofBool_one _).1 h)

theorem tame_of [Cert.Pre_tame.Facts] (A : Arr) (h : Cert.Pre_tame.fn (F := Ideal) A.x A.g A.w1 A.w3 A.w2 = fun _ => 1#1) : Tame A := by
  haveI := one_index
  have h0 := congrFun h (fun d => d.elim0)
  obtain ⟨h0, r4⟩ := and_one h0
  obtain ⟨h0, r3⟩ := and_one h0
  obtain ⟨h0, r2⟩ := and_one h0
  obtain ⟨r0, rg⟩ := and_one h0
  refine ⟨fun i => ?_, fun n e => ?_, fun i => ?_, fun i => ?_, fun i => ?_⟩
  · exact real_of_cmp (Host.reduce_andi_all _ _ _ _ _ r0 i)
  · have := Host.reduce_andi_all _ _ _ _ _ rg (ix2 n e)
    change Ideal.cmp .oge (extractStridedSlice S32768x8 ![0, 0] A.g Facts.slices_S32768x128_S32768x8_0_0 (ix2 n e)) (Ideal.ofBits .f32 0x00000000#32) = 1#1 at this
    rw [Ideal.ofBits_zero_f32] at this
    unfold Ideal.cmp at this
    have h1 := (ofBool_one _).1 this
    rw [extractStridedSlice_apply _ A.g _ (ix2 n e) (ix2 n (col e)) ?_] at h1
    · exact h1
    · intro c
      match c with
      | ⟨0, _⟩ => show n.val = 0 + n.val; omega
      | ⟨1, _⟩ => show e.val = 0 + e.val; omega
  · exact real_of_cmp (Host.reduce_andi_all _ _ _ _ _ r2 i)
  · exact real_of_cmp (Host.reduce_andi_all _ _ _ _ _ r3 i)
  · exact real_of_cmp (Host.reduce_andi_all _ _ _ _ _ r4 i)

end Cert.Moe
-- ==== Proof.RefValue.lean ====
/- The reference's result read at an index. -/
module

public import proofs.«01_k».proof.Proof.Finite
public import proofs.«01_k».proof.Proof.Gen.ReferenceIdeal.Run

@[expose] public section

set_option maxRecDepth 16384
set_option maxHeartbeats 400000

noncomputable section

namespace Cert.Moe

open Cert.ReferenceIdeal Cert.ReferenceIdeal.Gen Cert.ReferenceIdeal.Value
open Idealize.ShloMosaic Idealize.ShloMosaic.ValueIdx

/-- An expert's matrix of a stack of eight. -/
theorem slab_apply {a b : Nat} (W : FVec Ideal ⟨3, ![8, a, b]⟩ .bf16) (o : Nat) (ho : o < 8)
    (h : (⟨3, ![8, a, b]⟩ : Shape).Slices ![o, 0, 0] ⟨3, ![1, a, b]⟩) (h' : (⟨3, ![1, a, b]⟩ : Shape).ShapeCasts ⟨2, ![a, b]⟩) (hb : FTy.bits .bf16 < FTy.bits .f32)
    (i : Fin a) (j : Fin b) :
    (extf .f32 (shapeCast ⟨2, ![a, b]⟩ (extractStridedSlice ⟨3, ![1, a, b]⟩ ![o, 0, 0] W h) h') hb : FVec Ideal ⟨2, ![a, b]⟩ .f32) (ix2 i j)
      = W (ix3 ⟨o, ho⟩ i j) := by
  change (shapeCast ⟨2, ![a, b]⟩ (extractStridedSlice ⟨3, ![1, a, b]⟩ ![o, 0, 0] W h) h') (ix2 i j) = W (ix3 ⟨o, ho⟩ i j)
  refine (drop_apply _ h' i j).trans ?_
  refine extractStridedSlice_apply _ _ h _ _ fun c => ?_
  match c with
  | ⟨0, _⟩ => rfl
  | ⟨1, _⟩ => show i.val = 0 + i.val; omega
  | ⟨2, _⟩ => show j.val = 0 + j.val; omega

/-- A product of the tokens with an expert's matrix. -/
theorem product_apply (X : FVec Ideal S32768x1024 .f32) (W : FVec Ideal S8x1024x3584 .bf16) (o : Nat) (ho : o < 8)
    (h : S8x1024x3584.Slices ![o, 0, 0] S1x1024x3584) (n : Fin 32768) (k : Fin 3584) :
    Host.dotGeneral dot_S32768x1024_S1024x3584_S32768x3584_1_0_0_1_n_n none X
      (extf .f32 (shapeCast S1024x3584 (extractStridedSlice S1x1024x3584 ![o, 0, 0] W h) shapeCasts_S1x1024x3584_S1024x3584) bitsLt_bf16_f32 : FVec Ideal S1024x3584 .f32) (ix2 n k)
      = ∑ d : Fin 1024, X (ix2 n d) * W (ix3 ⟨o, ho⟩ d k) := by
  refine (StackMember.dotGeneral_plain_apply none X _ n k).trans (Finset.sum_congr rfl fun d _ => congrArg (X (ix2 n d) * ·) ?_)
  exact slab_apply W o ho h _ _ d k

/-- An expert's gated output. -/
theorem term_apply (G : FVec Ideal S32768x128 .f32) (W2 : FVec Ideal S8x3584x1024 .bf16) (a b : FVec Ideal S32768x3584 .f32) (o : Nat) (ho : o < 8)
    (hg : S32768x128.Slices ![0, o] S32768x1) (h2 : S8x3584x1024.Slices ![o, 0, 0] S1x3584x1024) (n : Fin 32768) (q : Fin 1024) :
    mulf (broadcastInDim S32768x1024 ![0, 1] bcast_S32768x1_S32768x1024_0_1 (extractStridedSlice S32768x1 ![0, o] G hg))
      (Host.dotGeneral dot_S32768x3584_S3584x1024_S32768x1024_1_0_0_1_n_n none
        (mulf (mulf a (Host.divf (broadcastInDim S32768x3584 ![] bcast_S_S32768x3584 (constant S_ .f32 0x3F800000#32)) (addf (broadcastInDim S32768x3584 ![] bcast_S_S32768x3584 (constant S_ .f32 0x3F800000#32)) (Host.exp (Host.negf a))))) b)
        (extf .f32 (shapeCast S3584x1024 (extractStridedSlice S1x3584x1024 ![o, 0, 0] W2 h2) shapeCasts_S1x3584x1024_S3584x1024) bitsLt_bf16_f32 : FVec Ideal S3584x1024 .f32)) (ix2 n q)
      = G (ix2 n (col ⟨o, ho⟩)) * ∑ k : Fin 3584, (a (ix2 n k) * Ideal.div 1 (1 + Ideal.exp (-a (ix2 n k))) * b (ix2 n k)) * W2 (ix3 ⟨o, ho⟩ k q) := by
  refine congrArg₂ (fun x y : EReal => x * y) ?_ ?_
  · refine extractStridedSlice_apply _ _ hg _ _ fun c => ?_
    match c with
    | ⟨0, _⟩ => show n.val = 0 + n.val; omega
    | ⟨1, _⟩ => rfl
  · refine (StackMember.dotGeneral_plain_apply none _ _ n q).trans (Finset.sum_congr rfl fun k _ => congrArg₂ (fun x y : EReal => x * y) ?_ (slab_apply W2 o ho h2 _ _ k q))
    show a (ix2 n k) * Ideal.div (Ideal.ofBits .f32 0x3F800000#32) (Ideal.ofBits .f32 0x3F800000#32 + Ideal.exp (-a (ix2 n k))) * b (ix2 n k) = _
    rw [Ideal.ofBits_one_f32]

/-- An expert's gated output, from the arrays. -/
theorem term_eq (A : Arr) (a b : FVec Ideal S32768x3584 .f32) (o : Nat) (ho : o < 8)
    (h1 : S8x1024x3584.Slices ![o, 0, 0] S1x1024x3584) (hg : S32768x128.Slices ![0, o] S32768x1) (h2 : S8x3584x1024.Slices ![o, 0, 0] S1x3584x1024)
    (ha : a = Host.dotGeneral dot_S32768x1024_S1024x3584_S32768x3584_1_0_0_1_n_n none (extf .f32 A.x bitsLt_bf16_f32 : FVec Ideal S32768x1024 .f32)
      (extf .f32 (shapeCast S1024x3584 (extractStridedSlice S1x1024x3584 ![o, 0, 0] A.w1 h1) shapeCasts_S1x1024x3584_S1024x3584) bitsLt_bf16_f32 : FVec Ideal S1024x3584 .f32))
    (hb : b = Host.dotGeneral dot_S32768x1024_S1024x3584_S32768x3584_1_0_0_1_n_n none (extf .f32 A.x bitsLt_bf16_f32 : FVec Ideal S32768x1024 .f32)
      (extf .f32 (shapeCast S1024x3584 (extractStridedSlice S1x1024x3584 ![o, 0, 0] A.w3 h1) shapeCasts_S1x1024x3584_S1024x3584) bitsLt_bf16_f32 : FVec Ideal S1024x3584 .f32))
    (n : Fin 32768) (q : Fin 1024) :
    mulf (broadcastInDim S32768x1024 ![0, 1] bcast_S32768x1_S32768x1024_0_1 (extractStridedSlice S32768x1 ![0, o] A.g hg))
      (Host.dotGeneral dot_S32768x3584_S3584x1024_S32768x1024_1_0_0_1_n_n none
        (mulf (mulf a (Host.divf (broadcastInDim S32768x3584 ![] bcast_S_S32768x3584 (constant S_ .f32 0x3F800000#32)) (addf (broadcastInDim S32768x3584 ![] bcast_S_S32768x3584 (constant S_ .f32 0x3F800000#32)) (Host.exp (Host.negf a))))) b)
        (extf .f32 (shapeCast S3584x1024 (extractStridedSlice S1x3584x1024 ![o, 0, 0] A.w2 h2) shapeCasts_S1x3584x1024_S3584x1024) bitsLt_bf16_f32 : FVec Ideal S3584x1024 .f32)) (ix2 n q)
      = termRef A n q ⟨o, ho⟩ := by
  refine (term_apply A.g A.w2 a b o ho hg h2 n q).trans ?_
  have ea : ∀ k, a (ix2 n k) = ∑ d : Fin 1024, A.x (ix2 n d) * A.w1 (ix3 ⟨o, ho⟩ d k) := fun k => (congrFun ha _).trans (product_apply _ A.w1 o ho h1 n k)
  have eb : ∀ k, b (ix2 n k) = ∑ d : Fin 1024, A.x (ix2 n d) * A.w3 (ix3 ⟨o, ho⟩ d k) := fun k => (congrFun hb _).trans (product_apply _ A.w3 o ho h1 n k)
  unfold termRef
  refine congrArg (A.g (ix2 n (col ⟨o, ho⟩)) * ·) (Finset.sum_congr rfl fun k _ => ?_)
  rw [ea k, eb k]

/-- The arrays the reference is launched on. -/
abbrev arrR (V0 : Valuation τ sig (Elt Ideal)) : Arr :=
  ⟨V0 (Proc.devRef .tc main_arg0), V0 (Proc.devRef .tc main_arg1), V0 (Proc.devRef .tc main_arg2), V0 (Proc.devRef .tc main_arg3), V0 (Proc.devRef .tc main_arg4)⟩

theorem ref_apply (V0 : Valuation τ sig (Elt Ideal)) (n : Fin 32768) (q : Fin 1024) :
    (res_main_v145 V0 : Vec Ideal S32768x1024 .f32) (ix2 n q)
      = 0 + termRef (arrR V0) n q 0 + termRef (arrR V0) n q 1 + termRef (arrR V0) n q 2 + termRef (arrR V0) n q 3 + termRef (arrR V0) n q 4
        + termRef (arrR V0) n q 5 + termRef (arrR V0) n q 6 + termRef (arrR V0) n q 7 := by
  unfold res_main_v145
  refine congrArg₂ (fun x y : EReal => x + y) ?_ (term_eq (arrR V0) _ _ 7 (by decide) _ _ _ rfl rfl n q)
  refine congrArg₂ (fun x y : EReal => x + y) ?_ (term_eq (arrR V0) _ _ 6 (by decide) _ _ _ rfl rfl n q)
  refine congrArg₂ (fun x y : EReal => x + y) ?_ (term_eq (arrR V0) _ _ 5 (by decide) _ _ _ rfl rfl n q)
  refine congrArg₂ (fun x y : EReal => x + y) ?_ (term_eq (arrR V0) _ _ 4 (by decide) _ _ _ rfl rfl n q)
  unfold res_main_v73
  refine congrArg₂ (fun x y : EReal => x + y) ?_ (term_eq (arrR V0) _ _ 3 (by decide) _ _ _ rfl rfl n q)
  refine congrArg₂ (fun x y : EReal => x + y) ?_ (term_eq (arrR V0) _ _ 2 (by decide) _ _ _ rfl rfl n q)
  refine congrArg₂ (fun x y : EReal => x + y) ?_ (term_eq (arrR V0) _ _ 1 (by decide) _ _ _ rfl rfl n q)
  refine congrArg₂ (fun x y : EReal => x + y) ?_ (term_eq (arrR V0) _ _ 0 (by decide) _ _ _ rfl rfl n q)
  exact Ideal.ofBits_zero_f32

end Cert.Moe
-- ==== Proof.ValueRun.lean ====
/- The launch at the extended reals, its result known: after the last point every token's row is the sum of its experts'
   gated outputs. -/
module

public import proofs.«01_k».proof.Proof.Output

@[expose] public section

set_option maxRecDepth 16384
set_option maxHeartbeats 400000

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

theorem leaves_of (c : Dev nD) (t : Fin cfg0.N) (X : (cfg0.win 6).block.Idx → Elt Ideal (cfg0.win 6).elt) (h : (datV m c).Leaves 6 t X) :
    owns (Ix := Unit) (Val := Elt Ideal) (Name := ℕ) (U := UR sig nD τ) (Lvl := ℕ) (c : Thread nD τ) (win0_6.stage (cfg0.slots t 6)) fullShare X
      ⊢ ((datV m c).leaves 6 t : sProp 𝕄) := by
  have hloose : cfg0.loose 6 = true := rfl
  unfold Dat.leaves
  cases hi : cfg0.idle 6 (cfg0.grid.coords t)
  · rw [Pipeline.Dat.Leaves.live_iff _ (.inl hi)] at h
    rw [hloose] at h ⊢
    obtain ⟨d, rfl⟩ := h
    iintro H; iexists d; iexact H
  · cases hf : (cfg0.win 6).flush t
    · obtain ⟨d, rfl⟩ := (Pipeline.Dat.Leaves.idle_iff _ hi hf).mp h
      iintro H; iexists d; iexact H
    · rw [Pipeline.Dat.Leaves.live_iff _ (.inr hf)] at h
      rw [hloose] at h ⊢
      obtain ⟨d, rfl⟩ := h
      iintro H; iexists d; iexact H

theorem obligation_value (c : Dev nD) (hA : Reals (arrM m c)) :
    BodyObligationLoose (datV m c) (defs₀ (F := Ideal)) 𝒱₀ () Set.univ := fun t => by
  rw [bigSep_W0, bigSep_W0, defs₀_row]
  simp only [before_0, before_1, before_2, before_3, before_4, before_5]
  change iprop((∃ s : St Ideal, ⌜Inv m c t.castSucc s⌝ ∗ held c s ∗ ∃ r, prngReg c r) ∗ (datV m c).owesAt () t.castSucc
    ∗ (∃ d, owns (Ix := Unit) (Val := Elt Ideal) (Name := ℕ) (U := UR sig nD τ) (Lvl := ℕ) (c : Thread nD τ) (win0_0.stage (cfg0.slots t 0)) fullShare (filled m c 0 t d))
    ∗ (∃ d, owns (Ix := Unit) (Val := Elt Ideal) (Name := ℕ) (U := UR sig nD τ) (Lvl := ℕ) (c : Thread nD τ) (win0_1.stage (cfg0.slots t 1)) fullShare (filled m c 1 t d))
    ∗ (∃ d : (cfg0.win 2).block.Idx → Elt Ideal (cfg0.win 2).elt, owns (Ix := Unit) (Val := Elt Ideal) (Name := ℕ) (U := UR sig nD τ) (Lvl := ℕ) (c : Thread nD τ) (win0_2.stage (cfg0.slots t 2)) fullShare (iblk m c 2 t))
    ∗ (∃ d : (cfg0.win 3).block.Idx → Elt Ideal (cfg0.win 3).elt, owns (Ix := Unit) (Val := Elt Ideal) (Name := ℕ) (U := UR sig nD τ) (Lvl := ℕ) (c : Thread nD τ) (win0_3.stage (cfg0.slots t 3)) fullShare (iblk m c 3 t))
    ∗ (∃ d : (cfg0.win 4).block.Idx → Elt Ideal (cfg0.win 4).elt, owns (Ix := Unit) (Val := Elt Ideal) (Name := ℕ) (U := UR sig nD τ) (Lvl := ℕ) (c : Thread nD τ) (win0_4.stage (cfg0.slots t 4)) fullShare (iblk m c 4 t))
    ∗ (∃ d : (cfg0.win 5).block.Idx → Elt Ideal (cfg0.win 5).elt, owns (Ix := Unit) (Val := Elt Ideal) (Name := ℕ) (U := UR sig nD τ) (Lvl := ℕ) (c : Thread nD τ) (win0_5.stage (cfg0.slots t 5)) fullShare (iblk m c 5 t))
    ∗ (∃ d, owns (Ix := Unit) (Val := Elt Ideal) (Name := ℕ) (U := UR sig nD τ) (Lvl := ℕ) (c : Thread nD τ) (win0_6.stage (cfg0.slots t 6)) fullShare ((datV m c).before 6 t d)))
  ⊢ wp frame (wpE (defs₀ (F := Ideal)) 𝒱₀ c none) Set.univ (bodyAt0 t) fun _ =>
    iprop((∃ s : St Ideal, ⌜Inv m c t.succ s⌝ ∗ held c s ∗ ∃ r, prngReg c r) ∗ (datV m c).owesAt () t.castSucc
    ∗ (∃ d, owns (Ix := Unit) (Val := Elt Ideal) (Name := ℕ) (U := UR sig nD τ) (Lvl := ℕ) (c : Thread nD τ) (win0_0.stage (cfg0.slots t 0)) fullShare ((cfg0.win 0).fill (cfg0.grid.coords t) d ((cfg0.win 0).cut (cfg0.grid.coords t) (filled m c 0 t (Pipeline.Dat.unnamed (cfg := cfg0) 0 t)))))
    ∗ (∃ d, owns (Ix := Unit) (Val := Elt Ideal) (Name := ℕ) (U := UR sig nD τ) (Lvl := ℕ) (c : Thread nD τ) (win0_1.stage (cfg0.slots t 1)) fullShare ((cfg0.win 1).fill (cfg0.grid.coords t) d ((cfg0.win 1).cut (cfg0.grid.coords t) (filled m c 1 t (Pipeline.Dat.unnamed (cfg := cfg0) 1 t)))))
    ∗ owns (Ix := Unit) (Val := Elt Ideal) (Name := ℕ) (U := UR sig nD τ) (Lvl := ℕ) (c : Thread nD τ) (win0_2.stage (cfg0.slots t 2)) fullShare (iblk m c 2 t)
    ∗ owns (Ix := Unit) (Val := Elt Ideal) (Name := ℕ) (U := UR sig nD τ) (Lvl := ℕ) (c : Thread nD τ) (win0_3.stage (cfg0.slots t 3)) fullShare (iblk m c 3 t)
    ∗ owns (Ix := Unit) (Val := Elt Ideal) (Name := ℕ) (U := UR sig nD τ) (Lvl := ℕ) (c : Thread nD τ) (win0_4.stage (cfg0.slots t 4)) fullShare (iblk m c 4 t)
    ∗ owns (Ix := Unit) (Val := Elt Ideal) (Name := ℕ) (U := UR sig nD τ) (Lvl := ℕ) (c : Thread nD τ) (win0_5.stage (cfg0.slots t 5)) fullShare (iblk m c 5 t)
    ∗ (datV m c).leaves 6 t)
  iintro ⟨⟨%s, %hs, Hh, Hg⟩, HW, ⟨%d0, H0⟩, ⟨%d1, H1⟩, ⟨%d2, H2⟩, ⟨%d3, H3⟩, ⟨%d4, H4⟩, ⟨%d5, H5⟩, ⟨%d6, H6⟩⟩
  iapply (run_point c t (winAt m c t d0 d1) { s with O := (datV m c).before 6 t d6 } (inv_small m (hs.of_O m _) d0 d1) _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [Hh]; · iexact Hh
  iintro ⟨⟨H0, H1, H2, H3, H4, H5⟩, H6, Hh⟩
  isplitl [Hh Hg]
  · iexists (step (grid0.coords t) (winAt m c t d0 d1) { s with O := (datV m c).before 6 t d6 })
    isplitr; · ipureintro; exact inv_step m (hs.of_O m _) d0 d1
    isplitl [Hh]; · iexact Hh
    iexact Hg
  isplitl [HW]; · iexact HW
  isplitl [H0]
  · iexists d0
    rw [refill]
    iexact H0
  isplitl [H1]
  · iexists d1
    rw [refill]
    iexact H1
  isplitl [H2]; · iexact H2
  isplitl [H3]; · iexact H3
  isplitl [H4]; · iexact H4
  isplitl [H5]; · iexact H5
  iapply (leaves_of m c t _ (leaves_6 m c hA t _ (hs.of_O m _) d0 d1 d6 rfl))
  iexact H6

end Cert.Moe
-- ==== Proof.Result.lean ====
/- The kernel's result array: every token's row the sum of its experts' gated outputs. -/
module

public import proofs.«01_k».proof.Proof.ValueRun

@[expose] public section

set_option maxRecDepth 16384
set_option maxHeartbeats 400000

noncomputable section

namespace Cert.Moe

open Cert.KernelIdeal Cert.KernelIdeal.Gen
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The mixture: every row the sum over the experts. -/
def outArr (A : Arr) : Vec Ideal S32768x1024 .f32 := fun x => partialRow A (x 0) (x 1) 8

theorem rows_6 (t : Fin cfg0.N) : cc0_transform_6 (grid0.coords t) 0 = (grid0.coords t 0).val :=
  word32 _ (lt_trans (grid0.coords t 0).isLt (by decide))

theorem flushed_6 (c : Dev nD) (t : Fin cfg0.N) (h : (cfg0.win 6).flush t = true) :
    (datV m c).flushed 6 t = ((cfg0.win 6).blk t).view.read (Elt Ideal) (outArr (arrM m c)) := by
  have h15 := (flush0_6 t).mp h
  have e1 : (grid0.coords t 1).val = 7 := by rw [coord1]; omega
  have e2 : (grid0.coords t 2).val = 1 := by rw [coord2]; omega
  funext j
  rw [View.read_apply]
  have hv : valid (grid0.coords t) ⟨(j 0).val, _⟩ := moved_valid t _ ((cfg0.win 6).moved_xinj (cfg0.grid.coords t) j)
  refine (outRow_valid (arrM m c) (grid0.coords t) _ _ hv).trans ?_
  rw [e1, e2]
  have h0 : ((((cfg0.win 6).blk t).view.emb j) 0).val = 896 * (grid0.coords t 0).val + (j 0).val := by
    refine (Pipeline.Window.rect_emb_val win0_6 t _ 0).trans ?_
    show cc0_transform_6 (grid0.coords t) 0 * 896 + (j 0).val = _
    rw [rows_6, Nat.mul_comm]
  have h1 : ((((cfg0.win 6).blk t).view.emb j) 1).val = (j 1).val := by
    refine (Pipeline.Window.rect_emb_val win0_6 t _ 1).trans ?_
    show 0 * 1024 + (j 1).val = _
    omega
  exact congrArg₂ (fun n q => partialRow (arrM m c) n q 8) (Fin.ext h0.symm) (Fin.ext h1.symm)

theorem result (c : Dev nD) : (datV m c).arrAt 6 cfg0.N = outArr (arrM m c) := by
  refine (datV m c).arrAt_eq_of_cover 6 _ (fun t h => flushed_6 m c t h) fun i => ?_
  have hi0 : (i 0).val < 32768 := (i 0).isLt
  have hi1 : (i 1).val < 1024 := (i 1).isLt
  have hN : 16 * ((i 0).val / 896) + 15 < cfg0.N := lt_of_lt_of_eq (show _ < 592 by omega) N_0.symm
  refine ⟨⟨16 * ((i 0).val / 896) + 15, hN⟩, (flush0_6 _).mpr (show (16 * ((i 0).val / 896) + 15) % 16 = 15 by omega), ?_⟩
  generalize ht : (⟨16 * ((i 0).val / 896) + 15, hN⟩ : Fin cfg0.N) = t
  have e0 : (grid0.coords t 0).val = (i 0).val / 896 := by
    rw [coord0, ← ht]; show (16 * ((i 0).val / 896) + 15) / 16 % 37 = _; omega
  have hv : valid (grid0.coords t) (⟨(i 0).val % 896, Nat.mod_lt _ (by decide)⟩ : Fin 896) := by
    unfold valid; rw [e0]; show 896 * _ + (i 0).val % 896 < 32768; omega
  have hm := ((cfg0.win 6).moved_iff _ _).mp (moved_of_valid t _ ⟨(i 1).val, hi1⟩ hv)
  have hy : i = ((cfg0.win 6).blk t).view.emb (fun a => ⟨_, hm a⟩) := by
    funext a
    apply Fin.ext
    match a with
    | 0 =>
      refine ((Pipeline.Window.rect_emb_val win0_6 t _ 0).trans ?_).symm
      show cc0_transform_6 (grid0.coords t) 0 * 896 + (i 0).val % 896 = (i 0).val
      rw [rows_6, e0]; omega
    | 1 =>
      refine ((Pipeline.Window.rect_emb_val win0_6 t _ 1).trans ?_).symm
      show 0 * 1024 + (i 1).val = (i 1).val
      omega
  rw [hy]
  exact ((cfg0.win 6).blk t).view.emb_mem_set _

abbrev datsV (p : Fin 1) (c : Dev nD) : Dat τ (Elt Ideal) Unit ℕ (UR sig nD τ) ℕ (cfgs p) c :=
  match p with
  | 0 => datV m c

theorem keptV (c : Dev nD) (w : Fin cfg0.W) (hin : (cfg0.win w).isOut = false) : (datsV m 0 c).arrAt w cfg0.N = V m c (Pipeline.arrRef spec0 w) :=
  (datsV m 0 c).arrAt_in w hin cfg0.N

/-- The kernel runs to its end from any memory whose parts are real numbers, its result the mixture, its argument
    arrays as launched. -/
theorem run_value (hA : ∀ c, Reals (arrM m c)) :
    θ_run defs (onTc (τ := τ) (main (F := Ideal))) (s₀ m ρ)
      (fun r => ∀ c : Dev nD,
        r.2.mem ((c.tc : Thread nD τ).loc main_v5) = outArr (arrM m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  Pipeline.θ_run_frame_track cfgs (datsV m) (0 : Fin 1) launch0 defs₀ 𝒱₀ m ρ main
    (hbody := fun c => obligation_value m c (hA c))
    (hshare := fun c => (datsV m 0 c).share_full fun _ => rfl)
    (howed := fun _ _ => rfl) (V := V m) (hmain := hmain m 𝒱₀) (hA := fun _ _ => rfl)
    (Q' := _) (hin := fun c => entry m _ _ c (fun _ h => absurd rfl h)) (hout := fun c => exit m _ _ c)
    (hQ' := fun r h c =>
      ⟨((h.1 c).1 6).trans (result m c),
       ((h.1 c).1 0).trans ((keptV m c 0 rfl).trans (V_main_arg0 m c)),
       ((h.1 c).1 1).trans ((keptV m c 1 rfl).trans (V_main_arg1 m c)),
       ((h.1 c).1 3).trans ((keptV m c 3 rfl).trans (V_main_arg2 m c)),
       ((h.1 c).1 4).trans ((keptV m c 4 rfl).trans (V_main_arg3 m c)),
       ((h.1 c).1 5).trans ((keptV m c 5 rfl).trans (V_main_arg4 m c))⟩)

end Cert.Moe
-- ==== Proof.NormRow.lean ====
/- The layer norm of one row of 1024 numbers, as the kernel's block and the reference's array compute it. -/
module

public import Idealize.ShloMosaic.Lib.Pointwise
public import proofs.«01_k».proof.Proof.Gen.ResidualIdeal.Skeleton
public import proofs.«01_k».proof.Proof.Gen.ReferenceResidualIdeal

@[expose] public section

set_option maxRecDepth 16384
set_option maxHeartbeats 400000

noncomputable section

namespace Cert.Norm

open Idealize.ShloMosaic

/-- The mean of a row. -/
def mean (y : Fin 1024 → EReal) : EReal := Ideal.div (∑ k : Fin 1024, y k) (Ideal.ofBits .f32 0x44800000#32)

/-- A row's layer norm at one place: the deviation from the mean, over the root of the mean square deviation, scaled and
    shifted. -/
def lnRow (y : Fin 1024 → EReal) (g b : EReal) (q : Fin 1024) : EReal :=
  (y q - mean y)
    * Ideal.rsqrt (mean (fun k => (y k - mean y) * (y k - mean y)) + Ideal.ofBits .f32 0x3727C5AC#32) * g + b

theorem residual_block (P0 P1 : Vec Ideal Cert.ResidualIdeal.S512x1024 .f32) (P2 P3 : Vec Ideal Cert.ResidualIdeal.S1x1024 .f32)
    (r : Fin 512) (q : Fin 1024) :
    Cert.ResidualIdeal.Gen.k0_pay1 P0 P1 P2 P3 (ix2 r q)
      = lnRow (fun k => Ideal.ofBits .f32 0x3FB504F3#32 * P0 (ix2 r k) + P1 (ix2 r k)) (P2 (ix2 0 q)) (P3 (ix2 0 q)) q := by
  pointwise [Cert.ResidualIdeal.Gen.k0_pay1]
  rfl

section
open Cert.ReferenceResidualIdeal Cert.ReferenceResidualIdeal.Gen

/-- The reference's layer norm of a whole array. -/
def refNorm (Y : FVec Ideal S32768x1024 .f32) (g b : FVec Ideal S1024 .f32) : FVec Ideal S32768x1024 .f32 :=
  have s : FVec Ideal S32768x1 .f32 := Host.divf (broadcastInDim S32768x1 ![0] bcast_S32768_S32768x1_0 (Host.reduceAdd Y (constant S_ .f32 0x00000000#32) reducesTo_S32768x1024_S32768_d1 h_S_)) (broadcastInDim S32768x1 ![] bcast_S_S32768x1 (constant S_ .f32 0x44800000#32))
  have d : FVec Ideal S32768x1024 .f32 := subf Y (broadcastInDim S32768x1024 ![0, 1] bcast_S32768x1_S32768x1024_0_1 s)
  have v : FVec Ideal S32768x1 .f32 := Host.divf (broadcastInDim S32768x1 ![0] bcast_S32768_S32768x1_0 (Host.reduceAdd (mulf d d) (constant S_ .f32 0x00000000#32) reducesTo_S32768x1024_S32768_d1 h_S_)) (broadcastInDim S32768x1 ![] bcast_S_S32768x1 (constant S_ .f32 0x44800000#32))
  have z : FVec Ideal S32768x1 .f32 := Host.rsqrt (addf v (broadcastInDim S32768x1 ![] bcast_S_S32768x1 (constant S_ .f32 0x3727C5AC#32)))
  addf (mulf (mulf d (broadcastInDim S32768x1024 ![0, 1] bcast_S32768x1_S32768x1024_0_1 z)) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

theorem refNorm_apply (Y : FVec Ideal S32768x1024 .f32) (g b : FVec Ideal S1024 .f32) (n : Fin 32768) (q : Fin 1024) :
    refNorm Y g b (ix2 n q) = lnRow (fun k => Y (ix2 n k)) (g (ix1 q)) (b (ix1 q)) q := by
  pointwise [refNorm]
  rfl

end

end Cert.Norm
-- ==== Proof.ResidualValue.lean ====
/- The residual call: its two result arrays, as the kernel's blocks and the reference leave them. -/
module

public import proofs.«01_k».proof.Proof.NormRow
public import proofs.«01_k».proof.Proof.Gen.ResidualIdeal.Value
public import proofs.«01_k».proof.Proof.Gen.ReferenceResidualIdeal.Run
public import Idealize.ShloMosaic.Lib.StableHlo.ReadAt

@[expose] public section

set_option maxRecDepth 16384
set_option maxHeartbeats 400000

noncomputable section

namespace Cert.Norm.Residual

open Cert.ResidualIdeal Cert.ResidualIdeal.Gen Cert.ResidualIdeal.Value
open Idealize.ShloMosaic Idealize.ShloMosaic.TcCoe Idealize.SL.Sem
open Idealize.ShloMosaic.Pipeline (Dat)

/-- The residual with its layer norm, row by row. -/
def resArr (A0 A1 : Vec Ideal S32768x1024 .f32) (A2 A3 : Vec Ideal S1024 .f32) : Vec Ideal S32768x1024 .f32 := fun i =>
  lnRow (fun k => Ideal.ofBits .f32 0x3FB504F3#32 * A0 (ix2 (i 0) k) + A1 (ix2 (i 0) k)) (A2 (ix1 (i 1))) (A3 (ix1 (i 1))) (i 1)

theorem idx_block (y : S512x1024.Idx) : r0_0.idx y = y := by
  funext a
  apply Fin.ext
  match a with
  | 0 => show 0 + 1 * (y 0).val = (y 0).val; omega
  | 1 => show 0 + 1 * (y 1).val = (y 1).val; omega

theorem idx_row (y : S1x1024.Idx) : r0_1.idx y = y := by
  funext a
  apply Fin.ext
  match a with
  | 0 => show 0 + 1 * (y 0).val = (y 0).val; omega
  | 1 => show 0 + 1 * (y 1).val = (y 1).val; omega

theorem ld_block (x : Vec Ideal S512x1024 .f32) : (View.ld x r0_0 : Vec Ideal S512x1024 .f32) = x :=
  funext fun y => congrArg x (idx_block y)

theorem ld_row (x : Vec Ideal S1x1024 .f32) : (View.ld x r0_1 : Vec Ideal S1x1024 .f32) = x :=
  funext fun y => congrArg x (idx_row y)

theorem out_f32 (x0 x1 : Vec Ideal S512x1024 .f32) (x2 x3 : Vec Ideal S1x1024 .f32) (y : S512x1024.Idx) :
    out0_4 x0 x1 x2 x3 y = k0_pay1 x0 x1 x2 x3 y := by
  have h1 := canon4_eq (F := Ideal) (View.ld x0 r0_0) (View.ld x1 r0_0) (View.ld x2 r0_1) (View.ld x3 r0_1) y
  have h2 := piece4_0 (F := Ideal) (View.ld x0 r0_0) (View.ld x1 r0_0) (View.ld x2 r0_1) (View.ld x3 r0_1) y
  rw [idx_block] at h2
  refine h1.trans (h2.symm.trans ?_)
  rw [ld_block, ld_block, ld_row, ld_row]

theorem out_bf16 (x0 x1 : Vec Ideal S512x1024 .f32) (x2 x3 : Vec Ideal S1x1024 .f32) (y : S512x1024.Idx) :
    (out0_5 x0 x1 x2 x3 y : EReal) = k0_pay1 x0 x1 x2 x3 y := by
  have h1 := canon5_eq (F := Ideal) (View.ld x0 r0_0) (View.ld x1 r0_0) (View.ld x2 r0_1) (View.ld x3 r0_1) y
  have h2 := piece5_0 (F := Ideal) (View.ld x0 r0_0) (View.ld x1 r0_0) (View.ld x2 r0_1) (View.ld x3 r0_1) y
  rw [idx_block] at h2
  refine h1.trans (h2.symm.trans ?_)
  rw [ld_block, ld_block, ld_row, ld_row]
  rfl

variable (m : (ℓ : Loc nD τ sig) → Buf (Elt Ideal) ℓ) (ρ : Dev nD → PrngReg)

theorem V_g (c : Dev nD) (q : Fin 1024) :
    (V m c main_v0 : Vec Ideal S1x1024 .f32) (ix2 0 q) = (m ((c : Thread nD τ).loc main_arg2) : Vec Ideal S1024 .f32) (ix1 q) := by
  unfold V
  simp only [hostOps0]
  after_reads_simp
  pointwise

theorem V_b (c : Dev nD) (q : Fin 1024) :
    (V m c main_v1 : Vec Ideal S1x1024 .f32) (ix2 0 q) = (m ((c : Thread nD τ).loc main_arg3) : Vec Ideal S1024 .f32) (ix1 q) := by
  unfold V
  simp only [hostOps0]
  after_reads_simp
  pointwise

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem points (t : Fin cfg0.N) : t.val < 64 := lt_of_lt_of_eq t.isLt N_0

/-- Row `r` of block `t`. -/
def rowOf (t : Fin cfg0.N) (r : Fin 512) : Fin 32768 := ⟨512 * t.val + r.val, by have := points t; omega⟩

theorem blk_0 (c : Dev nD) (t : Fin cfg0.N) (r : Fin 512) (k : Fin 1024) :
    (iblk m c 0 t : Vec Ideal S512x1024 .f32) (ix2 r k) = (m ((c : Thread nD τ).loc main_arg0) : Vec Ideal S32768x1024 .f32) (ix2 (rowOf t r) k) := by
  have e := (idx_facts t).1
  unfold iblk
  rw [View.read_apply, V_main_arg0]
  refine congrArg (m ((c : Thread nD τ).loc main_arg0)) (funext fun x => Fin.ext ?_)
  match x with
  | 0 =>
    refine (Pipeline.Window.rect_emb_val win0_0 t _ 0).trans ?_
    show win0_0.index t (0 : Fin 2) * 512 + r.val = 512 * t.val + r.val
    rw [e.1]; omega
  | 1 =>
    refine (Pipeline.Window.rect_emb_val win0_0 t _ 1).trans ?_
    show win0_0.index t (1 : Fin 2) * 1024 + k.val = k.val
    rw [e.2]; omega

theorem blk_1 (c : Dev nD) (t : Fin cfg0.N) (r : Fin 512) (k : Fin 1024) :
    (iblk m c 1 t : Vec Ideal S512x1024 .f32) (ix2 r k) = (m ((c : Thread nD τ).loc main_arg1) : Vec Ideal S32768x1024 .f32) (ix2 (rowOf t r) k) := by
  have e := (idx_facts t).2.1
  unfold iblk
  rw [View.read_apply, V_main_arg1]
  refine congrArg (m ((c : Thread nD τ).loc main_arg1)) (funext fun x => Fin.ext ?_)
  match x with
  | 0 =>
    refine (Pipeline.Window.rect_emb_val win0_1 t _ 0).trans ?_
    show win0_1.index t (0 : Fin 2) * 512 + r.val = 512 * t.val + r.val
    rw [e.1]; omega
  | 1 =>
    refine (Pipeline.Window.rect_emb_val win0_1 t _ 1).trans ?_
    show win0_1.index t (1 : Fin 2) * 1024 + k.val = k.val
    rw [e.2]; omega

theorem blk_2 (c : Dev nD) (t : Fin cfg0.N) (k : Fin 1024) :
    (iblk m c 2 t : Vec Ideal S1x1024 .f32) (ix2 0 k) = (m ((c : Thread nD τ).loc main_arg2) : Vec Ideal S1024 .f32) (ix1 k) := by
  have e := (idx_facts t).2.2.1
  refine Eq.trans ?_ (V_g m c k)
  unfold iblk
  rw [View.read_apply]
  refine congrArg (V m c main_v0) (funext fun x => Fin.ext ?_)
  match x with
  | 0 =>
    refine (Pipeline.Window.rect_emb_val win0_2 t _ 0).trans ?_
    show win0_2.index t (0 : Fin 2) * 1 + 0 = 0
    rw [e.1]
  | 1 =>
    refine (Pipeline.Window.rect_emb_val win0_2 t _ 1).trans ?_
    show win0_2.index t (1 : Fin 2) * 1024 + k.val = k.val
    rw [e.2]; omega

theorem blk_3 (c : Dev nD) (t : Fin cfg0.N) (k : Fin 1024) :
    (iblk m c 3 t : Vec Ideal S1x1024 .f32) (ix2 0 k) = (m ((c : Thread nD τ).loc main_arg3) : Vec Ideal S1024 .f32) (ix1 k) := by
  have e := (idx_facts t).2.2.2.1
  refine Eq.trans ?_ (V_b m c k)
  unfold iblk
  rw [View.read_apply]
  refine congrArg (V m c main_v1) (funext fun x => Fin.ext ?_)
  match x with
  | 0 =>
    refine (Pipeline.Window.rect_emb_val win0_3 t _ 0).trans ?_
    show win0_3.index t (0 : Fin 2) * 1 + 0 = 0
    rw [e.1]
  | 1 =>
    refine (Pipeline.Window.rect_emb_val win0_3 t _ 1).trans ?_
    show win0_3.index t (1 : Fin 2) * 1024 + k.val = k.val
    rw [e.2]; omega

/-- The result of the call on the launched arrays. -/
abbrev resM (c : Dev nD) : Vec Ideal S32768x1024 .f32 :=
  resArr (m ((c : Thread nD τ).loc main_arg0)) (m ((c : Thread nD τ).loc main_arg1)) (m ((c : Thread nD τ).loc main_arg2)) (m ((c : Thread nD τ).loc main_arg3))

theorem block_value (c : Dev nD) (t : Fin cfg0.N) (r : Fin 512) (q : Fin 1024) :
    k0_pay1 (iblk m c 0 t) (iblk m c 1 t) (iblk m c 2 t) (iblk m c 3 t) (ix2 r q) = resM m c (ix2 (rowOf t r) q) := by
  refine (residual_block _ _ _ _ r q).trans ?_
  simp only [blk_0 m c t r, blk_1 m c t r, blk_2 m c t q, blk_3 m c t q]
  rfl

theorem emb_4 (t : Fin cfg0.N) (r : Fin 512) (q : Fin 1024) : ((cfg0.win 4).blk t).view.emb (ix2 r q) = ix2 (rowOf t r) q := by
  have e := (idx_facts t).2.2.2.2.1
  refine funext fun x => Fin.ext ?_
  match x with
  | 0 =>
    refine (Pipeline.Window.rect_emb_val win0_4 t _ 0).trans ?_
    show win0_4.index t (0 : Fin 2) * 512 + r.val = 512 * t.val + r.val
    rw [e.1]; omega
  | 1 =>
    refine (Pipeline.Window.rect_emb_val win0_4 t _ 1).trans ?_
    show win0_4.index t (1 : Fin 2) * 1024 + q.val = q.val
    rw [e.2]; omega

theorem emb_5 (t : Fin cfg0.N) (r : Fin 512) (q : Fin 1024) : ((cfg0.win 5).blk t).view.emb (ix2 r q) = ix2 (rowOf t r) q := by
  have e := (idx_facts t).2.2.2.2.2
  refine funext fun x => Fin.ext ?_
  match x with
  | 0 =>
    refine (Pipeline.Window.rect_emb_val win0_5 t _ 0).trans ?_
    show win0_5.index t (0 : Fin 2) * 512 + r.val = 512 * t.val + r.val
    rw [e.1]; omega
  | 1 =>
    refine (Pipeline.Window.rect_emb_val win0_5 t _ 1).trans ?_
    show win0_5.index t (1 : Fin 2) * 1024 + q.val = q.val
    rw [e.2]; omega

theorem place (j : S512x1024.Idx) : ∃ (r : Fin 512) (q : Fin 1024), j = ix2 r q := ⟨j 0, j 1, eq_ix2 j⟩

theorem written_4 (c : Dev nD) (t : Fin cfg0.N) :
    (dats m 0 c).flushed 4 t = ((cfg0.win 4).blk t).view.read (Elt Ideal) (resM m c) := by
  rw [flushed4]
  funext j
  obtain ⟨r, q, rfl⟩ := place j
  rw [View.read_apply, emb_4]
  exact (out_f32 _ _ _ _ (ix2 r q)).trans (block_value m c t r q)

theorem written_5 (c : Dev nD) (t : Fin cfg0.N) :
    (dats m 0 c).flushed 5 t = ((cfg0.win 5).blk t).view.read (Elt Ideal) (resM m c) := by
  rw [flushed5]
  funext j
  obtain ⟨r, q, rfl⟩ := place j
  rw [View.read_apply, emb_5]
  exact (out_bf16 _ _ _ _ (ix2 r q)).trans (block_value m c t r q)

theorem every (n : Fin 32768) : ∃ (t : Fin cfg0.N) (r : Fin 512), rowOf t r = n :=
  ⟨⟨n.val / 512, lt_of_lt_of_eq (show _ < 64 by omega) N_0.symm⟩, ⟨n.val % 512, by omega⟩, Fin.ext (show 512 * (n.val / 512) + n.val % 512 = n.val by omega)⟩

theorem total (i : S32768x1024.Idx) : ∃ (n : Fin 32768) (q : Fin 1024), i = ix2 n q := ⟨i 0, i 1, eq_ix2 i⟩

theorem array_4 (c : Dev nD) : (dats m 0 c).arrAt 4 cfg0.N = resM m c := by
  refine (dats m 0 c).arrAt_eq_of_cover 4 _ (fun t _ => written_4 m c t) fun i => ?_
  obtain ⟨n, q, rfl⟩ := total i
  obtain ⟨t, r, rfl⟩ := every n
  refine ⟨t, flush0_4 t, ?_⟩
  rw [← emb_4]
  exact ((cfg0.win 4).blk t).view.emb_mem_set _

theorem array_5 (c : Dev nD) : (dats m 0 c).arrAt 5 cfg0.N = resM m c := by
  refine (dats m 0 c).arrAt_eq_of_cover 5 _ (fun t _ => written_5 m c t) fun i => ?_
  obtain ⟨n, q, rfl⟩ := total i
  obtain ⟨t, r, rfl⟩ := every n
  refine ⟨t, flush0_5 t, ?_⟩
  rw [← emb_5]
  exact ((cfg0.win 5).blk t).view.emb_mem_set _

section
open Cert.ReferenceResidualIdeal Cert.ReferenceResidualIdeal.Gen

/-- The reference's result is the same array. -/
theorem ref_array (A0 A1 : FVec Ideal Cert.ReferenceResidualIdeal.S32768x1024 .f32) (A2 A3 : FVec Ideal Cert.ReferenceResidualIdeal.S1024 .f32) :
    refNorm (addf (mulf (broadcastInDim Cert.ReferenceResidualIdeal.S32768x1024 ![] bcast_S_S32768x1024 (constant S_ .f32 0x3FB504F3#32)) A0) A1) A2 A3
      = resArr A0 A1 A2 A3 := by
  funext i
  obtain ⟨n, q, rfl⟩ := total i
  exact refNorm_apply _ _ _ n q

end

end Cert.Norm.Residual
-- ==== Proof.FfnRow.lean ====
/- One row of the dense feed-forward layer, as the kernel's blocks and the reference's arrays compute it. -/
module

public import proofs.«01_k».proof.Proof.NormRow
public import proofs.«01_k».proof.Proof.Gen.FfnIdeal.Skeleton
public import proofs.«01_k».proof.Proof.Gen.ReferenceFfnIdeal

@[expose] public section

set_option maxRecDepth 16384
set_option maxHeartbeats 400000

noncomputable section

namespace Cert.Norm.Ffn

open Idealize.ShloMosaic

/-- The gated activation. -/
def gated (a b : EReal) : EReal := Ideal.div a (1 + Ideal.exp (0 - a)) * b

theorem zero_sub_ereal (a : EReal) : 0 - a = -a := by rw [sub_eq_add_neg, zero_add]

theorem exp_nonneg (a : EReal) : 0 ≤ Ideal.exp a := by
  induction a using EReal.rec with
  | bot => exact le_of_eq Ideal.exp_bot.symm
  | top => rw [Ideal.exp_top]; exact le_top
  | coe r => rw [Ideal.exp_coe]; exact EReal.coe_nonneg.mpr (Real.exp_pos r).le

theorem divisor_ne_zero (a : EReal) : 1 + Ideal.exp a ≠ 0 := by
  have h : (1 : EReal) ≤ 1 + Ideal.exp a := le_add_of_nonneg_right (exp_nonneg a)
  exact ne_of_gt (lt_of_lt_of_le zero_lt_one h)

/-- Dividing by one plus the exponential is multiplying by its inverse, at every extended real. -/
theorem gated_ref (a b : EReal) : a * Ideal.div 1 (1 + Ideal.exp (-a)) * b = gated a b := by
  unfold gated
  rw [zero_sub_ereal]
  unfold Ideal.div
  rw [if_neg (divisor_ne_zero (-a)), if_neg (divisor_ne_zero (-a)), one_mul]

theorem tile_block (x : Vec Ideal Cert.FfnIdeal.S512x1024 .bf16) (w1 w3 : Vec Ideal Cert.FfnIdeal.S1024x1408 .bf16)
    (w2 : Vec Ideal Cert.FfnIdeal.S1408x1024 .bf16) (r : Fin 512) (q : Fin 1024) :
    Cert.FfnIdeal.Gen.k0_pay1 x w1 w3 w2 (ix2 r q)
      = ∑ k : Fin 1408, gated (∑ d : Fin 1024, x (ix2 r d) * w1 (ix2 d k)) (∑ d : Fin 1024, x (ix2 r d) * w3 (ix2 d k)) * w2 (ix2 k q) := by
  pointwise [Cert.FfnIdeal.Gen.k0_pay1]
  rfl

theorem norm_block (h acc : Vec Ideal Cert.FfnIdeal.S512x1024 .f32) (P2 P3 : Vec Ideal Cert.FfnIdeal.S1x1024 .f32)
    (r : Fin 512) (q : Fin 1024) :
    Cert.FfnIdeal.Gen.k0_pay4 h acc P2 P3 (ix2 r q)
      = lnRow (fun k => Ideal.ofBits .f32 0x3FB504F3#32 * h (ix2 r k) + acc (ix2 r k)) (P2 (ix2 0 q)) (P3 (ix2 0 q)) q := by
  pointwise [Cert.FfnIdeal.Gen.k0_pay4]
  rfl

section
open Cert.ReferenceFfnIdeal Cert.ReferenceFfnIdeal.Gen

/-- The reference's dense layer of a whole array. -/
def refDense (x : FVec Ideal S32768x1024 .bf16) (w1 w3 : FVec Ideal S1024x2816 .bf16) (w2 : FVec Ideal S2816x1024 .bf16) :
    FVec Ideal S32768x1024 .f32 :=
  have a : FVec Ideal S32768x2816 .f32 := Host.dotGeneral dot_S32768x1024_S1024x2816_S32768x2816_1_0_0_1_n_n none (extf .f32 x bitsLt_bf16_f32) (extf .f32 w1 bitsLt_bf16_f32)
  have b : FVec Ideal S32768x2816 .f32 := Host.dotGeneral dot_S32768x1024_S1024x2816_S32768x2816_1_0_0_1_n_n none (extf .f32 x bitsLt_bf16_f32) (extf .f32 w3 bitsLt_bf16_f32)
  have o : FVec Ideal S32768x2816 .f32 := broadcastInDim S32768x2816 ![] bcast_S_S32768x2816 (constant S_ .f32 0x3F800000#32)
  Host.dotGeneral dot_S32768x2816_S2816x1024_S32768x1024_1_0_0_1_n_n none (mulf (mulf a (Host.divf o (addf o (Host.exp (Host.negf a))))) b) (extf .f32 w2 bitsLt_bf16_f32)

theorem refDense_apply (x : FVec Ideal S32768x1024 .bf16) (w1 w3 : FVec Ideal S1024x2816 .bf16) (w2 : FVec Ideal S2816x1024 .bf16)
    (n : Fin 32768) (q : Fin 1024) :
    refDense x w1 w3 w2 (ix2 n q)
      = ∑ k : Fin 2816, gated (∑ d : Fin 1024, x (ix2 n d) * w1 (ix2 d k)) (∑ d : Fin 1024, x (ix2 n d) * w3 (ix2 d k)) * w2 (ix2 k q) := by
  pointwise [refDense]
  simp only [Ideal.ofBits_one_f32, gated_ref]

end

end Cert.Norm.Ffn
-- ==== Proof.FfnValue.lean ====
/- The dense feed-forward call: its two result arrays, as the kernel's blocks and the reference leave them. -/
module

public import proofs.«01_k».proof.Proof.FfnRow
public import proofs.«01_k».proof.Proof.Gen.FfnIdeal.Value
public import proofs.«01_k».proof.Proof.Gen.ReferenceFfnIdeal.Run
public import Idealize.ShloMosaic.Lib.StableHlo.ReadAt

@[expose] public section

set_option maxRecDepth 16384
set_option maxHeartbeats 400000

noncomputable section

namespace Cert.Norm.Ffn

open Cert.FfnIdeal Cert.FfnIdeal.Gen Cert.FfnIdeal.Value
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The first point's scratch: the first tile's sum. -/
theorem first_acc (c : Dev nD) (i : grid0.Coords) (arg2 : Memref sig .tc .vmem S512x1024 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S1408x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i) (hc2 : ¬cond0_2 i)
    (x0 : Vec Ideal S512x1024 .bf16) (x1 : Vec Ideal S1024x1408 .bf16) (x2 : Vec Ideal S1024x1408 .bf16) (x3 : Vec Ideal S1408x1024 .bf16) (x4 : Vec Ideal S512x1024 .f32) (x5 : Vec Ideal S1x1024 .f32) (x6 : Vec Ideal S1x1024 .f32) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5 x6)]
  unfold kernelRun0_A
  dsimp only
  sl_unfold_words
  rw [View.canon_unit_zero hz]
  unfold k0_pay2
  simp only [View.readAt_eq_ld, harg2.read_unread, harg3.read_unread, harg4.read_unread, harg5.read_unread, harg6.read_unread, harg7.read_unread,
    harg8.read_unread, harg11.read_unread, View.ld_unit_zero (S := S512x1024) hz, View.ld_unit_zero (S := S1024x1408) hz,
    View.ld_unit_zero (S := S1408x1024) hz, View.ld_unit_zero (S := S1x1024) hz, shapeCast_self]

/-- The second point's output 7. -/
theorem last_7 (c : Dev nD) (i : grid0.Coords) (arg2 : Memref sig .tc .vmem S512x1024 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S1408x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i) (hc2 : cond0_2 i)
    (x0 : Vec Ideal S512x1024 .bf16) (x1 : Vec Ideal S1024x1408 .bf16) (x2 : Vec Ideal S1024x1408 .bf16) (x3 : Vec Ideal S1408x1024 .bf16) (x4 : Vec Ideal S512x1024 .f32) (x5 : Vec Ideal S1x1024 .f32) (x6 : Vec Ideal S1x1024 .f32) (xs0 : Vec Ideal S512x1024 .f32) :
    out0_B_7 c i arg2 harg2 arg3 harg3 arg4 harg4 arg5 harg5 arg6 harg6 arg7 harg7 arg8 harg8 arg9 harg9 arg10 harg10 arg11 harg11 hc0 hc1 hc2 x0 x1 x2 x3 x4 x5 x6 xs0 = k0_pay4 x4 (addf xs0 (k0_pay1 x0 x1 x2 x3)) x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_B
  dsimp only
  sl_unfold_words
  rw [View.canon_unit_zero hz, View.readCov_unit_zero (S := S512x1024) _ hz]
  unfold k0_pay3
  simp only [View.readAt_eq_ld, harg2.read_unread, harg3.read_unread, harg4.read_unread, harg5.read_unread, harg6.read_unread, harg7.read_unread,
    harg8.read_unread, harg11.read_unread, View.ld_unit_zero (S := S512x1024) hz, View.ld_unit_zero (S := S1024x1408) hz,
    View.ld_unit_zero (S := S1408x1024) hz, View.ld_unit_zero (S := S1x1024) hz, shapeCast_self]

/-- The second point's output 8. -/
theorem last_8 (c : Dev nD) (i : grid0.Coords) (arg2 : Memref sig .tc .vmem S512x1024 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S1408x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i) (hc2 : cond0_2 i)
    (x0 : Vec Ideal S512x1024 .bf16) (x1 : Vec Ideal S1024x1408 .bf16) (x2 : Vec Ideal S1024x1408 .bf16) (x3 : Vec Ideal S1408x1024 .bf16) (x4 : Vec Ideal S512x1024 .f32) (x5 : Vec Ideal S1x1024 .f32) (x6 : Vec Ideal S1x1024 .f32) (xs0 : Vec Ideal S512x1024 .f32) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 xs0 = k0_pay5 x4 (addf xs0 (k0_pay1 x0 x1 x2 x3)) x5 x6 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_B
  dsimp only
  sl_unfold_words
  rw [View.canon_unit_zero hz, View.readCov_unit_zero (S := S512x1024) _ hz]
  unfold k0_pay3
  simp only [View.readAt_eq_ld, harg2.read_unread, harg3.read_unread, harg4.read_unread, harg5.read_unread, harg6.read_unread, harg7.read_unread,
    harg8.read_unread, harg11.read_unread, View.ld_unit_zero (S := S512x1024) hz, View.ld_unit_zero (S := S1024x1408) hz,
    View.ld_unit_zero (S := S1408x1024) hz, View.ld_unit_zero (S := S1x1024) hz, shapeCast_self]

/-- The dense layer's row sum over some of the hidden entries. -/
def hidden (x : Vec Ideal S32768x1024 .bf16) (w1 w3 : Vec Ideal S1024x2816 .bf16) (w2 : Vec Ideal S2816x1024 .bf16) (n : Fin 32768) (q : Fin 1024)
    (k : Fin 2816) : EReal :=
  gated (∑ d : Fin 1024, x (ix2 n d) * w1 (ix2 d k)) (∑ d : Fin 1024, x (ix2 n d) * w3 (ix2 d k)) * w2 (ix2 k q)

/-- The feed-forward layer with its residual and layer norm, row by row. -/
def ffnArr (x : Vec Ideal S32768x1024 .bf16) (w1 w3 : Vec Ideal S1024x2816 .bf16) (w2 : Vec Ideal S2816x1024 .bf16)
    (h : Vec Ideal S32768x1024 .f32) (g b : Vec Ideal S1024 .f32) : Vec Ideal S32768x1024 .f32 := fun i =>
  lnRow (fun k => Ideal.ofBits .f32 0x3FB504F3#32 * h (ix2 (i 0) k) + ∑ p : Fin 2816, hidden x w1 w3 w2 (i 0) k p) (g (ix1 (i 1))) (b (ix1 (i 1))) (i 1)

variable (m : (ℓ : Loc nD τ sig) → Buf (Elt Ideal) ℓ) (ρ : Dev nD → PrngReg)

theorem V_g (c : Dev nD) (q : Fin 1024) :
    (V m c main_v0 : Vec Ideal S1x1024 .f32) (ix2 0 q) = (m ((c : Thread nD τ).loc main_arg5) : Vec Ideal S1024 .f32) (ix1 q) := by
  unfold V
  simp only [hostOps0]
  after_reads_simp
  pointwise

theorem V_b (c : Dev nD) (q : Fin 1024) :
    (V m c main_v1 : Vec Ideal S1x1024 .f32) (ix2 0 q) = (m ((c : Thread nD τ).loc main_arg6) : Vec Ideal S1024 .f32) (ix1 q) := by
  unfold V
  simp only [hostOps0]
  after_reads_simp
  pointwise

theorem idx_facts : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = 0 ∧ win0_2.index t (1 : Fin 2) = t.val % 2)
    ∧ (win0_3.index t (0 : Fin 2) = t.val % 2 ∧ win0_3.index t (1 : Fin 2) = 0)
    ∧ (win0_4.index t (0 : Fin 2) = t.val / 2 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val / 2 ∧ win0_7.index t (1 : Fin 2) = 0)
    ∧ (win0_8.index t (0 : Fin 2) = t.val / 2 ∧ win0_8.index t (1 : Fin 2) = 0) :=
  (by decide +kernel : ∀ t : Fin grid0.N, _)

theorem points (t : Fin cfg0.N) : t.val < 128 := lt_of_lt_of_eq t.isLt N_0

/-- Row `r` of the block of point `t`, and hidden entry `k` of its tile. -/
def rowOf (t : Fin cfg0.N) (r : Fin 512) : Fin 32768 := ⟨512 * (t.val / 2) + r.val, by have := points t; omega⟩
def hidOf (t : Fin cfg0.N) (k : Fin 1408) : Fin 2816 := ⟨1408 * (t.val % 2) + k.val, by omega⟩

theorem blk_0 (c : Dev nD) (t : Fin cfg0.N) (r : Fin 512) (k : Fin 1024) :
    (iblk m c 0 t : Vec Ideal S512x1024 .bf16) (ix2 r k) = (m ((c : Thread nD τ).loc main_arg0) : Vec Ideal S32768x1024 .bf16) (ix2 (rowOf t r) k) := by
  have e := (idx_facts t).1
  unfold iblk
  rw [View.read_apply, V_main_arg0]
  refine congrArg (m ((c : Thread nD τ).loc main_arg0)) (funext fun x => Fin.ext ?_)
  match x with
  | 0 =>
    refine (Pipeline.Window.rect_emb_val win0_0 t _ 0).trans ?_
    show win0_0.index t (0 : Fin 2) * 512 + r.val = 512 * (t.val / 2) + r.val
    rw [e.1]; omega
  | 1 =>
    refine (Pipeline.Window.rect_emb_val win0_0 t _ 1).trans ?_
    show win0_0.index t (1 : Fin 2) * 1024 + k.val = k.val
    rw [e.2]; omega

theorem blk_1 (c : Dev nD) (t : Fin cfg0.N) (d : Fin 1024) (k : Fin 1408) :
    (iblk m c 1 t : Vec Ideal S1024x1408 .bf16) (ix2 d k) = (m ((c : Thread nD τ).loc main_arg1) : Vec Ideal S1024x2816 .bf16) (ix2 d (hidOf t k)) := by
  have e := (idx_facts t).2.1
  unfold iblk
  rw [View.read_apply, V_main_arg1]
  refine congrArg (m ((c : Thread nD τ).loc main_arg1)) (funext fun x => Fin.ext ?_)
  match x with
  | 0 =>
    refine (Pipeline.Window.rect_emb_val win0_1 t _ 0).trans ?_
    show win0_1.index t (0 : Fin 2) * 1024 + d.val = d.val
    rw [e.1]; omega
  | 1 =>
    refine (Pipeline.Window.rect_emb_val win0_1 t _ 1).trans ?_
    show win0_1.index t (1 : Fin 2) * 1408 + k.val = 1408 * (t.val % 2) + k.val
    rw [e.2]; omega

theorem blk_2 (c : Dev nD) (t : Fin cfg0.N) (d : Fin 1024) (k : Fin 1408) :
    (iblk m c 2 t : Vec Ideal S1024x1408 .bf16) (ix2 d k) = (m ((c : Thread nD τ).loc main_arg2) : Vec Ideal S1024x2816 .bf16) (ix2 d (hidOf t k)) := by
  have e := (idx_facts t).2.2.1
  unfold iblk
  rw [View.read_apply, V_main_arg2]
  refine congrArg (m ((c : Thread nD τ).loc main_arg2)) (funext fun x => Fin.ext ?_)
  match x with
  | 0 =>
    refine (Pipeline.Window.rect_emb_val win0_2 t _ 0).trans ?_
    show win0_2.index t (0 : Fin 2) * 1024 + d.val = d.val
    rw [e.1]; omega
  | 1 =>
    refine (Pipeline.Window.rect_emb_val win0_2 t _ 1).trans ?_
    show win0_2.index t (1 : Fin 2) * 1408 + k.val = 1408 * (t.val % 2) + k.val
    rw [e.2]; omega

theorem blk_3 (c : Dev nD) (t : Fin cfg0.N) (k : Fin 1408) (q : Fin 1024) :
    (iblk m c 3 t : Vec Ideal S1408x1024 .bf16) (ix2 k q) = (m ((c : Thread nD τ).loc main_arg3) : Vec Ideal S2816x1024 .bf16) (ix2 (hidOf t k) q) := by
  have e := (idx_facts t).2.2.2.1
  unfold iblk
  rw [View.read_apply, V_main_arg3]
  refine congrArg (m ((c : Thread nD τ).loc main_arg3)) (funext fun x => Fin.ext ?_)
  match x with
  | 0 =>
    refine (Pipeline.Window.rect_emb_val win0_3 t _ 0).trans ?_
    show win0_3.index t (0 : Fin 2) * 1408 + k.val = 1408 * (t.val % 2) + k.val
    rw [e.1]; omega
  | 1 =>
    refine (Pipeline.Window.rect_emb_val win0_3 t _ 1).trans ?_
    show win0_3.index t (1 : Fin 2) * 1024 + q.val = q.val
    rw [e.2]; omega

theorem blk_4 (c : Dev nD) (t : Fin cfg0.N) (r : Fin 512) (k : Fin 1024) :
    (iblk m c 4 t : Vec Ideal S512x1024 .f32) (ix2 r k) = (m ((c : Thread nD τ).loc main_arg4) : Vec Ideal S32768x1024 .f32) (ix2 (rowOf t r) k) := by
  have e := (idx_facts t).2.2.2.2.1
  unfold iblk
  rw [View.read_apply, V_main_arg4]
  refine congrArg (m ((c : Thread nD τ).loc main_arg4)) (funext fun x => Fin.ext ?_)
  match x with
  | 0 =>
    refine (Pipeline.Window.rect_emb_val win0_4 t _ 0).trans ?_
    show win0_4.index t (0 : Fin 2) * 512 + r.val = 512 * (t.val / 2) + r.val
    rw [e.1]; omega
  | 1 =>
    refine (Pipeline.Window.rect_emb_val win0_4 t _ 1).trans ?_
    show win0_4.index t (1 : Fin 2) * 1024 + k.val = k.val
    rw [e.2]; omega

theorem blk_5 (c : Dev nD) (t : Fin cfg0.N) (k : Fin 1024) :
    (iblk m c 5 t : Vec Ideal S1x1024 .f32) (ix2 0 k) = (m ((c : Thread nD τ).loc main_arg5) : Vec Ideal S1024 .f32) (ix1 k) := by
  have e := (idx_facts t).2.2.2.2.2.1
  refine Eq.trans ?_ (V_g m c k)
  unfold iblk
  rw [View.read_apply]
  refine congrArg (V m c main_v0) (funext fun x => Fin.ext ?_)
  match x with
  | 0 =>
    refine (Pipeline.Window.rect_emb_val win0_5 t _ 0).trans ?_
    show win0_5.index t (0 : Fin 2) * 1 + 0 = 0
    rw [e.1];
  | 1 =>
    refine (Pipeline.Window.rect_emb_val win0_5 t _ 1).trans ?_
    show win0_5.index t (1 : Fin 2) * 1024 + k.val = k.val
    rw [e.2]; omega

theorem blk_6 (c : Dev nD) (t : Fin cfg0.N) (k : Fin 1024) :
    (iblk m c 6 t : Vec Ideal S1x1024 .f32) (ix2 0 k) = (m ((c : Thread nD τ).loc main_arg6) : Vec Ideal S1024 .f32) (ix1 k) := by
  have e := (idx_facts t).2.2.2.2.2.2.1
  refine Eq.trans ?_ (V_b m c k)
  unfold iblk
  rw [View.read_apply]
  refine congrArg (V m c main_v1) (funext fun x => Fin.ext ?_)
  match x with
  | 0 =>
    refine (Pipeline.Window.rect_emb_val win0_6 t _ 0).trans ?_
    show win0_6.index t (0 : Fin 2) * 1 + 0 = 0
    rw [e.1];
  | 1 =>
    refine (Pipeline.Window.rect_emb_val win0_6 t _ 1).trans ?_
    show win0_6.index t (1 : Fin 2) * 1024 + k.val = k.val
    rw [e.2]; omega

/-- The result of the call on the launched arrays. -/
abbrev ffnM (c : Dev nD) : Vec Ideal S32768x1024 .f32 :=
  ffnArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The hidden entries of the launched arrays. -/
abbrev hidM (c : Dev nD) (n : Fin 32768) (q : Fin 1024) (k : Fin 2816) : EReal :=
  hidden (m ((c : Thread nD τ).loc main_arg0)) (m ((c : Thread nD τ).loc main_arg1)) (m ((c : Thread nD τ).loc main_arg2)) (m ((c : Thread nD τ).loc main_arg3)) n q k

theorem tile_value (c : Dev nD) (t : Fin cfg0.N) (r : Fin 512) (q : Fin 1024) :
    k0_pay1 (iblk m c 0 t) (iblk m c 1 t) (iblk m c 2 t) (iblk m c 3 t) (ix2 r q) = ∑ k : Fin 1408, hidM m c (rowOf t r) q (hidOf t k) := by
  refine (tile_block _ _ _ _ r q).trans ?_
  simp only [blk_0 m c t, blk_1 m c t, blk_2 m c t, blk_3 m c t]
  rfl

/-- The two tiles' sums are the sum over all hidden entries. -/
theorem tiles (c : Dev nD) (t s : Fin cfg0.N) (hs : s.val + 1 = t.val) (ht : t.val % 2 = 1) (r : Fin 512) (q : Fin 1024) :
    (∑ k : Fin 1408, hidM m c (rowOf s r) q (hidOf s k)) + (∑ k : Fin 1408, hidM m c (rowOf t r) q (hidOf t k)) = ∑ k : Fin 2816, hidM m c (rowOf t r) q k := by
  have hr : rowOf s r = rowOf t r := Fin.ext (show 512 * (s.val / 2) + r.val = 512 * (t.val / 2) + r.val by omega)
  rw [hr, Fin.sum_univ_two_halves 1408 1408 rfl (fun k : Fin 2816 => hidM m c (rowOf t r) q k)]
  have h0 : ∀ k : Fin 1408, hidOf s k = ⟨k.val, by omega⟩ := fun k => Fin.ext (show 1408 * (s.val % 2) + k.val = k.val by omega)
  have h1 : ∀ k : Fin 1408, hidOf t k = ⟨1408 + k.val, by omega⟩ := fun k => Fin.ext (show 1408 * (t.val % 2) + k.val = 1408 + k.val by omega)
  simp only [h0, h1]

/-- What the second point of a block computes, over what the first left. -/
theorem block_value (c : Dev nD) (t s : Fin cfg0.N) (hs : s.val + 1 = t.val) (ht : t.val % 2 = 1) (r : Fin 512) (q : Fin 1024) :
    k0_pay4 (iblk m c 4 t)
      (addf (k0_pay1 (iblk m c 0 s) (iblk m c 1 s) (iblk m c 2 s) (iblk m c 3 s)) (k0_pay1 (iblk m c 0 t) (iblk m c 1 t) (iblk m c 2 t) (iblk m c 3 t)))
      (iblk m c 5 t) (iblk m c 6 t) (ix2 r q) = ffnM m c (ix2 (rowOf t r) q) := by
  refine (norm_block _ _ _ _ r q).trans ?_
  have hY : ∀ k : Fin 1024, (addf (F := Ideal) (φ := .f32) (k0_pay1 (iblk m c 0 s) (iblk m c 1 s) (iblk m c 2 s) (iblk m c 3 s))
      (k0_pay1 (iblk m c 0 t) (iblk m c 1 t) (iblk m c 2 t) (iblk m c 3 t)) (ix2 r k) : EReal) = ∑ p : Fin 2816, hidM m c (rowOf t r) k p := fun k => by
    refine Eq.trans ?_ (tiles m c t s hs ht r k)
    exact congrArg₂ (fun x y : EReal => x + y) (tile_value m c s r k) (tile_value m c t r k)
  simp only [hY, blk_4 m c t r, blk_5 m c t q, blk_6 m c t q]
  rfl

/-- What the first point of a block leaves in the scratch. -/
theorem scratch (c : Dev nD) (s : Fin cfg0.N) (hs : s.val % 2 = 0) :
    (outsAt0 m c s.val s.isLt).2.2 = k0_pay1 (iblk m c 0 s) (iblk m c 1 s) (iblk m c 2 s) (iblk m c 3 s) := by
  rw [outsAt0_A m c s hs (by omega) (by omega)]
  dsimp only
  rw [first_acc]

theorem emb_7 (t : Fin cfg0.N) (r : Fin 512) (q : Fin 1024) : ((cfg0.win 7).blk t).view.emb (ix2 r q) = ix2 (rowOf t r) q := by
  have e := (idx_facts t).2.2.2.2.2.2.2.1
  refine funext fun x => Fin.ext ?_
  match x with
  | 0 =>
    refine (Pipeline.Window.rect_emb_val win0_7 t _ 0).trans ?_
    show win0_7.index t (0 : Fin 2) * 512 + r.val = 512 * (t.val / 2) + r.val
    rw [e.1]; omega
  | 1 =>
    refine (Pipeline.Window.rect_emb_val win0_7 t _ 1).trans ?_
    show win0_7.index t (1 : Fin 2) * 1024 + q.val = q.val
    rw [e.2]; omega

theorem emb_8 (t : Fin cfg0.N) (r : Fin 512) (q : Fin 1024) : ((cfg0.win 8).blk t).view.emb (ix2 r q) = ix2 (rowOf t r) q := by
  have e := (idx_facts t).2.2.2.2.2.2.2.2
  refine funext fun x => Fin.ext ?_
  match x with
  | 0 =>
    refine (Pipeline.Window.rect_emb_val win0_8 t _ 0).trans ?_
    show win0_8.index t (0 : Fin 2) * 512 + r.val = 512 * (t.val / 2) + r.val
    rw [e.1]; omega
  | 1 =>
    refine (Pipeline.Window.rect_emb_val win0_8 t _ 1).trans ?_
    show win0_8.index t (1 : Fin 2) * 1024 + q.val = q.val
    rw [e.2]; omega

theorem place (j : S512x1024.Idx) : ∃ (r : Fin 512) (q : Fin 1024), j = ix2 r q := ⟨j 0, j 1, eq_ix2 j⟩

theorem total (i : S32768x1024.Idx) : ∃ (n : Fin 32768) (q : Fin 1024), i = ix2 n q := ⟨i 0, i 1, eq_ix2 i⟩

theorem every (n : Fin 32768) : ∃ (t : Fin cfg0.N) (r : Fin 512), t.val % 2 = 1 ∧ rowOf t r = n :=
  ⟨⟨2 * (n.val / 512) + 1, lt_of_lt_of_eq (show _ < 128 by omega) N_0.symm⟩, ⟨n.val % 512, by omega⟩, (show (2 * (n.val / 512) + 1) % 2 = 1 by omega),
    Fin.ext (show 512 * ((2 * (n.val / 512) + 1) / 2) + n.val % 512 = n.val by omega)⟩

theorem written_7 (c : Dev nD) (t : Fin cfg0.N) (hf : (cfg0.win 7).flush t = true) :
    (dats m 0 c).flushed 7 t = ((cfg0.win 7).blk t).view.read (Elt Ideal) (ffnM m c) := by
  have ht : t.val % 2 = 1 := (flush0_7 t).mp hf
  have h : t.val - 1 < cfg0.N := Nat.lt_of_le_of_lt (Nat.sub_le _ _) t.isLt
  rw [flushed7_B m c t (by omega) ht ht]
  funext j
  obtain ⟨r, q, rfl⟩ := place j
  rw [View.read_apply, emb_7]
  refine Eq.trans ?_ (block_value m c t ⟨t.val - 1, h⟩ (show t.val - 1 + 1 = t.val by omega) ht r q)
  rw [last_7, scratch m c ⟨t.val - 1, h⟩ (show (t.val - 1) % 2 = 0 by omega)]
  rfl

theorem array_7 (c : Dev nD) : (dats m 0 c).arrAt 7 cfg0.N = ffnM m c := by
  refine (dats m 0 c).arrAt_eq_of_cover 7 _ (fun t h => written_7 m c t h) fun i => ?_
  obtain ⟨n, q, rfl⟩ := total i
  obtain ⟨t, r, ht, rfl⟩ := every n
  refine ⟨t, (flush0_7 t).mpr ht, ?_⟩
  rw [← emb_7]
  exact ((cfg0.win 7).blk t).view.emb_mem_set _

theorem written_8 (c : Dev nD) (t : Fin cfg0.N) (hf : (cfg0.win 8).flush t = true) :
    (dats m 0 c).flushed 8 t = ((cfg0.win 8).blk t).view.read (Elt Ideal) (ffnM m c) := by
  have ht : t.val % 2 = 1 := (flush0_8 t).mp hf
  have h : t.val - 1 < cfg0.N := Nat.lt_of_le_of_lt (Nat.sub_le _ _) t.isLt
  rw [flushed8_B m c t (by omega) ht ht]
  funext j
  obtain ⟨r, q, rfl⟩ := place j
  rw [View.read_apply, emb_8]
  refine Eq.trans ?_ (block_value m c t ⟨t.val - 1, h⟩ (show t.val - 1 + 1 = t.val by omega) ht r q)
  rw [last_8, scratch m c ⟨t.val - 1, h⟩ (show (t.val - 1) % 2 = 0 by omega)]
  rfl

theorem array_8 (c : Dev nD) : (dats m 0 c).arrAt 8 cfg0.N = ffnM m c := by
  refine (dats m 0 c).arrAt_eq_of_cover 8 _ (fun t h => written_8 m c t h) fun i => ?_
  obtain ⟨n, q, rfl⟩ := total i
  obtain ⟨t, r, ht, rfl⟩ := every n
  refine ⟨t, (flush0_8 t).mpr ht, ?_⟩
  rw [← emb_8]
  exact ((cfg0.win 8).blk t).view.emb_mem_set _

section
open Cert.ReferenceFfnIdeal Cert.ReferenceFfnIdeal.Gen

/-- The reference's result is the same array. -/
theorem ref_array (x : FVec Ideal Cert.ReferenceFfnIdeal.S32768x1024 .bf16) (w1 w3 : FVec Ideal Cert.ReferenceFfnIdeal.S1024x2816 .bf16)
    (w2 : FVec Ideal Cert.ReferenceFfnIdeal.S2816x1024 .bf16) (h : FVec Ideal Cert.ReferenceFfnIdeal.S32768x1024 .f32)
    (g b : FVec Ideal Cert.ReferenceFfnIdeal.S1024 .f32) :
    refNorm (addf (mulf (broadcastInDim Cert.ReferenceFfnIdeal.S32768x1024 ![] Cert.ReferenceFfnIdeal.Gen.bcast_S_S32768x1024 (constant Cert.ReferenceFfnIdeal.S_ .f32 0x3FB504F3#32)) h) (refDense x w1 w3 w2)) g b
      = ffnArr x w1 w3 w2 h g b := by
  funext i
  obtain ⟨n, q, rfl⟩ := total i
  refine (refNorm_apply _ _ _ n q).trans ?_
  have hY : ∀ k : Fin 1024, refDense x w1 w3 w2 (ix2 n k) = ∑ p : Fin 2816, hidden x w1 w3 w2 n k p := fun k => refDense_apply x w1 w3 w2 n k
  show lnRow (fun k => Ideal.ofBits .f32 0x3FB504F3#32 * h (ix2 n k) + refDense x w1 w3 w2 (ix2 n k)) _ _ q = _
  simp only [hY]
  rfl

end

end Cert.Norm.Ffn
-- ==== Proof.lean ====
/- The claims of this certificate: the kernel's frames by the run of Proof/Frames.lean, its value by the run of Proof/Result.lean,
   the reference's by its generated run. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Residual
public import proofs.«01_k».proof.Proof.Gen.Residual.Frame
public import proofs.«01_k».proof.Proof.Gen.ResidualIdeal
public import proofs.«01_k».proof.Proof.Gen.ResidualIdeal.Frame
public import proofs.«01_k».proof.Proof.Gen.ResidualIdeal.Value
public import proofs.«01_k».proof.Proof.Gen.ReferenceResidualIdeal
public import proofs.«01_k».proof.Proof.Gen.ReferenceResidualIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.ReferenceFfnIdeal
public import proofs.«01_k».proof.Proof.Gen.ReferenceFfnIdeal.Run
public import proofs.«01_k».proof.Proof.FrameClaims
public import proofs.«01_k».proof.Proof.SameText
public import proofs.«01_k».proof.Proof.Precondition
public import proofs.«01_k».proof.Proof.RefValue
public import proofs.«01_k».proof.Proof.Result
public import proofs.«01_k».proof.Proof.ResidualValue
public import proofs.«01_k».proof.Proof.FfnValue
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m ρ _ => by
  rw [Cert.Moe.same_defs, Cert.Moe.same_main]
  exact (θ_run Cert.KernelIdeal.defs _ _).mono (fun _ h => h) (Cert.Moe.run_main (F := Bits) m ρ Cert.Moe.small_bits)

theorem frame_ideal : Cert.quiescent_KernelIdeal (hKernelIdeal := Cert.KernelIdeal.Gen.facts) :=
  fun m ρ _ => (θ_run Cert.KernelIdeal.defs _ _).mono (fun _ h => h) (Cert.Moe.run_main (F := Ideal) m ρ Cert.Moe.small_ideal)

theorem frame_reference : Cert.quiescent_ReferenceIdeal (hReferenceIdeal := Cert.ReferenceIdeal.Gen.facts) :=
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem arrays_eq (m : (ℓ : Loc Cert.KernelIdeal.nD Cert.KernelIdeal.τ Cert.KernelIdeal.sig) → Buf (Elt Ideal) ℓ) (c : Dev Cert.KernelIdeal.nD) :
    Cert.Moe.arrM m c = ⟨m ((c.tc : Thread Cert.KernelIdeal.nD Cert.KernelIdeal.τ).loc Cert.KernelIdeal.main_arg0),
      m ((c.tc : Thread Cert.KernelIdeal.nD Cert.KernelIdeal.τ).loc Cert.KernelIdeal.main_arg1),
      m ((c.tc : Thread Cert.KernelIdeal.nD Cert.KernelIdeal.τ).loc Cert.KernelIdeal.main_arg2),
      m ((c.tc : Thread Cert.KernelIdeal.nD Cert.KernelIdeal.τ).loc Cert.KernelIdeal.main_arg3),
      m ((c.tc : Thread Cert.KernelIdeal.nD Cert.KernelIdeal.τ).loc Cert.KernelIdeal.main_arg4)⟩ := by
  have h0 := Cert.KernelIdeal.Gen.V_main_arg0 m c
  have h1 := Cert.KernelIdeal.Gen.V_main_arg1 m c
  have h2 := Cert.KernelIdeal.Gen.V_main_arg2 m c
  have h3 := Cert.KernelIdeal.Gen.V_main_arg3 m c
  have h4 := Cert.KernelIdeal.Gen.V_main_arg4 m c
  unfold Cert.Moe.arrM
  rw [h0, h1, h2, h3, h4]

/-- From arrays as the precondition asks, the reference's result is the kernel's. -/
theorem values_eq (A : Cert.Moe.Arr) (hA : Cert.Moe.Tame A) (V0 : Valuation Cert.ReferenceIdeal.τ Cert.ReferenceIdeal.sig (Elt Ideal)) (h : Cert.Moe.arrR V0 = A) :
    (Cert.ReferenceIdeal.Value.res_main_v145 V0 : Vec Ideal Cert.ReferenceIdeal.S32768x1024 .f32) = Cert.Moe.outArr A := by
  subst h
  funext i
  rw [← Cert.Moe.ix2_eta i]
  exact (Cert.Moe.ref_apply V0 (i 0) (i 1)).trans (Cert.Moe.row_eq hA (i 0) (i 1)).symm

theorem value : Cert.algebraic_KernelIdeal_ReferenceIdeal_pre_tame (hKernelIdeal := Cert.KernelIdeal.Gen.facts) (hReferenceIdeal := Cert.ReferenceIdeal.Gen.facts)
    (hPre_tame := Cert.Moe.tame_facts) := by
  intro m g m' g' hpre hargs
  have ht : ∀ c, Cert.Moe.Tame (Cert.Moe.arrM m c) := fun c => by
    rw [arrays_eq m c]
    exact @Cert.Moe.tame_of Cert.Moe.tame_facts _ (hpre c)
  refine ⟨fun c => Cert.Moe.outArr (Cert.Moe.arrM m c), ?_, ?_⟩
  · exact (θ_run Cert.KernelIdeal.defs _ _).mono (fun _ h => h) (Cert.Moe.run_value m g fun c => (ht c).reals)
  · refine (θ_run Cert.ReferenceIdeal.defs _ _).mono (fun r h c => ⟨(h c).1.trans ?_, (h c).2⟩) (Cert.ReferenceIdeal.Value.run (F := Ideal) m' g')
    refine values_eq _ (ht c) _ ?_
    obtain ⟨e0, e1, e2, e3, e4⟩ := hargs c
    refine Eq.trans ?_ (arrays_eq m c).symm
    exact Cert.Moe.arr_ext e0 e1 e2 e3 e4

theorem frame_residual : Cert.quiescent_Residual (hResidual := Cert.Residual.Gen.facts) := fun m ρ _ => Cert.Residual.Gen.frame m ρ

theorem frame_residual_ideal : Cert.quiescent_ResidualIdeal (hResidualIdeal := Cert.ResidualIdeal.Gen.facts) := fun m ρ _ => Cert.ResidualIdeal.Gen.frame m ρ

theorem frame_residual_reference : Cert.quiescent_ReferenceResidualIdeal (hReferenceResidualIdeal := Cert.ReferenceResidualIdeal.Gen.facts) :=
  fun m ρ _ => (θ_run Cert.ReferenceResidualIdeal.defs _ _).mono (fun r h => ⟨fun c => (h c).2.2, Idealize.ShloMosaic.sem_eq_zero_of_no_sems (by decide) r.2⟩)
    (Cert.ReferenceResidualIdeal.Value.run (F := Ideal) m ρ)

theorem value_residual : Cert.algebraic_ResidualIdeal_ReferenceResidualIdeal (hResidualIdeal := Cert.ResidualIdeal.Gen.facts)
    (hReferenceResidualIdeal := Cert.ReferenceResidualIdeal.Gen.facts) := by
  intro m g m' g' _ hargs
  refine ⟨fun c => Cert.Norm.Residual.resM m c, fun c => Cert.Norm.Residual.resM m c, ?_, ?_⟩
  · exact (θ_run Cert.ResidualIdeal.defs _ _).mono
      (fun _ h c => ⟨(h c).1.trans (Cert.Norm.Residual.array_4 m c), (h c).2.1.trans (Cert.Norm.Residual.array_5 m c), (h c).2.2⟩)
      (Cert.ResidualIdeal.Value.run_blocks (F := Ideal) m g)
  · refine (θ_run Cert.ReferenceResidualIdeal.defs _ _).mono (fun r h c => ?_) (Cert.ReferenceResidualIdeal.Value.run (F := Ideal) m' g')
    obtain ⟨e0, e1, e2, e3⟩ := hargs c
    have hr := Cert.Norm.Residual.ref_array
      (m' ((c.tc : Thread Cert.ReferenceResidualIdeal.nD Cert.ReferenceResidualIdeal.τ).loc Cert.ReferenceResidualIdeal.main_arg0))
      (m' ((c.tc : Thread Cert.ReferenceResidualIdeal.nD Cert.ReferenceResidualIdeal.τ).loc Cert.ReferenceResidualIdeal.main_arg1))
      (m' ((c.tc : Thread Cert.ReferenceResidualIdeal.nD Cert.ReferenceResidualIdeal.τ).loc Cert.ReferenceResidualIdeal.main_arg2))
      (m' ((c.tc : Thread Cert.ReferenceResidualIdeal.nD Cert.ReferenceResidualIdeal.τ).loc Cert.ReferenceResidualIdeal.main_arg3))
    rw [e0, e1, e2, e3] at hr
    obtain ⟨h0, h1, h2⟩ := h c
    rw [e0, e1, e2, e3] at h0 h1
    exact ⟨h0.trans hr, h1.trans hr, h2⟩

theorem frame_ffn : Cert.quiescent_Ffn (hFfn := Cert.Ffn.Gen.facts) := fun m ρ _ => Cert.Ffn.Gen.frame m ρ

theorem frame_ffn_ideal : Cert.quiescent_FfnIdeal (hFfnIdeal := Cert.FfnIdeal.Gen.facts) := fun m ρ _ => Cert.FfnIdeal.Gen.frame m ρ

theorem frame_ffn_reference : Cert.quiescent_ReferenceFfnIdeal (hReferenceFfnIdeal := Cert.ReferenceFfnIdeal.Gen.facts) :=
  fun m ρ _ => (θ_run Cert.ReferenceFfnIdeal.defs _ _).mono (fun r h => ⟨fun c => (h c).2.2, Idealize.ShloMosaic.sem_eq_zero_of_no_sems (by decide) r.2⟩)
    (Cert.ReferenceFfnIdeal.Value.run (F := Ideal) m ρ)

theorem value_ffn : Cert.algebraic_FfnIdeal_ReferenceFfnIdeal (hFfnIdeal := Cert.FfnIdeal.Gen.facts)
    (hReferenceFfnIdeal := Cert.ReferenceFfnIdeal.Gen.facts) := by
  intro m g m' g' _ hargs
  refine ⟨fun c => Cert.Norm.Ffn.ffnM m c, fun c => Cert.Norm.Ffn.ffnM m c, ?_, ?_⟩
  · exact (θ_run Cert.FfnIdeal.defs _ _).mono
      (fun _ h c => ⟨(h c).1.trans (Cert.Norm.Ffn.array_7 m c), (h c).2.1.trans (Cert.Norm.Ffn.array_8 m c), (h c).2.2⟩)
      (Cert.FfnIdeal.Value.run_blocks (F := Ideal) m g)
  · refine (θ_run Cert.ReferenceFfnIdeal.defs _ _).mono (fun r h c => ?_) (Cert.ReferenceFfnIdeal.Value.run (F := Ideal) m' g')
    obtain ⟨e0, e1, e2, e3, e4, e5, e6⟩ := hargs c
    have hr := Cert.Norm.Ffn.ref_array
      (m' ((c.tc : Thread Cert.ReferenceFfnIdeal.nD Cert.ReferenceFfnIdeal.τ).loc Cert.ReferenceFfnIdeal.main_arg0))
      (m' ((c.tc : Thread Cert.ReferenceFfnIdeal.nD Cert.ReferenceFfnIdeal.τ).loc Cert.ReferenceFfnIdeal.main_arg1))
      (m' ((c.tc : Thread Cert.ReferenceFfnIdeal.nD Cert.ReferenceFfnIdeal.τ).loc Cert.ReferenceFfnIdeal.main_arg2))
      (m' ((c.tc : Thread Cert.ReferenceFfnIdeal.nD Cert.ReferenceFfnIdeal.τ).loc Cert.ReferenceFfnIdeal.main_arg3))
      (m' ((c.tc : Thread Cert.ReferenceFfnIdeal.nD Cert.ReferenceFfnIdeal.τ).loc Cert.ReferenceFfnIdeal.main_arg4))
      (m' ((c.tc : Thread Cert.ReferenceFfnIdeal.nD Cert.ReferenceFfnIdeal.τ).loc Cert.ReferenceFfnIdeal.main_arg5))
      (m' ((c.tc : Thread Cert.ReferenceFfnIdeal.nD Cert.ReferenceFfnIdeal.τ).loc Cert.ReferenceFfnIdeal.main_arg6))
    obtain ⟨h0, h1, h2⟩ := h c
    have hm : Cert.Norm.Ffn.ffnArr
      (m' ((c.tc : Thread Cert.ReferenceFfnIdeal.nD Cert.ReferenceFfnIdeal.τ).loc Cert.ReferenceFfnIdeal.main_arg0))
      (m' ((c.tc : Thread Cert.ReferenceFfnIdeal.nD Cert.ReferenceFfnIdeal.τ).loc Cert.ReferenceFfnIdeal.main_arg1))
      (m' ((c.tc : Thread Cert.ReferenceFfnIdeal.nD Cert.ReferenceFfnIdeal.τ).loc Cert.ReferenceFfnIdeal.main_arg2))
      (m' ((c.tc : Thread Cert.ReferenceFfnIdeal.nD Cert.ReferenceFfnIdeal.τ).loc Cert.ReferenceFfnIdeal.main_arg3))
      (m' ((c.tc : Thread Cert.ReferenceFfnIdeal.nD Cert.ReferenceFfnIdeal.τ).loc Cert.ReferenceFfnIdeal.main_arg4))
      (m' ((c.tc : Thread Cert.ReferenceFfnIdeal.nD Cert.ReferenceFfnIdeal.τ).loc Cert.ReferenceFfnIdeal.main_arg5))
      (m' ((c.tc : Thread Cert.ReferenceFfnIdeal.nD Cert.ReferenceFfnIdeal.τ).loc Cert.ReferenceFfnIdeal.main_arg6))
      = Cert.Norm.Ffn.ffnM m c := by rw [e0, e1, e2, e3, e4, e5, e6]
    exact ⟨h0.trans (hr.trans hm), h1.trans (hr.trans hm), h2⟩

theorem claim : Cert.Claim := ⟨Cert.Kernel.Gen.facts, Cert.KernelIdeal.Gen.facts, Cert.ReferenceIdeal.Gen.facts, Cert.Residual.Gen.facts,
  Cert.ResidualIdeal.Gen.facts, Cert.ReferenceResidualIdeal.Gen.facts, Cert.Ffn.Gen.facts, Cert.FfnIdeal.Gen.facts,
  Cert.ReferenceFfnIdeal.Gen.facts, Cert.Moe.tame_facts,
  frame_kernel, frame_ideal, fun m ρ _ => frame_ideal m ρ trivial, frame_reference, fun m ρ _ => frame_reference m ρ trivial,
  frame_residual, frame_residual_ideal, frame_residual_reference, frame_ffn, frame_ffn_ideal, frame_ffn_reference,
  trivial, value, trivial, value_residual, trivial, value_ffn⟩

end Cert.Proof

end
